-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).1 = (fun _ => 1#1)
    ∧ (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).1 = (fun _ => 1#1)
    ∧ (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).1 = (fun _ => 1#1)
    ∧ (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8)) (m ((c.tc : Thread Cert.Kernel5Ideal.nD Cert.Kernel5Ideal.τ).loc Cert.Kernel5Ideal.main_arg9)) (m ((c.tc : Thread Cert.Kernel5Ideal.nD Cert.Kernel5Ideal.τ).loc Cert.Kernel5Ideal.main_arg10))).2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).1 = (fun _ => 1#1)
    ∧ (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8)) (m ((c.tc : Thread Cert.Reference5Ideal.nD Cert.Reference5Ideal.τ).loc Cert.Reference5Ideal.main_arg9)) (m ((c.tc : Thread Cert.Reference5Ideal.nD Cert.Reference5Ideal.τ).loc Cert.Reference5Ideal.main_arg10))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v26)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v26) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v19) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)) →
    ∃ (v0 : (c : Dev Cert.Kernel5Ideal.nD) → Buf (Elt Ideal) ((c.tc : Thread Cert.Kernel5Ideal.nD Cert.Kernel5Ideal.τ).loc Cert.Kernel5Ideal.main_v70_3)) (v1 : (c : Dev Cert.Kernel5Ideal.nD) → Buf (Elt Ideal) ((c.tc : Thread Cert.Kernel5Ideal.nD Cert.Kernel5Ideal.τ).loc Cert.Kernel5Ideal.main_v70_8)) (v2 : (c : Dev Cert.Kernel5Ideal.nD) → Buf (Elt Ideal) ((c.tc : Thread Cert.Kernel5Ideal.nD Cert.Kernel5Ideal.τ).loc Cert.Kernel5Ideal.main_v70_9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v70_3) = v0 c
          ∧ r.2.mem ((c.tc : Thread Cert.Kernel5Ideal.nD Cert.Kernel5Ideal.τ).loc Cert.Kernel5Ideal.main_v70_8) = v1 c
          ∧ r.2.mem ((c.tc : Thread Cert.Kernel5Ideal.nD Cert.Kernel5Ideal.τ).loc Cert.Kernel5Ideal.main_v70_9) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_v32) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts) (hPre_finite3 : Cert.Pre_finite3.Facts) (hPre_finite5 : Cert.Pre_finite5.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
-- ==== Pre_finite.lean ====
abbrev S8x4096x8x128 : Shape := ⟨4, ![8, 4096, 8, 128]⟩
abbrev S8x4096x8x64 : Shape := ⟨4, ![8, 4096, 8, 64]⟩
abbrev S8x4096x64 : Shape := ⟨3, ![8, 4096, 64]⟩
abbrev S_ : Shape := ⟨0, ![]⟩

class Facts : Prop where
  bcast_S_S8x4096x8x128 : S_.BroadcastsInDim S8x4096x8x128 (![] : Fin 0 → Fin S8x4096x8x128.rank)
  bcast_S_S8x4096x8x64 : S_.BroadcastsInDim S8x4096x8x64 (![] : Fin 0 → Fin S8x4096x8x64.rank)
  bcast_S_S8x4096x64 : S_.BroadcastsInDim S8x4096x64 (![] : Fin 0 → Fin S8x4096x64.rank)

variable [Facts]

def fn {F : FTy → Type} [FloatOps F] (main_arg0 : FVec F S8x4096x8x128 .f32) (main_arg1 : FVec F S8x4096x8x64 .f32) (main_arg2 : FVec F S8x4096x8x128 .f32) (main_arg3 : FVec F S8x4096x64 .f32) (main_arg4 : FVec F S8x4096x8x128 .f32) : IVec S8x4096x8x128 1 × IVec S8x4096x8x64 1 × IVec S8x4096x8x128 1 × IVec S8x4096x64 1 :=
  let main_v0 : FVec F S8x4096x8x128 .f32 := Host.absf main_arg0
  let main_cst : FVec F S_ .f32 := constant S_ .f32 0x7F800000#32
  let main_v1 : FVec F S8x4096x8x128 .f32 := broadcastInDim S8x4096x8x128 ![] bcast_S_S8x4096x8x128 main_cst
  let main_v2 : IVec S8x4096x8x128 1 := cmpf .olt main_v0 main_v1
  let main_v3 : FVec F S8x4096x8x64 .f32 := Host.absf main_arg1
  let main_cst_0 : FVec F S_ .f32 := constant S_ .f32 0x7F800000#32
  let main_v4 : FVec F S8x4096x8x64 .f32 := broadcastInDim S8x4096x8x64 ![] bcast_S_S8x4096x8x64 main_cst_0
  let main_v5 : IVec S8x4096x8x64 1 := cmpf .olt main_v3 main_v4
  let main_v6 : FVec F S8x4096x8x128 .f32 := Host.absf main_arg2
  let main_cst_1 : FVec F S_ .f32 := constant S_ .f32 0x7F800000#32
  let main_v7 : FVec F S8x4096x8x128 .f32 := broadcastInDim S8x4096x8x128 ![] bcast_S_S8x4096x8x128 main_cst_1
  let main_v8 : IVec S8x4096x8x128 1 := cmpf .olt main_v6 main_v7
  let main_v9 : FVec F S8x4096x64 .f32 := Host.absf main_arg3
  let main_cst_2 : FVec F S_ .f32 := constant S_ .f32 0x7F800000#32
  let main_v10 : FVec F S8x4096x64 .f32 := broadcastInDim S8x4096x64 ![] bcast_S_S8x4096x64 main_cst_2
  let main_v11 : IVec S8x4096x64 1 := cmpf .olt main_v9 main_v10
  (main_v2, main_v5, main_v8, main_v11)
-- ==== Pre_finite2.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  bcast_S_S1024x2816 : S_.BroadcastsInDim S1024x2816 (![] : Fin 0 → Fin S1024x2816.rank)

variable [Facts]

def fn {F : FTy → Type} [FloatOps F] (main_arg0 : FVec F S8x4096x1024 .f32) (main_arg1 : FVec F S1024 .f32) (main_arg2 : FVec F S1024x2816 .f32) (main_arg3 : FVec F S1024x2816 .f32) (main_arg4 : FVec F S2816x1024 .f32) (main_arg5 : FVec F S1024 .f32) : IVec S1024 1 × IVec S1024x2816 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x2816 .f32 := Host.absf main_arg2
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  (main_v2, main_v5)
-- ==== Pre_finite3.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  bcast_S_S1024x2816 : S_.BroadcastsInDim S1024x2816 (![] : Fin 0 → Fin S1024x2816.rank)

variable [Facts]

def fn {F : FTy → Type} [FloatOps F] (main_arg0 : FVec F S8x4096x1024 .f32) (main_arg1 : FVec F S1024 .f32) (main_arg2 : FVec F S1024x2816 .f32) (main_arg3 : FVec F S1024x2816 .f32) (main_arg4 : FVec F S2816x1024 .f32) : IVec S1024 1 × IVec S1024x2816 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x2816 .f32 := Host.absf main_arg2
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  (main_v2, main_v5)
-- ==== Pre_finite5.lean ====
abbrev S8x4096x1024 : Shape := ⟨3, ![8, 4096, 1024]⟩
abbrev S8x4096 : Shape := ⟨2, ![8, 4096]⟩
abbrev S1024 : Shape := ⟨1, ![1024]⟩
abbrev S1024x6864 : Shape := ⟨2, ![1024, 6864]⟩
abbrev S4x3072 : Shape := ⟨2, ![4, 3072]⟩
abbrev S8 : Shape := ⟨1, ![8]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S1024x1024 : Shape := ⟨2, ![1024, 1024]⟩
abbrev S_ : Shape := ⟨0, ![]⟩

class Facts : Prop where
  slices_S1024x6864_S1024x1024_0_3072 : S1024x6864.Slices ![0, 3072] S1024x1024
  bcast_S_S1024 : S_.BroadcastsInDim S1024 (![] : Fin 0 → Fin S1024.rank)
  bcast_S_S1024x1024 : S_.BroadcastsInDim S1024x1024 (![] : Fin 0 → Fin S1024x1024.rank)

variable [Facts]

def fn {F : FTy → Type} [FloatOps F] (main_arg0 : FVec F S8x4096x1024 .f32) (main_arg1 : IVec S8x4096 32) (main_arg2 : FVec F S1024 .f32) (main_arg3 : FVec F S1024x6864 .f32) (main_arg4 : FVec F S4x3072 .f32) (main_arg5 : FVec F S8 .f32) (main_arg6 : FVec F S8 .f32) (main_arg7 : FVec F S384 .f32) (main_arg8 : FVec F S384x1536 .f32) (main_arg9 : FVec F S256 .f32) (main_arg10 : FVec F S256x2048 .f32) : IVec S1024 1 × IVec S1024x1024 1 :=
  let main_v0 : FVec F S1024x1024 .f32 := (extractStridedSlice S1024x1024 ![0, 3072] · slices_S1024x6864_S1024x1024_0_3072) main_arg3
  let main_v1 : FVec F S1024 .f32 := Host.absf main_arg2
  let main_cst : FVec F S_ .f32 := constant S_ .f32 0x7F800000#32
  let main_v2 : FVec F S1024 .f32 := broadcastInDim S1024 ![] bcast_S_S1024 main_cst
  let main_v3 : IVec S1024 1 := cmpf .olt main_v1 main_v2
  let main_v4 : FVec F S1024x1024 .f32 := Host.absf main_v0
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  (main_v3, main_v6)
-- ==== Kernel.lean ====
abbrev S8x4096x8x128 : Shape := ⟨4, ![8, 4096, 8, 128]⟩
abbrev S8x4096x8x64 : Shape := ⟨4, ![8, 4096, 8, 64]⟩
abbrev S8x4096x64 : Shape := ⟨3, ![8, 4096, 64]⟩
abbrev S_ : Shape := ⟨0, ![]⟩
abbrev S8x4096x8x192 : Shape := ⟨4, ![8, 4096, 8, 192]⟩
abbrev S8x8x4096x192 : Shape := ⟨4, ![8, 8, 4096, 192]⟩
abbrev S8x4096x1x64 : Shape := ⟨4, ![8, 4096, 1, 64]⟩
abbrev S8x8x4096x128 : Shape := ⟨4, ![8, 8, 4096, 128]⟩
abbrev S8x4096x1024 : Shape := ⟨3, ![8, 4096, 1024]⟩
abbrev S1x1x4096x192 : Shape := ⟨4, ![1, 1, 4096, 192]⟩
abbrev S1x1x4096x128 : Shape := ⟨4, ![1, 1, 4096, 128]⟩
abbrev S1x4096x128 : Shape := ⟨3, ![1, 4096, 128]⟩
abbrev S512x512 : Shape := ⟨2, ![512, 512]⟩
abbrev S512x128 : Shape := ⟨2, ![512, 128]⟩
abbrev S1x1x512x192 : Shape := ⟨4, ![1, 1, 512, 192]⟩
abbrev S512x192 : Shape := ⟨2, ![512, 192]⟩
abbrev S512 : Shape := ⟨1, ![512]⟩
abbrev S512x1 : Shape := ⟨2, ![512, 1]⟩
abbrev S1x1x512x128 : Shape := ⟨4, ![1, 1, 512, 128]⟩
abbrev S1x512x128 : Shape := ⟨3, ![1, 512, 128]⟩

abbrev nBuf : Space → Nat
  | .hbm => 24
  | .vmem => 15
  | .smem => 0
  | _ => 0

abbrev bufTy : (tb : Table) → Fin (tcTables nBuf tb) → BufTy
  | .hbm, ⟨0, _⟩ => ⟨S8x4096x8x128, .f32⟩
  | .hbm, ⟨1, _⟩ => ⟨S8x4096x8x64, .f32⟩
  | .hbm, ⟨2, _⟩ => ⟨S8x4096x8x128, .f32⟩
  | .hbm, ⟨3, _⟩ => ⟨S8x4096x64, .f32⟩
  | .hbm, ⟨4, _⟩ => ⟨S8x4096x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x4096x8x128, .f32⟩
  | .hbm, ⟨10, _⟩ => ⟨S8x4096x8x128, .f32⟩
  | .hbm, ⟨11, _⟩ => ⟨S8x4096x8x64, .f32⟩
  | .hbm, ⟨12, _⟩ => ⟨S8x4096x8x64, .f32⟩
  | .hbm, ⟨13, _⟩ => ⟨S8x4096x8x192, .f32⟩
  | .hbm, ⟨14, _⟩ => ⟨S8x4096x8x192, .bf16⟩
  | .hbm, ⟨15, _⟩ => ⟨S8x8x4096x192, .bf16⟩
  | .hbm, ⟨16, _⟩ => ⟨S8x4096x1x64, .f32⟩
  | .hbm, ⟨17, _⟩ => ⟨S8x4096x8x64, .f32⟩
  | .hbm, ⟨18, _⟩ => ⟨S8x4096x8x192, .f32⟩
  | .hbm, ⟨19, _⟩ => ⟨S8x4096x8x192, .bf16⟩
  | .hbm, ⟨20, _⟩ => ⟨S8x8x4096x192, .bf16⟩
  | .hbm, ⟨21, _⟩ => ⟨S8x4096x8x128, .bf16⟩
  | .hbm, ⟨22, _⟩ => ⟨S8x8x4096x128, .bf16⟩
  | .hbm, ⟨23, _⟩ => ⟨S8x4096x1024, .bf16⟩
  | .local _ .vmem, ⟨0, _⟩ => ⟨S1x1x4096x192, .bf16⟩
  | .local _ .vmem, ⟨1, _⟩ => ⟨S1x1x4096x192, .bf16⟩
  | .local _ .vmem, ⟨2, _⟩ => ⟨S1x1x4096x192, .bf16⟩
  | .local _ .vmem, ⟨3, _⟩ => ⟨S1x1x4096x192, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S512x512, .f32⟩
  | .local _ .vmem, ⟨9, _⟩ => ⟨S512x512, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | _, _ => ⟨S8x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x4096x192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096x192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x4096x8x128 : Shape := ⟨4, ![8, 4096, 8, 128]⟩
abbrev S8x4096x8x64 : Shape := ⟨4, ![8, 4096, 8, 64]⟩
abbrev S8x4096x64 : Shape := ⟨3, ![8, 4096, 64]⟩
abbrev S8x8x4096x4096 : Shape := ⟨4, ![8, 8, 4096, 4096]⟩
abbrev S8x4096x4096x8 : Shape := ⟨4, ![8, 4096, 4096, 8]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x8x4096 : Shape := ⟨3, ![8, 8, 4096]⟩
abbrev S8x8x4096x1 : Shape := ⟨4, ![8, 8, 4096, 1]⟩
abbrev S8x8x128x4096 : Shape := ⟨4, ![8, 8, 128, 4096]⟩
abbrev S8x4096x1024 : Shape := ⟨3, ![8, 4096, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x4096x8x128, .f32⟩
  | .hbm, ⟨1, _⟩ => ⟨S8x4096x8x64, .f32⟩
  | .hbm, ⟨2, _⟩ => ⟨S8x4096x8x128, .f32⟩
  | .hbm, ⟨3, _⟩ => ⟨S8x4096x64, .f32⟩
  | .hbm, ⟨4, _⟩ => ⟨S8x4096x8x128, .f32⟩
  | .hbm, ⟨5, _⟩ => ⟨S8x8x4096x4096, .f32⟩
  | .hbm, ⟨6, _⟩ => ⟨S8x4096x4096x8, .f32⟩
  | .hbm, ⟨7, _⟩ => ⟨S8x8x4096x4096, .f32⟩
  | .hbm, ⟨8, _⟩ => ⟨S8x8x4096x4096, .f32⟩
  | .hbm, ⟨9, _⟩ => ⟨S_, .f32⟩
  | .hbm, ⟨10, _⟩ => ⟨S8x8x4096x4096, .f32⟩
  | .hbm, ⟨11, _⟩ => ⟨S8x8x4096x4096, .f32⟩
  | .hbm, ⟨12, _⟩ => ⟨S4096, .i32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S_, .f32⟩
  | .hbm, ⟨19, _⟩ => ⟨S_, .f32⟩
  | .hbm, ⟨20, _⟩ => ⟨S8x8x4096x4096, .i1⟩
  | .hbm, ⟨21, _⟩ => ⟨S8x8x4096x4096, .f32⟩
  | .hbm, ⟨22, _⟩ => ⟨S8x8x4096x4096, .f32⟩
  | .hbm, ⟨23, _⟩ => ⟨S_, .f32⟩
  | .hbm, ⟨24, _⟩ => ⟨S8x8x4096, .f32⟩
  | .hbm, ⟨25, _⟩ => ⟨S_, .f32⟩
  | .hbm, ⟨26, _⟩ => ⟨S8x8x4096, .f32⟩
  | .hbm, ⟨27, _⟩ => ⟨S8x8x4096, .f32⟩
  | .hbm, ⟨28, _⟩ => ⟨S8x8x4096x1, .f32⟩
  | .hbm, ⟨29, _⟩ => ⟨S8x8x4096x4096, .f32⟩
  | .hbm, ⟨30, _⟩ => ⟨S8x8x4096x4096, .f32⟩
  | .hbm, ⟨31, _⟩ => ⟨S8x8x4096x4096, .f32⟩
  | .hbm, ⟨32, _⟩ => ⟨S_, .f32⟩
  | .hbm, ⟨33, _⟩ => ⟨S8x8x4096, .f32⟩
  | .hbm, ⟨34, _⟩ => ⟨S8x8x4096x1, .f32⟩
  | .hbm, ⟨35, _⟩ => ⟨S8x8x4096x4096, .f32⟩
  | .hbm, ⟨36, _⟩ => ⟨S8x8x4096x4096, .f32⟩
  | .hbm, ⟨37, _⟩ => ⟨S8x8x128x4096, .f32⟩
  | .hbm, ⟨38, _⟩ => ⟨S8x4096x8x128, .f32⟩
  | .hbm, ⟨39, _⟩ => ⟨S8x4096x1024, .f32⟩
  | .hbm, ⟨40, _⟩ => ⟨S8x4096x1024, .bf16⟩
  | _, _ => ⟨S8x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Kernel2.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 13
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S32768x1024, .f32⟩
  | .hbm, ⟨7, _⟩ => ⟨S1x1024, .f32⟩
  | .hbm, ⟨8, _⟩ => ⟨S1024x2816, .bf16⟩
  | .hbm, ⟨9, _⟩ => ⟨S1024x2816, .bf16⟩
  | .hbm, ⟨10, _⟩ => ⟨S2816x1024, .bf16⟩
  | .hbm, ⟨11, _⟩ => ⟨S1x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S32768x1024 : Shape := ⟨2, ![32768, 1024]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S8x4096x2816, .f32⟩
  | .hbm, ⟨23, _⟩ => ⟨S8x4096x2816, .f32⟩
  | .hbm, ⟨24, _⟩ => ⟨S8x4096x2816, .f32⟩
  | .hbm, ⟨25, _⟩ => ⟨S_, .f32⟩
  | .hbm, ⟨26, _⟩ => ⟨S8x4096x2816, .f32⟩
  | .hbm, ⟨27, _⟩ => ⟨S8x4096x2816, .f32⟩
  | .hbm, ⟨28, _⟩ => ⟨S_, .f32⟩
  | .hbm, ⟨29, _⟩ => ⟨S8x4096x2816, .f32⟩
  | .hbm, ⟨30, _⟩ => ⟨S8x4096x2816, .f32⟩
  | .hbm, ⟨31, _⟩ => ⟨S8x4096x2816, .f32⟩
  | .hbm, ⟨32, _⟩ => ⟨S8x4096x2816, .f32⟩
  | .hbm, ⟨33, _⟩ => ⟨S8x4096x2816, .f32⟩
  | .hbm, ⟨34, _⟩ => ⟨S8x4096x1024, .f32⟩
  | .hbm, ⟨35, _⟩ => ⟨S_, .f32⟩
  | .hbm, ⟨36, _⟩ => ⟨S8x4096x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x4096, .f32⟩
  | .hbm, ⟨42, _⟩ => ⟨S8x4096x1, .f32⟩
  | .hbm, ⟨43, _⟩ => ⟨S_, .f32⟩
  | .hbm, ⟨44, _⟩ => ⟨S8x4096x1, .f32⟩
  | .hbm, ⟨45, _⟩ => ⟨S8x4096x1, .f32⟩
  | .hbm, ⟨46, _⟩ => ⟨S_, .f32⟩
  | .hbm, ⟨47, _⟩ => ⟨S8x4096x1, .f32⟩
  | .hbm, ⟨48, _⟩ => ⟨S8x4096x1, .f32⟩
  | .hbm, ⟨49, _⟩ => ⟨S8x4096x1, .f32⟩
  | .hbm, ⟨50, _⟩ => ⟨S8x4096x1024, .f32⟩
  | .hbm, ⟨51, _⟩ => ⟨S8x4096x1024, .f32⟩
  | .hbm, ⟨52, _⟩ => ⟨S1x1x1024, .f32⟩
  | .hbm, ⟨53, _⟩ => ⟨S8x4096x1024, .f32⟩
  | .hbm, ⟨54, _⟩ => ⟨S8x4096x1024, .f32⟩
  | .hbm, ⟨55, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_cst_5 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Kernel3.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S1x1024 : Shape := ⟨2, ![1, 1024]⟩
abbrev S32768x1024 : Shape := ⟨2, ![32768, 1024]⟩
abbrev S512x1024 : Shape := ⟨2, ![512, 1024]⟩
abbrev S512 : Shape := ⟨1, ![512]⟩
abbrev S512x1 : Shape := ⟨2, ![512, 1]⟩
abbrev S512x2816 : Shape := ⟨2, ![512, 2816]⟩

abbrev nBuf : Space → Nat
  | .hbm => 13
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S_, .f32⟩
  | .hbm, ⟨6, _⟩ => ⟨S1x1024, .f32⟩
  | .hbm, ⟨7, _⟩ => ⟨S32768x1024, .f32⟩
  | .hbm, ⟨8, _⟩ => ⟨S1x1024, .f32⟩
  | .hbm, ⟨9, _⟩ => ⟨S1024x2816, .bf16⟩
  | .hbm, ⟨10, _⟩ => ⟨S1024x2816, .bf16⟩
  | .hbm, ⟨11, _⟩ => ⟨S2816x1024, .bf16⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8x4096x1024 : Shape := ⟨3, ![8, 4096, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S32768x1024 : Shape := ⟨2, ![32768, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8x4096x1024, .f32⟩
  | .hbm, ⟨6, _⟩ => ⟨S_, .f32⟩
  | .hbm, ⟨7, _⟩ => ⟨S8x4096, .f32⟩
  | .hbm, ⟨8, _⟩ => ⟨S8x4096x1, .f32⟩
  | .hbm, ⟨9, _⟩ => ⟨S_, .f32⟩
  | .hbm, ⟨10, _⟩ => ⟨S8x4096x1, .f32⟩
  | .hbm, ⟨11, _⟩ => ⟨S8x4096x1, .f32⟩
  | .hbm, ⟨12, _⟩ => ⟨S_, .f32⟩
  | .hbm, ⟨13, _⟩ => ⟨S8x4096x1, .f32⟩
  | .hbm, ⟨14, _⟩ => ⟨S8x4096x1, .f32⟩
  | .hbm, ⟨15, _⟩ => ⟨S8x4096x1, .f32⟩
  | .hbm, ⟨16, _⟩ => ⟨S8x4096x1024, .f32⟩
  | .hbm, ⟨17, _⟩ => ⟨S8x4096x1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x2816, .f32⟩
  | .hbm, ⟨22, _⟩ => ⟨S8x4096x2816, .f32⟩
  | .hbm, ⟨23, _⟩ => ⟨S8x4096x2816, .f32⟩
  | .hbm, ⟨24, _⟩ => ⟨S_, .f32⟩
  | .hbm, ⟨25, _⟩ => ⟨S8x4096x2816, .f32⟩
  | .hbm, ⟨26, _⟩ => ⟨S8x4096x2816, .f32⟩
  | .hbm, ⟨27, _⟩ => ⟨S_, .f32⟩
  | .hbm, ⟨28, _⟩ => ⟨S8x4096x2816, .f32⟩
  | .hbm, ⟨29, _⟩ => ⟨S8x4096x2816, .f32⟩
  | .hbm, ⟨30, _⟩ => ⟨S8x4096x2816, .f32⟩
  | .hbm, ⟨31, _⟩ => ⟨S8x4096x2816, .f32⟩
  | .hbm, ⟨32, _⟩ => ⟨S8x4096x2816, .f32⟩
  | .hbm, ⟨33, _⟩ => ⟨S8x4096x1024, .f32⟩
  | .hbm, ⟨34, _⟩ => ⟨S_, .f32⟩
  | .hbm, ⟨35, _⟩ => ⟨S8x4096x1024, .f32⟩
  | .hbm, ⟨36, _⟩ => ⟨S8x4096x1024, .f32⟩
  | .hbm, ⟨37, _⟩ => ⟨S8x4096x1024, .f32⟩
  | .hbm, ⟨38, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Kernel4.lean ====
abbrev S8x4096x1024 : Shape := ⟨3, ![8, 4096, 1024]⟩
abbrev S1024x1024 : Shape := ⟨2, ![1024, 1024]⟩
abbrev S_ : Shape := ⟨0, ![]⟩
abbrev S32768x1024 : Shape := ⟨2, ![32768, 1024]⟩
abbrev S512x1024 : Shape := ⟨2, ![512, 1024]⟩

abbrev nBuf : Space → Nat
  | .hbm => 41
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x4096x1024, .f32⟩
  | .hbm, ⟨4, _⟩ => ⟨S8x4096x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S_, .f32⟩
  | .hbm, ⟨13, _⟩ => ⟨S8x4096x1024, .f32⟩
  | .hbm, ⟨14, _⟩ => ⟨S8x4096x1024, .f32⟩
  | .hbm, ⟨15, _⟩ => ⟨S_, .f32⟩
  | .hbm, ⟨16, _⟩ => ⟨S8x4096x1024, .f32⟩
  | .hbm, ⟨17, _⟩ => ⟨S8x4096x1024, .f32⟩
  | .hbm, ⟨18, _⟩ => ⟨S8x4096x1024, .bf16⟩
  | .hbm, ⟨19, _⟩ => ⟨S_, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S_, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x4096x1024, .f32⟩
  | .hbm, ⟨28, _⟩ => ⟨S8x4096x1024, .f32⟩
  | .hbm, ⟨29, _⟩ => ⟨S8x4096x1024, .bf16⟩
  | .hbm, ⟨30, _⟩ => ⟨S32768x1024, .f32⟩
  | .hbm, ⟨31, _⟩ => ⟨S8x4096x1024, .bf16⟩
  | .hbm, ⟨32, _⟩ => ⟨S32768x1024, .bf16⟩
  | .hbm, ⟨33, _⟩ => ⟨S8x4096x1024, .bf16⟩
  | .hbm, ⟨34, _⟩ => ⟨S32768x1024, .bf16⟩
  | .hbm, ⟨35, _⟩ => ⟨S32768x1024, .bf16⟩
  | .hbm, ⟨36, _⟩ => ⟨S32768x1024, .bf16⟩
  | .hbm, ⟨37, _⟩ => ⟨S1024x1024, .bf16⟩
  | .hbm, ⟨38, _⟩ => ⟨S1024x1024, .bf16⟩
  | .hbm, ⟨39, _⟩ => ⟨S1024x1024, .bf16⟩
  | .hbm, ⟨40, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S512x1024, .f32⟩
  | .local _ .vmem, ⟨14, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S8x4096x1024 : Shape := ⟨3, ![8, 4096, 1024]⟩
abbrev S1024x1024 : Shape := ⟨2, ![1024, 1024]⟩
abbrev S_ : Shape := ⟨0, ![]⟩
abbrev S32768x1024 : Shape := ⟨2, ![32768, 1024]⟩

abbrev nBuf : Space → Nat
  | .hbm => 32
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S8x4096x1024, .f32⟩
  | .hbm, ⟨4, _⟩ => ⟨S8x4096x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S8x4096x1024, .f32⟩
  | .hbm, ⟨9, _⟩ => ⟨S8x4096x1024, .f32⟩
  | .hbm, ⟨10, _⟩ => ⟨S8x4096x1024, .f32⟩
  | .hbm, ⟨11, _⟩ => ⟨S8x4096x1024, .f32⟩
  | .hbm, ⟨12, _⟩ => ⟨S_, .f32⟩
  | .hbm, ⟨13, _⟩ => ⟨S8x4096x1024, .f32⟩
  | .hbm, ⟨14, _⟩ => ⟨S8x4096x1024, .f32⟩
  | .hbm, ⟨15, _⟩ => ⟨S_, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S8x4096x1024, .f32⟩
  | .hbm, ⟨21, _⟩ => ⟨S_, .f32⟩
  | .hbm, ⟨22, _⟩ => ⟨S8x4096x1024, .f32⟩
  | .hbm, ⟨23, _⟩ => ⟨S8x4096x1024, .f32⟩
  | .hbm, ⟨24, _⟩ => ⟨S_, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩

abbrev nD : Nat := 1
abbrev τ : Topo := Topo.v7x

variable {F : FTy → Type} [FloatOps F]
-- ==== Kernel5.lean ====
abbrev S8x4096x1024 : Shape := ⟨3, ![8, 4096, 1024]⟩
abbrev S8x4096 : Shape := ⟨2, ![8, 4096]⟩
abbrev S1024 : Shape := ⟨1, ![1024]⟩
abbrev S1024x6864 : Shape := ⟨2, ![1024, 6864]⟩
abbrev S4x3072 : Shape := ⟨2, ![4, 3072]⟩
abbrev S8 : Shape := ⟨1, ![8]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S1024x1024 : Shape := ⟨2, ![1024, 1024]⟩
abbrev S1024x8 : Shape := ⟨2, ![1024, 8]⟩
abbrev S1024x384 : Shape := ⟨2, ![1024, 384]⟩
abbrev S1024x256 : Shape := ⟨2, ![1024, 256]⟩
abbrev S1024x64 : Shape := ⟨2, ![1024, 64]⟩
abbrev S1024x3072 : Shape := ⟨2, ![1024, 3072]⟩
abbrev S1024x16 : Shape := ⟨2, ![1024, 16]⟩
abbrev S1024x1x2x32 : Shape := ⟨4, ![1024, 1, 2, 32]⟩
abbrev S1024x1x1x32 : Shape := ⟨4, ![1024, 1, 1, 32]⟩
abbrev S1024x1x32 : Shape := ⟨3, ![1024, 1, 32]⟩
abbrev S1024x1x64 : Shape := ⟨3, ![1024, 1, 64]⟩
abbrev S1024x128 : Shape := ⟨2, ![1024, 128]⟩
abbrev S_ : Shape := ⟨0, ![]⟩
abbrev S16 : Shape := ⟨1, ![16]⟩
abbrev S1x16 : Shape := ⟨2, ![1, 16]⟩
abbrev S2x16 : Shape := ⟨2, ![2, 16]⟩
abbrev S384x8x192 : Shape := ⟨3, ![384, 8, 192]⟩
abbrev S384x8x128 : Shape := ⟨3, ![384, 8, 128]⟩
abbrev S384x1024 : Shape := ⟨2, ![384, 1024]⟩
abbrev S384x8x64 : Shape := ⟨3, ![384, 8, 64]⟩
abbrev S384x512 : Shape := ⟨2, ![384, 512]⟩
abbrev S384x8x2x32 : Shape := ⟨4, ![384, 8, 2, 32]⟩
abbrev S384x8x1x32 : Shape := ⟨4, ![384, 8, 1, 32]⟩
abbrev S384x8x32 : Shape := ⟨3, ![384, 8, 32]⟩
abbrev S256x8x256 : Shape := ⟨3, ![256, 8, 256]⟩
abbrev S256x8x128 : Shape := ⟨3, ![256, 8, 128]⟩
abbrev S256x1024 : Shape := ⟨2, ![256, 1024]⟩
abbrev S32 : Shape := ⟨1, ![32]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S1x1024 : Shape := ⟨2, ![1, 1024]⟩
abbrev S1x384 : Shape := ⟨2, ![1, 384]⟩
abbrev S1x256 : Shape := ⟨2, ![1, 256]⟩
abbrev S8x1x4096 : Shape := ⟨3, ![8, 1, 4096]⟩
abbrev S8x4096x16 : Shape := ⟨3, ![8, 4096, 16]⟩
abbrev S8x8x4096x192 : Shape := ⟨4, ![8, 8, 4096, 192]⟩
abbrev S8x8x4096x128 : Shape := ⟨4, ![8, 8, 4096, 128]⟩
abbrev S1x1x256 : Shape := ⟨3, ![1, 1, 256]⟩
abbrev S1x256x1024 : Shape := ⟨3, ![1, 256, 1024]⟩
abbrev S1x256x16 : Shape := ⟨3, ![1, 256, 16]⟩
abbrev S1x8x256x192 : Shape := ⟨4, ![1, 8, 256, 192]⟩
abbrev S1x8x256x128 : Shape := ⟨4, ![1, 8, 256, 128]⟩
abbrev S264x3072 : Shape := ⟨2, ![264, 3072]⟩
abbrev S256x1 : Shape := ⟨2, ![256, 1]⟩
abbrev S8x3072 : Shape := ⟨2, ![8, 3072]⟩
abbrev S256x3072 : Shape := ⟨2, ![256, 3072]⟩
abbrev S264x128 : Shape := ⟨2, ![264, 128]⟩
abbrev S256x128 : Shape := ⟨2, ![256, 128]⟩
abbrev S1x256x128 : Shape := ⟨3, ![1, 256, 128]⟩
abbrev S256x16 : Shape := ⟨2, ![256, 16]⟩
abbrev S256x384 : Shape := ⟨2, ![256, 384]⟩
abbrev S256x256 : Shape := ⟨2, ![256, 256]⟩
abbrev S128x256 : Shape := ⟨2, ![128, 256]⟩
abbrev S256x512 : Shape := ⟨2, ![256, 512]⟩
abbrev S256x64 : Shape := ⟨2, ![256, 64]⟩
abbrev S1x1x256x128 : Shape := ⟨4, ![1, 1, 256, 128]⟩
abbrev S1x1x256x64 : Shape := ⟨4, ![1, 1, 256, 64]⟩

abbrev nBuf : Space → Nat
  | .hbm => 96
  | .vmem => 44
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S1024, .f32⟩
  | .hbm, ⟨3, _⟩ => ⟨S1024x6864, .f32⟩
  | .hbm, ⟨4, _⟩ => ⟨S4x3072, .f32⟩
  | .hbm, ⟨5, _⟩ => ⟨S8, .f32⟩
  | .hbm, ⟨6, _⟩ => ⟨S8, .f32⟩
  | .hbm, ⟨7, _⟩ => ⟨S384, .f32⟩
  | .hbm, ⟨8, _⟩ => ⟨S384x1536, .f32⟩
  | .hbm, ⟨9, _⟩ => ⟨S256, .f32⟩
  | .hbm, ⟨10, _⟩ => ⟨S256x2048, .f32⟩
  | .hbm, ⟨11, _⟩ => ⟨S1024x6864, .bf16⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1024x8, .bf16⟩
  | .hbm, ⟨17, _⟩ => ⟨S1024x8, .bf16⟩
  | .hbm, ⟨18, _⟩ => ⟨S1024x384, .bf16⟩
  | .hbm, ⟨19, _⟩ => ⟨S1024x256, .bf16⟩
  | .hbm, ⟨20, _⟩ => ⟨S1024x64, .bf16⟩
  | .hbm, ⟨21, _⟩ => ⟨S1024x1024, .bf16⟩
  | .hbm, ⟨22, _⟩ => ⟨S1024x1024, .bf16⟩
  | .hbm, ⟨23, _⟩ => ⟨S1024x3072, .bf16⟩
  | .hbm, ⟨24, _⟩ => ⟨S1024x16, .bf16⟩
  | .hbm, ⟨25, _⟩ => ⟨S1024x1x2x32, .bf16⟩
  | .hbm, ⟨26, _⟩ => ⟨S1024x1x1x32, .bf16⟩
  | .hbm, ⟨27, _⟩ => ⟨S1024x1x32, .bf16⟩
  | .hbm, ⟨28, _⟩ => ⟨S1024x1x32, .bf16⟩
  | .hbm, ⟨29, _⟩ => ⟨S1024x1x1x32, .bf16⟩
  | .hbm, ⟨30, _⟩ => ⟨S1024x1x32, .bf16⟩
  | .hbm, ⟨31, _⟩ => ⟨S1024x1x64, .bf16⟩
  | .hbm, ⟨32, _⟩ => ⟨S1024x64, .bf16⟩
  | .hbm, ⟨33, _⟩ => ⟨S1024x128, .bf16⟩
  | .hbm, ⟨34, _⟩ => ⟨S_, .f32⟩
  | .hbm, ⟨35, _⟩ => ⟨S8, .f32⟩
  | .hbm, ⟨36, _⟩ => ⟨S16, .f32⟩
  | .hbm, ⟨37, _⟩ => ⟨S16, .f32⟩
  | .hbm, ⟨38, _⟩ => ⟨S1x16, .f32⟩
  | .hbm, ⟨39, _⟩ => ⟨S1x16, .f32⟩
  | .hbm, ⟨40, _⟩ => ⟨S2x16, .f32⟩
  | .hbm, ⟨41, _⟩ => ⟨S384x8x192, .f32⟩
  | .hbm, ⟨42, _⟩ => ⟨S384x8x128, .f32⟩
  | .hbm, ⟨43, _⟩ => ⟨S384x1024, .f32⟩
  | .hbm, ⟨44, _⟩ => ⟨S384x1024, .bf16⟩
  | .hbm, ⟨45, _⟩ => ⟨S384x8x64, .f32⟩
  | .hbm, ⟨46, _⟩ => ⟨S384x512, .f32⟩
  | .hbm, ⟨47, _⟩ => ⟨S384x512, .bf16⟩
  | .hbm, ⟨48, _⟩ => ⟨S384x8x2x32, .f32⟩
  | .hbm, ⟨49, _⟩ => ⟨S384x8x1x32, .f32⟩
  | .hbm, ⟨50, _⟩ => ⟨S384x8x32, .f32⟩
  | .hbm, ⟨51, _⟩ => ⟨S384x8x32, .f32⟩
  | .hbm, ⟨52, _⟩ => ⟨S384x8x1x32, .f32⟩
  | .hbm, ⟨53, _⟩ => ⟨S384x8x32, .f32⟩
  | .hbm, ⟨54, _⟩ => ⟨S384x8x64, .f32⟩
  | .hbm, ⟨55, _⟩ => ⟨S384x512, .f32⟩
  | .hbm, ⟨56, _⟩ => ⟨S384x512, .bf16⟩
  | .hbm, ⟨57, _⟩ => ⟨S256x8x256, .f32⟩
  | .hbm, ⟨58, _⟩ => ⟨S256x8x128, .f32⟩
  | .hbm, ⟨59, _⟩ => ⟨S256x1024, .f32⟩
  | .hbm, ⟨60, _⟩ => ⟨S256x1024, .bf16⟩
  | .hbm, ⟨61, _⟩ => ⟨S256x8x128, .f32⟩
  | .hbm, ⟨62, _⟩ => ⟨S256x1024, .f32⟩
  | .hbm, ⟨63, _⟩ => ⟨S256x1024, .bf16⟩
  | .hbm, ⟨64, _⟩ => ⟨S32, .f32⟩
  | .hbm, ⟨65, _⟩ => ⟨S_, .f32⟩
  | .hbm, ⟨66, _⟩ => ⟨S32, .f32⟩
  | .hbm, ⟨67, _⟩ => ⟨S32, .f32⟩
  | .hbm, ⟨68, _⟩ => ⟨S_, .f32⟩
  | .hbm, ⟨69, _⟩ => ⟨S32, .f32⟩
  | .hbm, ⟨70, _⟩ => ⟨S32, .f32⟩
  | .hbm, ⟨71, _⟩ => ⟨S32, .f32⟩
  | .hbm, ⟨72, _⟩ => ⟨S_, .f32⟩
  | .hbm, ⟨73, _⟩ => ⟨S32, .f32⟩
  | .hbm, ⟨74, _⟩ => ⟨S32, .f32⟩
  | .hbm, ⟨75, _⟩ => ⟨S_, .f32⟩
  | .hbm, ⟨76, _⟩ => ⟨S32, .f32⟩
  | .hbm, ⟨77, _⟩ => ⟨S32, .f32⟩
  | .hbm, ⟨78, _⟩ => ⟨S1x32, .f32⟩
  | .hbm, ⟨79, _⟩ => ⟨S4x32, .f32⟩
  | .hbm, ⟨80, _⟩ => ⟨S128, .f32⟩
  | .hbm, ⟨81, _⟩ => ⟨S1x128, .f32⟩
  | .hbm, ⟨82, _⟩ => ⟨S1x1024, .f32⟩
  | .hbm, ⟨83, _⟩ => ⟨S1x384, .f32⟩
  | .hbm, ⟨84, _⟩ => ⟨S1x256, .f32⟩
  | .hbm, ⟨85, _⟩ => ⟨S8x1x4096, .i32⟩
  | .hbm, ⟨86, _⟩ => ⟨S8x4096x1024, .bf16⟩
  | .hbm, ⟨87, _⟩ => ⟨S8x4096x1024, .bf16⟩
  | .hbm, ⟨88, _⟩ => ⟨S8x4096x1024, .bf16⟩
  | .hbm, ⟨89, _⟩ => ⟨S8x4096x1024, .bf16⟩
  | .hbm, ⟨90, _⟩ => ⟨S8x4096x16, .f32⟩
  | .hbm, ⟨91, _⟩ => ⟨S8x8x4096x192, .bf16⟩
  | .hbm, ⟨92, _⟩ => ⟨S8x8x4096x192, .bf16⟩
  | .hbm, ⟨93, _⟩ => ⟨S8x8x4096x128, .bf16⟩
  | .hbm, ⟨94, _⟩ => ⟨S8x4096x1024, .bf16⟩
  | .hbm, ⟨95, _⟩ => ⟨S8x4096x1024, .bf16⟩
  | .local _ .vmem, ⟨0, _⟩ => ⟨S1x1x256, .i32⟩
  | .local _ .vmem, ⟨1, _⟩ => ⟨S1x1x256, .i32⟩
  | .local _ .vmem, ⟨2, _⟩ => ⟨S1x256x1024, .f32⟩
  | .local _ .vmem, ⟨3, _⟩ => ⟨S1x256x1024, .f32⟩
  | .local _ .vmem, ⟨4, _⟩ => ⟨S1x1024, .f32⟩
  | .local _ .vmem, ⟨5, _⟩ => ⟨S1024x3072, .bf16⟩
  | .local _ .vmem, ⟨6, _⟩ => ⟨S4x3072, .f32⟩
  | .local _ .vmem, ⟨7, _⟩ => ⟨S1024x1024, .bf16⟩
  | .local _ .vmem, ⟨8, _⟩ => ⟨S1024x16, .bf16⟩
  | .local _ .vmem, ⟨9, _⟩ => ⟨S2x16, .f32⟩
  | .local _ .vmem, ⟨10, _⟩ => ⟨S1024x384, .bf16⟩
  | .local _ .vmem, ⟨11, _⟩ => ⟨S1024x256, .bf16⟩
  | .local _ .vmem, ⟨12, _⟩ => ⟨S1024x128, .bf16⟩
  | .local _ .vmem, ⟨13, _⟩ => ⟨S1024x1024, .bf16⟩
  | .local _ .vmem, ⟨14, _⟩ => ⟨S1024x1024, .bf16⟩
  | .local _ .vmem, ⟨15, _⟩ => ⟨S1x384, .f32⟩
  | .local _ .vmem, ⟨16, _⟩ => ⟨S384x1024, .bf16⟩
  | .local _ .vmem, ⟨17, _⟩ => ⟨S384x512, .bf16⟩
  | .local _ .vmem, ⟨18, _⟩ => ⟨S384x512, .bf16⟩
  | .local _ .vmem, ⟨19, _⟩ => ⟨S1x256, .f32⟩
  | .local _ .vmem, ⟨20, _⟩ => ⟨S256x1024, .bf16⟩
  | .local _ .vmem, ⟨21, _⟩ => ⟨S256x1024, .bf16⟩
  | .local _ .vmem, ⟨22, _⟩ => ⟨S1x128, .f32⟩
  | .local _ .vmem, ⟨23, _⟩ => ⟨S1x256x1024, .bf16⟩
  | .local _ .vmem, ⟨24, _⟩ => ⟨S1x256x1024, .bf16⟩
  | .local _ .vmem, ⟨25, _⟩ => ⟨S1x256x1024, .bf16⟩
  | .local _ .vmem, ⟨26, _⟩ => ⟨S1x256x1024, .bf16⟩
  | .local _ .vmem, ⟨27, _⟩ => ⟨S1x256x1024, .bf16⟩
  | .local _ .vmem, ⟨28, _⟩ => ⟨S1x256x1024, .bf16⟩
  | .local _ .vmem, ⟨29, _⟩ => ⟨S1x256x1024, .bf16⟩
  | .local _ .vmem, ⟨30, _⟩ => ⟨S1x256x1024, .bf16⟩
  | .local _ .vmem, ⟨31, _⟩ => ⟨S1x256x16, .f32⟩
  | .local _ .vmem, ⟨32, _⟩ => ⟨S1x256x16, .f32⟩
  | .local _ .vmem, ⟨33, _⟩ => ⟨S1x8x256x192, .bf16⟩
  | .local _ .vmem, ⟨34, _⟩ => ⟨S1x8x256x192, .bf16⟩
  | .local _ .vmem, ⟨35, _⟩ => ⟨S1x8x256x192, .bf16⟩
  | .local _ .vmem, ⟨36, _⟩ => ⟨S1x8x256x192, .bf16⟩
  | .local _ .vmem, ⟨37, _⟩ => ⟨S1x8x256x128, .bf16⟩
  | .local _ .vmem, ⟨38, _⟩ => ⟨S1x8x256x128, .bf16⟩
  | .local _ .vmem, ⟨39, _⟩ => ⟨S1x256x1024, .bf16⟩
  | .local _ .vmem, ⟨40, _⟩ => ⟨S1x256x1024, .bf16⟩
  | .local _ .vmem, ⟨41, _⟩ => ⟨S1x256x1024, .bf16⟩
  | .local _ .vmem, ⟨42, _⟩ => ⟨S1x256x1024, .bf16⟩
  | .local _ .vmem, ⟨43, _⟩ => ⟨S264x3072, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_0 : Ref sig .tc := ⟨.hbm, 65, rfl⟩
abbrev main_v53 : Ref sig .tc := ⟨.hbm, 66, rfl⟩
abbrev main_v54 : Ref sig .tc := ⟨.hbm, 67, rfl⟩
abbrev main_cst_1 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_2 : Ref sig .tc := ⟨.hbm, 72, rfl⟩
abbrev main_v58 : Ref sig .tc := ⟨.hbm, 73, rfl⟩
abbrev main_v59 : Ref sig .tc := ⟨.hbm, 74, rfl⟩
abbrev main_cst_3 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70_0 : Ref sig .tc := ⟨.hbm, 86, rfl⟩
abbrev main_v70_1 : Ref sig .tc := ⟨.hbm, 87, rfl⟩
abbrev main_v70_2 : Ref sig .tc := ⟨.hbm, 88, rfl⟩
abbrev main_v70_3 : Ref sig .tc := ⟨.hbm, 89, rfl⟩
abbrev main_v70_4 : Ref sig .tc := ⟨.hbm, 90, rfl⟩
abbrev main_v70_5 : Ref sig .tc := ⟨.hbm, 91, rfl⟩
abbrev main_v70_6 : Ref sig .tc := ⟨.hbm, 92, rfl⟩
abbrev main_v70_7 : Ref sig .tc := ⟨.hbm, 93, rfl⟩
abbrev main_v70_8 : Ref sig .tc := ⟨.hbm, 94, rfl⟩
abbrev main_v70_9 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg21_1 : Ref sig .tc := ⟨.vmem, 24, rfl⟩
abbrev cc0_stg22_0 : Ref sig .tc := ⟨.vmem, 25, rfl⟩
abbrev cc0_stg22_1 : Ref sig .tc := ⟨.vmem, 26, rfl⟩
abbrev cc0_stg23_0 : Ref sig .tc := ⟨.vmem, 27, rfl⟩
abbrev cc0_stg23_1 : Ref sig .tc := ⟨.vmem, 28, rfl⟩
abbrev cc0_stg24_0 : Ref sig .tc := ⟨.vmem, 29, rfl⟩
abbrev cc0_stg24_1 : Ref sig .tc := ⟨.vmem, 30, rfl⟩
abbrev cc0_stg25_0 : Ref sig .tc := ⟨.vmem, 31, rfl⟩
abbrev cc0_stg25_1 : Ref sig .tc := ⟨.vmem, 32, rfl⟩
abbrev cc0_stg26_0 : Ref sig .tc := ⟨.vmem, 33, rfl⟩
abbrev cc0_stg26_1 : Ref sig .tc := ⟨.vmem, 34, rfl⟩
abbrev cc0_stg27_0 : Ref sig .tc := ⟨.vmem, 35, rfl⟩
abbrev cc0_stg27_1 : Ref sig .tc := ⟨.vmem, 36, rfl⟩
abbrev cc0_stg28_0 : Ref sig .tc := ⟨.vmem, 37, rfl⟩
abbrev cc0_stg28_1 : Ref sig .tc := ⟨.vmem, 38, rfl⟩
abbrev cc0_stg29_0 : Ref sig .tc := ⟨.vmem, 39, rfl⟩
abbrev cc0_stg29_1 : Ref sig .tc := ⟨.vmem, 40, rfl⟩
abbrev cc0_stg30_0 : Ref sig .tc := ⟨.vmem, 41, rfl⟩
abbrev cc0_stg30_1 : Ref sig .tc := ⟨.vmem, 42, rfl⟩
abbrev cc0_scratch0 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem21_1 : DmaSem sig := 24
abbrev cc0_sem22_0 : DmaSem sig := 25
abbrev cc0_sem22_1 : DmaSem sig := 26
abbrev cc0_sem23_0 : DmaSem sig := 27
abbrev cc0_sem23_1 : DmaSem sig := 28
abbrev cc0_sem24_0 : DmaSem sig := 29
abbrev cc0_sem24_1 : DmaSem sig := 30
abbrev cc0_sem25_0 : DmaSem sig := 31
abbrev cc0_sem25_1 : DmaSem sig := 32
abbrev cc0_sem26_0 : DmaSem sig := 33
abbrev cc0_sem26_1 : DmaSem sig := 34
abbrev cc0_sem27_0 : DmaSem sig := 35
abbrev cc0_sem27_1 : DmaSem sig := 36
abbrev cc0_sem28_0 : DmaSem sig := 37
abbrev cc0_sem28_1 : DmaSem sig := 38
abbrev cc0_sem29_0 : DmaSem sig := 39
abbrev cc0_sem29_1 : DmaSem sig := 40
abbrev cc0_sem30_0 : DmaSem sig := 41
abbrev cc0_sem30_1 : DmaSem sig := 42

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_26 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_27 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_28 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_29 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_30 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1024x16 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x384 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S384x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S384x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S384x512 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x256 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S256x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 1 → Memref sig .tc .vmem S256x1024 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]

abbrev stage0_21 : Fin 2 → Memref sig .tc .vmem S1x256x1024 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x256x1024 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x256x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x256x1024 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x256x16 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x8x256x192 .bf16 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]

abbrev stage0_27 : Fin 2 → Memref sig .tc .vmem S1x8x256x192 .bf16 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true, true]

abbrev stage0_28 : Fin 2 → Memref sig .tc .vmem S1x8x256x128 .bf16 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true, true]

abbrev stage0_29 : Fin 2 → Memref sig .tc .vmem S1x256x1024 .bf16 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true, true]

abbrev stage0_30 : Fin 2 → Memref sig .tc .vmem S1x256x1024 .bf16 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true, true]
-- ==== Reference5Ideal.lean ====
abbrev S8x4096x1024 : Shape := ⟨3, ![8, 4096, 1024]⟩
abbrev S8x4096 : Shape := ⟨2, ![8, 4096]⟩
abbrev S1024 : Shape := ⟨1, ![1024]⟩
abbrev S1024x6864 : Shape := ⟨2, ![1024, 6864]⟩
abbrev S4x3072 : Shape := ⟨2, ![4, 3072]⟩
abbrev S8 : Shape := ⟨1, ![8]⟩
abbrev S384 : Shape := ⟨1, ![384]⟩
abbrev S384x1536 : Shape := ⟨2, ![384, 1536]⟩
abbrev S256 : Shape := ⟨1, ![256]⟩
abbrev S256x2048 : Shape := ⟨2, ![256, 2048]⟩
abbrev S_ : Shape := ⟨0, ![]⟩
abbrev S8x4096x1 : Shape := ⟨3, ![8, 4096, 1]⟩
abbrev S1x1x1024 : Shape := ⟨3, ![1, 1, 1024]⟩
abbrev S8x4096x6864 : Shape := ⟨3, ![8, 4096, 6864]⟩

abbrev nBuf : Space → Nat
  | .hbm => 59
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096, .i32⟩
  | .hbm, ⟨2, _⟩ => ⟨S1024, .f32⟩
  | .hbm, ⟨3, _⟩ => ⟨S1024x6864, .f32⟩
  | .hbm, ⟨4, _⟩ => ⟨S4x3072, .f32⟩
  | .hbm, ⟨5, _⟩ => ⟨S8, .f32⟩
  | .hbm, ⟨6, _⟩ => ⟨S8, .f32⟩
  | .hbm, ⟨7, _⟩ => ⟨S384, .f32⟩
  | .hbm, ⟨8, _⟩ => ⟨S384x1536, .f32⟩
  | .hbm, ⟨9, _⟩ => ⟨S256, .f32⟩
  | .hbm, ⟨10, _⟩ => ⟨S256x2048, .f32⟩
  | .hbm, ⟨11, _⟩ => ⟨S8x4096x1024, .f32⟩
  | .hbm, ⟨12, _⟩ => ⟨S_, .f32⟩
  | .hbm, ⟨13, _⟩ => ⟨S8x4096, .f32⟩
  | .hbm, ⟨14, _⟩ => ⟨S8x4096x1, .f32⟩
  | .hbm, ⟨15, _⟩ => ⟨S_, .f32⟩
  | .hbm, ⟨16, _⟩ => ⟨S8x4096x1, .f32⟩
  | .hbm, ⟨17, _⟩ => ⟨S8x4096x1, .f32⟩
  | .hbm, ⟨18, _⟩ => ⟨S_, .f32⟩
  | .hbm, ⟨19, _⟩ => ⟨S8x4096x1, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S1x1x1024, .f32⟩
  | .hbm, ⟨25, _⟩ => ⟨S8x4096x1024, .f32⟩
  | .hbm, ⟨26, _⟩ => ⟨S8x4096x1024, .f32⟩
  | .hbm, ⟨27, _⟩ => ⟨S8x4096x6864, .f32⟩
  | .hbm, ⟨28, _⟩ => ⟨S8x4096x1024, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x4096x1024, .f32⟩
  | .hbm, ⟨35, _⟩ => ⟨S8x4096x1024, .f32⟩
  | .hbm, ⟨36, _⟩ => ⟨S_, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S8x4096x1024, .bf16⟩
  | .hbm, ⟨41, _⟩ => ⟨S8x4096x1024, .f32⟩
  | .hbm, ⟨42, _⟩ => ⟨S8x4096x1024, .f32⟩
  | .hbm, ⟨43, _⟩ => ⟨S_, .f32⟩
  | .hbm, ⟨44, _⟩ => ⟨S8x4096x1024, .f32⟩
  | .hbm, ⟨45, _⟩ => ⟨S8x4096x1024, .f32⟩
  | .hbm, ⟨46, _⟩ => ⟨S_, .f32⟩
  | .hbm, ⟨47, _⟩ => ⟨S8x4096x1024, .f32⟩
  | .hbm, ⟨48, _⟩ => ⟨S8x4096x1024, .f32⟩
  | .hbm, ⟨49, _⟩ => ⟨S8x4096x1024, .bf16⟩
  | .hbm, ⟨50, _⟩ => ⟨S8x4096x1024, .f32⟩
  | .hbm, ⟨51, _⟩ => ⟨S8x4096x1024, .f32⟩
  | .hbm, ⟨52, _⟩ => ⟨S_, .f32⟩
  | .hbm, ⟨53, _⟩ => ⟨S8x4096x1024, .f32⟩
  | .hbm, ⟨54, _⟩ => ⟨S8x4096x1024, .f32⟩
  | .hbm, ⟨55, _⟩ => ⟨S_, .f32⟩
  | .hbm, ⟨56, _⟩ => ⟨S8x4096x1024, .f32⟩
  | .hbm, ⟨57, _⟩ => ⟨S8x4096x1024, .f32⟩
  | .hbm, ⟨58, _⟩ => ⟨S8x4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_v22 : Ref sig .tc := ⟨.hbm, 45, rfl⟩
abbrev main_cst_3 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_4 : Ref sig .tc := ⟨.hbm, 52, rfl⟩
abbrev main_v28 : Ref sig .tc := ⟨.hbm, 53, rfl⟩
abbrev main_v29 : Ref sig .tc := ⟨.hbm, 54, rfl⟩
abbrev main_cst_5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩

abbrev nD : Nat := 1
abbrev τ : Topo := Topo.v7x

variable {F : FTy → Type} [FloatOps F]
-- ==== Proof.Ref.lean ====
/- What the reference returns, at an index: its masked scores, their exponentials less the row's maximum, the row's sum
   of them, and the weighted sum of the values. -/
module

public import proofs.«01_k».proof.Proof.Gen.ReferenceIdeal.Run
public import Idealize.ShloMosaic.Lib.Pointwise
public import Idealize.ShloMosaic.Lib.Tactic.CleanTypes

@[expose] public section

set_option maxRecDepth 16384

noncomputable section

namespace Cert.ReferenceIdeal.Attn

open Idealize.ShloMosaic Idealize.ShloMosaic.TcCoe Cert.ReferenceIdeal Cert.ReferenceIdeal.Gen

/-- Whether key `u` is masked in at query `t`. -/
def causal : IVec S8x8x4096x4096 1 :=
  broadcastInDim S8x8x4096x4096 ![2, 3] bcast_S4096x4096_S8x8x4096x4096_2_3 (cmpi .sle
    (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0))))

/-- The products of queries and keys, both parts. -/
def prods (q : FVec Ideal S8x4096x8x128 .f32) (qp : FVec Ideal S8x4096x8x64 .f32) (k : FVec Ideal S8x4096x8x128 .f32)
    (kp : FVec Ideal S8x4096x64 .f32) : FVec Ideal S8x8x4096x4096 .f32 :=
  addf (Host.dotGeneral dot_S8x4096x8x128_S8x4096x8x128_S8x8x4096x4096_3_3_1_1_02_02 none q k)
    (transpose S8x8x4096x4096 [0, 3, 2, 1] (Host.dotGeneral dot_S8x4096x64_S8x4096x8x64_S8x4096x4096x8_2_3_1_12_0_0 none kp qp : FVec Ideal S8x4096x4096x8 .f32)
      transposes_S8x4096x4096x8_S8x8x4096x4096_0_3_2_1)

/-- Scaled and masked. -/
def scores (x : FVec Ideal S8x8x4096x4096 .f32) : FVec Ideal S8x8x4096x4096 .f32 :=
  select causal
    (mulf x (broadcastInDim S8x8x4096x4096 ![] bcast_S_S8x8x4096x4096 (constant S_ .f32 0x3D93CD3A#32)))
    (broadcastInDim S8x8x4096x4096 ![] bcast_S_S8x8x4096x4096 (id (constant S_ .f32 0xFF800000#32)))

/-- A row's maximum, from `z` on. -/
def top (z : FVec Ideal S_ .f32) (s : FVec Ideal S8x8x4096x4096 .f32) : FVec Ideal S8x8x4096 .f32 :=
  Host.reduce FloatOps.maximumf s z reducesTo_S8x8x4096x4096_S8x8x4096_d3 h_S_

/-- The exponentials of scores less their row's maximum `r`, or `z` where that is more. -/
def expo (z : FVec Ideal S_ .f32) (s : FVec Ideal S8x8x4096x4096 .f32) (r : FVec Ideal S8x8x4096 .f32) : FVec Ideal S8x8x4096x4096 .f32 :=
  Host.exp (subf s (broadcastInDim S8x8x4096x4096 ![0, 1, 2, 3] bcast_S8x8x4096x1_S8x8x4096x4096_0_1_2_3
    (broadcastInDim S8x8x4096x1 ![0, 1, 2] bcast_S8x8x4096_S8x8x4096x1_0_1_2
      (maximumf (broadcastInDim S8x8x4096 ![] bcast_S_S8x8x4096 z) r))))

/-- The exponentials over their row's sum. -/
def soft (p : FVec Ideal S8x8x4096x4096 .f32) : FVec Ideal S8x8x4096x4096 .f32 :=
  Host.divf p (broadcastInDim S8x8x4096x4096 ![0, 1, 2, 3] bcast_S8x8x4096x1_S8x8x4096x4096_0_1_2_3
    (broadcastInDim S8x8x4096x1 ![0, 1, 2] bcast_S8x8x4096_S8x8x4096x1_0_1_2
      (Host.reduceAdd p (constant S_ .f32 0x00000000#32) reducesTo_S8x8x4096x4096_S8x8x4096_d3 h_S_)))

/-- The values under the weights, heads side by side. -/
def mix (w : FVec Ideal S8x8x4096x4096 .f32) (v : FVec Ideal S8x4096x8x128 .f32) : FVec Ideal S8x4096x1024 .bf16 :=
  truncf .bf16 (shapeCast S8x4096x1024 (transpose S8x4096x8x128 [0, 3, 1, 2]
    (Host.dotGeneral dot_S8x4096x8x128_S8x8x4096x4096_S8x8x128x4096_1_3_3_2_02_01 none v w : FVec Ideal S8x8x128x4096 .f32)
    transposes_S8x8x128x4096_S8x4096x8x128_0_3_1_2) shapeCasts_S8x4096x8x128_S8x4096x1024 : FVec Ideal S8x4096x1024 .f32) bitsLt_bf16_f32

theorem causal_apply (b h : Fin 8) (t u : Fin 4096) : causal (ix4 b h t u)
      = IntOp.cmpi CmpIPredicate.sle (BitVec.ofNat 32 u.val) (BitVec.ofNat 32 t.val) := by
  unfold causal
  pointwise

theorem prods_apply (q : FVec Ideal S8x4096x8x128 .f32) (qp : FVec Ideal S8x4096x8x64 .f32) (k : FVec Ideal S8x4096x8x128 .f32)
    (kp : FVec Ideal S8x4096x64 .f32) (b h : Fin 8) (t u : Fin 4096) : prods q qp k kp (ix4 b h t u)
      = (∑ d : Fin 128, (q (ix4 b t h d) : EReal) * k (ix4 b u h d)) + ∑ d : Fin 64, (kp (ix3 b u d) : EReal) * qp (ix4 b t h d) := by
  unfold prods
  pointwise

theorem scores_apply (x : FVec Ideal S8x8x4096x4096 .f32) (i : S8x8x4096x4096.Idx) : scores x i
      = Scalar.select (causal i) ((x i : EReal) * Ideal.ofBits .f32 0x3D93CD3A#32) (Ideal.ofBits .f32 0xFF800000#32 : EReal) := rfl

theorem top_apply (z : FVec Ideal S_ .f32) (s : FVec Ideal S8x8x4096x4096 .f32) (b h : Fin 8) (t : Fin 4096) : top z s (ix3 b h t)
      = Finset.univ.fold max (z (Shape.Idx.first h_S_) : EReal) fun w : Fin 4096 => (s (ix4 b h t w) : EReal) := by
  unfold top
  pointwise

theorem expo_apply (z : FVec Ideal S_ .f32) (s : FVec Ideal S8x8x4096x4096 .f32) (r : FVec Ideal S8x8x4096 .f32)
    (b h : Fin 8) (t u : Fin 4096) : expo z s r (ix4 b h t u)
      = Ideal.exp ((s (ix4 b h t u) : EReal) - max (z ix0 : EReal) (r (ix3 b h t))) := by
  unfold expo
  pointwise

theorem soft_apply (p : FVec Ideal S8x8x4096x4096 .f32) (b h : Fin 8) (t u : Fin 4096) : soft p (ix4 b h t u)
      = Ideal.div (p (ix4 b h t u)) (∑ w : Fin 4096, (p (ix4 b h t w) : EReal)) := by
  unfold soft
  pointwise

theorem mix_apply (w : FVec Ideal S8x8x4096x4096 .f32) (v : FVec Ideal S8x4096x8x128 .f32) (b : Fin 8) (t : Fin 4096)
    (x : Fin 1024) : mix w v (ix3 b t x)
      = ∑ u : Fin 4096, (v (ix4 b u (⟨x.val / 128, by omega⟩ : Fin 8) (⟨x.val % 128, by omega⟩ : Fin 128)) : EReal)
          * w (ix4 b (⟨x.val / 128, by omega⟩ : Fin 8) t u) := by
  unfold mix
  pointwise

theorem res_eq (m : (ℓ : Loc nD τ sig) → Buf (Elt Ideal) ℓ) (c : Dev nD) :
    Value.res_main_v27 m c
      = (let x := scores (prods (m ((c.tc : Thread nD τ).loc main_arg0)) (m ((c.tc : Thread nD τ).loc main_arg1))
          (m ((c.tc : Thread nD τ).loc main_arg2)) (m ((c.tc : Thread nD τ).loc main_arg3)))
        mix (soft (expo (constant S_ .f32 0xFF800000#32) x (top (constant S_ .f32 0xFF800000#32) x)))
          (m ((c.tc : Thread nD τ).loc main_arg4))) := rfl

end Cert.ReferenceIdeal.Attn

end
-- ==== Proof.Steps.lean ====
/- What one step of the attention body computes, as functions of the blocks it reads: the scores of a block of
   queries against a block of keys, their row maxima, and how the running maximum, sum and weighted values of a block
   of queries move on. Stated for any float values: the body's stores are these functions by definition. -/
module

public import proofs.«01_k».proof.Proof.Gen.KernelIdeal.Skeleton
public import Idealize.ShloMosaic.Lib.Pointwise

@[expose] public section

set_option maxRecDepth 16384

noncomputable section

namespace Cert.KernelIdeal.Attn

open Idealize.ShloMosaic Cert.KernelIdeal Cert.KernelIdeal.Gen

variable {F : FTy → Type} [FloatOps F] [Named F]

/-- Row `j` of block `i`, among 4096 rows cut in blocks of 512. -/
def row (i : ℕ) (j : Fin 512) : Fin 4096 := ⟨(512 * i + j.val) % 4096, Nat.mod_lt _ (by decide)⟩

/-- Block `i` of a head's queries or keys. -/
def blk (x : Vec F S1x1x4096x192 .bf16) (i : ℕ) : Vec F S1x1x512x192 .bf16 :=
  fun j => x (ix4 (j 0) (j 1) (row i (j 2)) (j 3))

/-- Block `i` of a head's values. -/
def blkV (x : Vec F S1x1x4096x128 .bf16) (i : ℕ) : Vec F S1x1x512x128 .bf16 :=
  fun j => x (ix4 (j 0) (j 1) (row i (j 2)) (j 3))

/-- The scores of a block of queries against a block of keys. -/
def score (q k : Vec F S1x1x512x192 .bf16) : FVec F S512x512 .f32 :=
  matmul dot_S512x192_S512x192_S512x512_1_1_0_0_n_n none
    (shapeCast S512x192 q shapeCasts_S1x1x512x192_S512x192 : FVec F S512x192 .bf16)
    (shapeCast S512x192 k shapeCasts_S1x1x512x192_S512x192 : FVec F S512x192 .bf16)
    (constant S512x512 .f32 0x00000000#32)

/-- The same on the diagonal, where keys after the query are masked. -/
def scoreD (q k : Vec F S1x1x512x192 .bf16) : FVec F S512x512 .f32 :=
  select (cmpi .sle (iota .tc S512x512 32 [1] iota_S512x512_d1_w32) (iota .tc S512x512 32 [0] iota_S512x512_d0_w32))
    (score q k) (broadcast S512x512 (Named.named κ "mask" 0xF149F2CA#32 : F .f32))

/-- Each row's maximum, along 128 lanes. -/
def rowMax (s : FVec F S512x512 .f32) : FVec F S512x128 .f32 :=
  broadcastTo S512x128
    (shapeCast S512x1
      (shapeCast S512x1 (multiReduction .maximumf [1] S512 s 0xFF800000#32 reduces_S512x512_S512 (.inl rfl) rfl : FVec F S512 .f32)
        shapeCasts_S512_S512x1 : FVec F S512x1 .f32) shapeCasts_S512x1_S512x1 : FVec F S512x1 .f32) broadcasts_S512x1_S512x128

/-- The powers of two of the scores less the maximum. -/
def pow (m : FVec F S512x128 .f32) (s : FVec F S512x512 .f32) : FVec F S512x512 .f32 :=
  exp2 (subf s (concatenate S512x512 1 [⟨S512x128, m⟩, ⟨S512x128, m⟩, ⟨S512x128, m⟩, ⟨S512x128, m⟩]
    concatenates_S512x128_S512x128_S512x128_S512x128_S512x512_d1))

/-- The four groups of 128 columns added up. -/
def lanes (p : FVec F S512x512 .f32) : FVec F S512x128 .f32 :=
  addf (addf (addf (extractStridedSlice S512x128 ![0, 0] p slices_S512x512_o0_0_S512x128)
    (extractStridedSlice S512x128 ![0, 128] p slices_S512x512_o0_128_S512x128))
    (extractStridedSlice S512x128 ![0, 256] p slices_S512x512_o0_256_S512x128))
    (extractStridedSlice S512x128 ![0, 384] p slices_S512x512_o0_384_S512x128)

/-- The weights against the block of values. -/
def weigh (p : FVec F S512x512 .f32) (v : Vec F S1x1x512x128 .bf16) : FVec F S512x128 .f32 :=
  matmul dot_S512x512_S512x128_S512x128_1_0_0_1_n_n none (truncf .bf16 p bitsLt_bf16_f32 : FVec F S512x512 .bf16)
    (shapeCast S512x128 v shapeCasts_S1x1x512x128_S512x128 : FVec F S512x128 .bf16) (constant S512x128 .f32 0x00000000#32)

/-- The running sum after a further block: `m` the maximum so far, `r` the block's, `s` its scores, `l` the sum so far. -/
def nextL (m r : FVec F S512x128 .f32) (s : FVec F S512x512 .f32) (l : FVec F S512x128 .f32) : FVec F S512x128 .f32 :=
  addf (mulf (exp2 (subf m (maximumf m r))) l) (lanes (pow (maximumf m r) s))

/-- The running weighted values after a further block. -/
def nextA (m r : FVec F S512x128 .f32) (s : FVec F S512x512 .f32) (v : Vec F S1x1x512x128 .bf16)
    (a : FVec F S512x128 .f32) : FVec F S512x128 .f32 :=
  addf (mulf (exp2 (subf m (maximumf m r))) a) (weigh (pow (maximumf m r) s) v)

/-- The block of results: the weighted values over the sum. -/
def finish (l a : FVec F S512x128 .f32) : FVec F S1x512x128 .bf16 :=
  shapeCast S1x512x128 (truncf .bf16 (divf a (broadcastTo S512x128
    (shapeCast S512x1 (multiReduction .add [1] S512 l 0x00000000#32 reduces_S512x128_S512 (.inl rfl) rfl : FVec F S512 .f32)
      shapeCasts_S512_S512x1 : FVec F S512x1 .f32) broadcasts_S512x1_S512x128)) bitsLt_bf16_f32 : FVec F S512x128 .bf16)
    shapeCasts_S512x128_S1x512x128

/-- What is carried along a block of queries. -/
structure St (F : FTy → Type) [FloatOps F] where
  /-- the row maxima -/
  m : FVec F S512x128 .f32
  /-- the sums, lane by lane -/
  l : FVec F S512x128 .f32
  /-- the weighted values -/
  a : FVec F S512x128 .f32

variable (q k : Vec F S1x1x4096x192 .bf16) (v : Vec F S1x1x4096x128 .bf16)

/-- Scores of query block `i` against key block `j`; -/
def sO (i j : ℕ) : FVec F S512x512 .f32 := score (blk q i) (blk k j)
/-- on the diagonal. -/
def sD (i : ℕ) : FVec F S512x512 .f32 := scoreD (blk q i) (blk k i)

/-- Query block `i` after its diagonal block and the first `n` key blocks. -/
def st (i : ℕ) : ℕ → St F
  | 0 => ⟨rowMax (sD q k i), lanes (pow (rowMax (sD q k i)) (sD q k i)), weigh (pow (rowMax (sD q k i)) (sD q k i)) (blkV v i)⟩
  | n + 1 => ⟨maximumf (st i n).m (rowMax (sO q k i n)),
      nextL (st i n).m (rowMax (sO q k i n)) (sO q k i n) (st i n).l,
      nextA (st i n).m (rowMax (sO q k i n)) (sO q k i n) (blkV v n) (st i n).a⟩

theorem st_zero_m (i : ℕ) : (st q k v i 0).m = rowMax (sD q k i) := by rw [st]

end Cert.KernelIdeal.Attn

end
-- ==== Proof.Sem.lean ====
/- The steps of the attention body at an index, as extended reals. -/
module

public import proofs.«01_k».proof.Proof.Steps
public import Idealize.ShloMosaic.Lib.Pointwise

@[expose] public section

set_option maxRecDepth 16384

noncomputable section

namespace Cert.KernelIdeal.Attn

open Idealize.ShloMosaic Cert.KernelIdeal Cert.KernelIdeal.Gen

/-- A choice by the signed comparison of two small words is the choice by the comparison of the numbers. -/
theorem select_sle {α : Type} (x y : ℕ) (hx : x < 4096) (hy : y < 4096) (u w : α) :
    Scalar.select (IntOp.cmpi .sle (BitVec.ofNat 32 x) (BitVec.ofNat 32 y)) u w = if x ≤ y then u else w := by
  have h : (BitVec.ofNat 32 x).sle (BitVec.ofNat 32 y) = decide (x ≤ y) := by
    rw [BitVec.sle_eq_decide]
    congr 1
    rw [BitVec.toInt_eq_toNat_of_lt (by rw [BitVec.toNat_ofNat]; omega),
      BitVec.toInt_eq_toNat_of_lt (by rw [BitVec.toNat_ofNat]; omega), BitVec.toNat_ofNat, BitVec.toNat_ofNat]
    apply propext; omega
  by_cases hxy : x ≤ y <;> simp [IntOp.cmpi, Scalar.select, h, hxy]

theorem mask_eq : (Named.named κ "mask" 0xF149F2CA#32 : Ideal .f32) = (⊥ : EReal) := rfl

/-- The word of minus infinity. -/
theorem ofBits_neg_inf : Ideal.ofBits .f32 0xFF800000#32 = (⊥ : EReal) := by
  simp [Ideal.ofBits, Ideal.ieee]

theorem score_apply (q k : Vec Ideal S1x1x512x192 .bf16) (a b : Fin 512) :
    score q k (ix2 a b) = ∑ d : Fin 192, (q (ix4 (0 : Fin 1) (0 : Fin 1) a d) : EReal) * k (ix4 (0 : Fin 1) (0 : Fin 1) b d) := by
  unfold score
  pointwise

theorem scoreD_apply (q k : Vec Ideal S1x1x512x192 .bf16) (a b : Fin 512) :
    scoreD q k (ix2 a b) = if b.val ≤ a.val then score q k (ix2 a b) else (⊥ : EReal) := by
  unfold scoreD
  generalize score q k = s
  pointwise
  rw [mask_eq]
  exact select_sle _ _ (by omega) (by omega) _ _

theorem rowMax_apply (s : FVec Ideal S512x512 .f32) (a : Fin 512) (c : Fin 128) :
    rowMax s (ix2 a c) = Finset.univ.fold max (⊥ : EReal) (fun b : Fin 512 => (s (ix2 a b) : EReal)) := by
  unfold rowMax
  pointwise
  rw [ofBits_neg_inf]

/-- Lane `c` of column group `g`. -/
def col (g : Fin 4) (c : Fin 128) : Fin 512 := ⟨128 * g.val + c.val, by omega⟩

theorem pow_apply (m : FVec Ideal S512x128 .f32) (s : FVec Ideal S512x512 .f32) (a b : Fin 512) (μ : EReal)
    (h : ∀ c : Fin 128, m (ix2 a c) = μ) : pow m s (ix2 a b) = Ideal.exp2 ((s (ix2 a b) : EReal) - μ) := by
  unfold pow
  pointwise
  simp only [h, dite_eq_ite, ite_self]
  rfl

theorem lanes_apply (p : FVec Ideal S512x512 .f32) (a : Fin 512) (c : Fin 128) :
    lanes p (ix2 a c) = ∑ g : Fin 4, (p (ix2 a (col g c)) : EReal) := by
  unfold lanes
  pointwise
  rw [Fin.sum_univ_four]
  refine congrArg₂ _ (congrArg₂ _ (congrArg₂ _ ?_ ?_) ?_) ?_ <;>
    exact congrArg (fun b : Fin 512 => (p (ix2 a b) : EReal)) (Fin.ext (by show _ = 128 * _ + c.val; simp))

theorem weigh_apply (p : FVec Ideal S512x512 .f32) (v : Vec Ideal S1x1x512x128 .bf16) (a : Fin 512) (e : Fin 128) :
    weigh p v (ix2 a e) = ∑ b : Fin 512, (p (ix2 a b) : EReal) * v (ix4 (0 : Fin 1) (0 : Fin 1) b e) := by
  unfold weigh
  pointwise

theorem nextL_apply (m r : FVec Ideal S512x128 .f32) (s : FVec Ideal S512x512 .f32) (l : FVec Ideal S512x128 .f32)
    (a : Fin 512) (c : Fin 128) :
    nextL m r s l (ix2 a c) = Ideal.exp2 ((m (ix2 a c) : EReal) - max (m (ix2 a c) : EReal) (r (ix2 a c))) * l (ix2 a c)
      + lanes (pow (maximumf m r) s) (ix2 a c) := by
  unfold nextL
  generalize lanes (pow (maximumf m r) s) = x
  pointwise
  rfl

theorem nextA_apply (m r : FVec Ideal S512x128 .f32) (s : FVec Ideal S512x512 .f32) (v : Vec Ideal S1x1x512x128 .bf16)
    (l : FVec Ideal S512x128 .f32) (a : Fin 512) (c : Fin 128) :
    nextA m r s v l (ix2 a c) = Ideal.exp2 ((m (ix2 a c) : EReal) - max (m (ix2 a c) : EReal) (r (ix2 a c))) * l (ix2 a c)
      + weigh (pow (maximumf m r) s) v (ix2 a c) := by
  unfold nextA
  generalize weigh (pow (maximumf m r) s) v = x
  pointwise
  rfl

theorem finish_apply (l a : FVec Ideal S512x128 .f32) (z : Fin 1) (r : Fin 512) (e : Fin 128) :
    finish l a (ix3 z r e) = Ideal.div (a (ix2 r e)) (∑ c : Fin 128, (l (ix2 r c) : EReal)) := by
  unfold finish
  pointwise

end Cert.KernelIdeal.Attn

end
-- ==== Proof.Online.lean ====
/- The arithmetic of a softmax taken block by block: weights of scores that are real or masked, their change when the
   running maximum moves, and sums of weighted values that may be infinite. -/
module

public import Idealize.ShloMosaic.Lib.Pointwise

@[expose] public section

noncomputable section

namespace Cert.Online

open Idealize.ShloMosaic

/-- A nonnegative real times a sum is the sum of the products, whatever the summands. -/
theorem coe_mul_sum {ι : Type} [Fintype ι] (r : ℝ) (hr : 0 ≤ r) (f : ι → EReal) :
    (r : EReal) * ∑ i, f i = ∑ i, (r : EReal) * f i := by
  classical
  refine Finset.induction_on (Finset.univ : Finset ι) (by simp) fun a s ha ih => ?_
  rw [Finset.sum_insert ha, Finset.sum_insert ha,
    EReal.left_distrib_of_nonneg_of_ne_top (EReal.coe_nonneg.2 hr) (EReal.coe_ne_top r), ih]

theorem coe_sum {ι : Type} [Fintype ι] (f : ι → ℝ) : ((∑ i, f i : ℝ) : EReal) = ∑ i, (f i : EReal) := by
  classical
  refine Finset.induction_on (Finset.univ : Finset ι) (by simp) fun a s ha ih => ?_
  rw [Finset.sum_insert ha, Finset.sum_insert ha, EReal.coe_add, ih]

/-- A maximum of scores none of which is `⊤` and one of which is real is real. -/
theorem fold_max_real {n : ℕ} (f : Fin n → EReal) (h : ∀ i, f i ≠ ⊤) (j : Fin n) (r : ℝ) (hj : f j = r) :
    ∃ μ : ℝ, Finset.univ.fold max (⊥ : EReal) f = μ := by
  have h1 : Finset.univ.fold max (⊥ : EReal) f ≠ ⊤ := by
    refine ne_of_lt ?_
    rw [Finset.fold_max_lt]
    exact ⟨bot_lt_top, fun i _ => lt_top_iff_ne_top.2 (h i)⟩
  have h2 : Finset.univ.fold max (⊥ : EReal) f ≠ ⊥ := by
    refine (ne_of_gt (lt_of_lt_of_le (EReal.bot_lt_coe r) ?_))
    rw [Finset.le_fold_max]
    exact Or.inr ⟨j, Finset.mem_univ _, hj.symm.le⟩
  exact ⟨_, (EReal.coe_toReal h1 h2).symm⟩

theorem coe_max (x y : ℝ) : ((max x y : ℝ) : EReal) = max (x : EReal) y := EReal.coe_strictMono.monotone.map_max

/-- A score: the real `x` where `p`, masked elsewhere. -/
def sc (p : Prop) [Decidable p] (x : ℝ) : EReal := if p then (x : EReal) else ⊥
/-- Its weight, a power of two. -/
def wt (p : Prop) [Decidable p] (x : ℝ) : ℝ := if p then (2 : ℝ) ^ x else 0

theorem sc_ne_top (p : Prop) [Decidable p] (x : ℝ) : sc p x ≠ ⊤ := by
  unfold sc; split
  · exact EReal.coe_ne_top x
  · exact bot_ne_top

theorem wt_nonneg (p : Prop) [Decidable p] (x : ℝ) : 0 ≤ wt p x := by
  unfold wt; split
  · positivity
  · exact le_rfl

theorem exp2_sub (μ x : ℝ) : Ideal.exp2 ((x : EReal) - μ) = (((2 : ℝ) ^ (-μ) * (2 : ℝ) ^ x : ℝ) : EReal) := by
  rw [← EReal.coe_sub, Ideal.exp2_coe, ← Real.rpow_add two_pos]
  congr 1
  show (2 : ℝ) ^ (x - μ) = _
  congr 1; ring

theorem exp2_sc (p : Prop) [Decidable p] (x μ : ℝ) :
    Ideal.exp2 (sc p x - μ) = (((2 : ℝ) ^ (-μ) * wt p x : ℝ) : EReal) := by
  unfold sc wt; split
  · exact exp2_sub μ x
  · rw [EReal.bot_sub, Ideal.exp2_bot, mul_zero]; rfl

/-- Moving the maximum from `μ` to `ν` rescales. -/
theorem rescale (μ ν : ℝ) : (2 : ℝ) ^ (-ν) * 2 ^ μ * (2 : ℝ) ^ (-μ) = 2 ^ (-ν) := by
  rw [mul_assoc, ← Real.rpow_add two_pos, add_neg_cancel, Real.rpow_zero, mul_one]

theorem exp_sc (p : Prop) [Decidable p] (x μ : ℝ) :
    Ideal.exp (sc p x - μ) = ((Real.exp (-μ) * wt p (x / Real.log 2) : ℝ) : EReal) := by
  unfold sc wt; split
  · rw [← EReal.coe_sub, Ideal.exp_coe, Real.rpow_def_of_pos two_pos, mul_div_cancel₀ _ (Real.log_pos one_lt_two).ne',
      ← Real.exp_add]
    congr 2; ring
  · rw [EReal.bot_sub, Ideal.exp_bot, mul_zero]; rfl

end Cert.Online

end
-- ==== Proof.Blocks.lean ====
/- Reads of the body's buffers: a scratch buffer read back whole after a whole store, and the blocks of rows the body
   loads from the staged queries, keys and values. -/
module

public import proofs.«01_k».proof.Proof.Steps
public import Idealize.ShloMosaic.Lib.Pipeline.ValueKit

@[expose] public section

set_option maxRecDepth 16384

noncomputable section

namespace Cert.KernelIdeal.Attn

open Idealize.ShloMosaic Cert.KernelIdeal Cert.KernelIdeal.Gen

variable {F : FTy → Type} [FloatOps F] [Named F]

/-- A scratch of scores read whole after a whole store holds what was stored. -/
theorem read_512 (v : View sig .tc .vmem S512x512 .f32) (inb : ∀ a, ![0, 0] a + S512x512.size a ≤ S512x512.size a)
    (w : FVec F S512x512 .f32) (h : S512x512.ShapeCasts S512x512) (L : List (View.Piece (Elt F) S512x512 .f32)) :
    v.readCov (⟨Rect.unit ![0, 0] S512x512.size inb, shapeCast S512x512 w h⟩ :: L)
      (Rect.unit ![0, 0] S512x512.size inb).toLoadRect = w :=
  (View.readCov_cons_toLoadRect v _ _ L).trans (shapeCast_self w h)

/-- The same for the scratches along 128 lanes. -/
theorem read_128 (v : View sig .tc .vmem S512x128 .f32) (inb : ∀ a, ![0, 0] a + S512x128.size a ≤ S512x128.size a)
    (w : FVec F S512x128 .f32) (h : S512x128.ShapeCasts S512x128) (L : List (View.Piece (Elt F) S512x128 .f32)) :
    v.readCov (⟨Rect.unit ![0, 0] S512x128.size inb, shapeCast S512x128 w h⟩ :: L)
      (Rect.unit ![0, 0] S512x128.size inb).toLoadRect = w :=
  (View.readCov_cons_toLoadRect v _ _ L).trans (shapeCast_self w h)

/-- The same, of a value that was itself loaded. -/
theorem read_128e (v : View sig .tc .vmem S512x128 .f32) (inb : ∀ a, ![0, 0] a + S512x128.size a ≤ S512x128.size a)
    (w : Vec F S512x128 .f32) (h : S512x128.ShapeCasts S512x128) (L : List (View.Piece (Elt F) S512x128 .f32)) :
    v.readCov (⟨Rect.unit ![0, 0] S512x128.size inb, shapeCast S512x128 w h⟩ :: L)
      (Rect.unit ![0, 0] S512x128.size inb).toLoadRect = w :=
  (View.readCov_cons_toLoadRect v _ _ L).trans (shapeCast_self w h)

/-- The load of 512 rows of the queries or keys at row `o = 512 i` is block `i`. -/
theorem blk_eq (arg : Memref sig .tc .vmem S1x1x4096x192 .bf16) (harg : arg.IsWhole) (x : Vec F S1x1x4096x192 .bf16)
    (i o : ℕ) (inb : ∀ a, ![0, 0, o, 0] a + S1x1x512x192.size a ≤ S1x1x4096x192.size a) (ho : o = 512 * i) :
    View.readAt (Elt F) arg.view (Rect.unit (s := S1x1x4096x192) ![0, 0, o, 0] S1x1x512x192.size inb).toLoadRect (harg.unread x) = blk x i := by
  rw [View.readAt_eq_ld, harg.read_unread]
  funext j
  refine View.ld_unit_apply_of x _ _ inb j _ fun a => ?_
  have h2 := inb 2
  have hj : (j 2).val < 512 := (j 2).isLt
  match a with
  | ⟨0, _⟩ => exact (Nat.zero_add _).symm
  | ⟨1, _⟩ => exact (Nat.zero_add _).symm
  | ⟨2, _⟩ =>
    show (512 * i + (j 2).val) % 4096 = o + (j 2).val
    have h3 : o + 512 ≤ 4096 := h2
    exact (Nat.mod_eq_of_lt (by omega)).trans (congrArg (· + _) ho.symm)
  | ⟨3, _⟩ => exact (Nat.zero_add _).symm

/-- The load of 512 rows of the values at row `o = 512 i` is block `i`. -/
theorem blkV_eq (arg : Memref sig .tc .vmem S1x1x4096x128 .bf16) (harg : arg.IsWhole) (x : Vec F S1x1x4096x128 .bf16)
    (i o : ℕ) (inb : ∀ a, ![0, 0, o, 0] a + S1x1x512x128.size a ≤ S1x1x4096x128.size a) (ho : o = 512 * i) :
    View.readAt (Elt F) arg.view (Rect.unit (s := S1x1x4096x128) ![0, 0, o, 0] S1x1x512x128.size inb).toLoadRect (harg.unread x) = blkV x i := by
  rw [View.readAt_eq_ld, harg.read_unread]
  funext j
  refine View.ld_unit_apply_of x _ _ inb j _ fun a => ?_
  have h2 := inb 2
  have hj : (j 2).val < 512 := (j 2).isLt
  match a with
  | ⟨0, _⟩ => exact (Nat.zero_add _).symm
  | ⟨1, _⟩ => exact (Nat.zero_add _).symm
  | ⟨2, _⟩ =>
    show (512 * i + (j 2).val) % 4096 = o + (j 2).val
    have h3 : o + 512 ≤ 4096 := h2
    exact (Nat.mod_eq_of_lt (by omega)).trans (congrArg (· + _) ho.symm)
  | ⟨3, _⟩ => exact (Nat.zero_add _).symm

end Cert.KernelIdeal.Attn

end
-- ==== Proof.Chain.lean ====
/- What the attention body's scratch buffers hold when they are read: the scores, the row maxima and the carried
   maximum, sum and weighted values of each block of queries, as the functions of Steps. -/
module

public import proofs.«01_k».proof.Proof.Gen.KernelIdeal.Value
public import proofs.«01_k».proof.Proof.Blocks

@[expose] public section

set_option maxRecDepth 16384

noncomputable section

namespace Cert.KernelIdeal.Attn

open Idealize.ShloMosaic Cert.KernelIdeal Cert.KernelIdeal.Gen Cert.KernelIdeal.Gen.kernelRun0_A.sl

variable {F : FTy → Type} [FloatOps F] [Named F]

variable (c : Dev nD) (arg2 : Memref sig .tc .vmem S1x1x4096x192 .bf16) (harg2 : arg2.IsWhole)
  (arg3 : Memref sig .tc .vmem S1x1x4096x192 .bf16) (harg3 : arg3.IsWhole)
  (arg4 : Memref sig .tc .vmem S1x1x4096x128 .bf16) (harg4 : arg4.IsWhole)
  (arg6 arg7 : Memref sig .tc .vmem S512x512 .f32) (arg8 arg9 arg10 arg11 arg12 : Memref sig .tc .vmem S512x128 .f32)
  (x0 x1 : Vec F S1x1x4096x192 .bf16) (x2 : Vec F S1x1x4096x128 .bf16)

/-! Query block 0, its diagonal. -/

theorem s_0_0 :
    v42 c arg2 harg2 arg3 harg3 arg6 x0 x1 = sD x0 x1 0 := by
  unfold v42 HS0_1
  refine (read_512 _ _ (scoreD _ _) _ _).trans ?_
  exact (congrArg₂ scoreD (blk_eq arg2 harg2 x0 0 0 _ rfl) (blk_eq arg3 harg3 x1 0 0 _ rfl))

theorem r_0_0 :
    v38 c arg2 harg2 arg3 harg3 arg8 x0 x1 = rowMax (sD x0 x1 0) := by
  unfold v38 HS2_1
  refine (read_128 _ _ (rowMax (scoreD _ _)) _ _).trans ?_
  exact (congrArg rowMax (congrArg₂ scoreD (blk_eq arg2 harg2 x0 0 0 _ rfl) (blk_eq arg3 harg3 x1 0 0 _ rfl)))

theorem l_0_0 :
    v c arg2 harg2 arg3 harg3 arg6 arg8 arg11 x0 x1 = (st x0 x1 x2 0 0).l := by
  unfold v HS5_1
  refine (read_128 _ _ (lanes (pow _ _)) _ _).trans ?_
  exact (congrArg₂ (fun a b => lanes (pow a b)) (r_0_0 c arg2 harg2 arg3 harg3 arg8 x0 x1) (s_0_0 c arg2 harg2 arg3 harg3 arg6 x0 x1))

theorem a_0_0 :
    v66 c arg2 harg2 arg3 harg3 arg4 harg4 arg6 arg8 arg12 x0 x1 x2 = (st x0 x1 x2 0 0).a := by
  unfold v66 HS6_1
  refine (read_128 _ _ (weigh (pow _ _) _) _ _).trans ?_
  exact (congr (congrArg₂ (fun a b => weigh (pow a b)) (r_0_0 c arg2 harg2 arg3 harg3 arg8 x0 x1) (s_0_0 c arg2 harg2 arg3 harg3 arg6 x0 x1)) (blkV_eq arg4 harg4 x2 0 0 _ rfl))

/-! Query block 1, its diagonal. -/

theorem s_1_0 :
    v92 c arg2 harg2 arg3 harg3 arg7 x0 x1 = sD x0 x1 1 := by
  unfold v92 HS1_1 r k0_pay5
  refine (read_512 _ _ (scoreD _ _) _ _).trans ?_
  exact (congrArg₂ scoreD (blk_eq arg2 harg2 x0 1 512 _ rfl) (blk_eq arg3 harg3 x1 1 512 _ rfl))

theorem r_1_0 :
    v88 c arg2 harg2 arg3 harg3 arg9 x0 x1 = rowMax (sD x0 x1 1) := by
  unfold v88 HS3_1 r k0_pay6
  refine (read_128 _ _ (rowMax (scoreD _ _)) _ _).trans ?_
  exact (congrArg rowMax (congrArg₂ scoreD (blk_eq arg2 harg2 x0 1 512 _ rfl) (blk_eq arg3 harg3 x1 1 512 _ rfl)))

theorem m_1_0 :
    v131 c arg2 harg2 arg3 harg3 arg8 arg9 arg10 x0 x1 = (st x0 x1 x2 1 0).m := by
  unfold v131 HS4_2
  refine (read_128e _ _ (v88 c arg2 harg2 arg3 harg3 arg9 x0 x1) _ _).trans ?_
  exact ((r_1_0 c arg2 harg2 arg3 harg3 arg9 x0 x1).trans (st_zero_m _ _ _ _).symm)

theorem l_1_0 :
    v154 c arg2 harg2 arg3 harg3 arg6 arg7 arg8 arg9 arg11 x0 x1 = (st x0 x1 x2 1 0).l := by
  unfold v154 HS5_2 r_2 k0_pay18
  refine (read_128 _ _ (lanes (pow _ _)) _ _).trans ?_
  exact (congrArg₂ (fun a b => lanes (pow a b)) (r_1_0 c arg2 harg2 arg3 harg3 arg9 x0 x1) (s_1_0 c arg2 harg2 arg3 harg3 arg7 x0 x1))

theorem a_1_0 :
    v160 c arg2 harg2 arg3 harg3 arg4 harg4 arg6 arg7 arg8 arg9 arg12 x0 x1 x2 = (st x0 x1 x2 1 0).a := by
  unfold v160 HS6_2 r_2 k0_pay19
  refine (read_128 _ _ (weigh (pow _ _) _) _ _).trans ?_
  exact (congr (congrArg₂ (fun a b => weigh (pow a b)) (r_1_0 c arg2 harg2 arg3 harg3 arg9 x0 x1) (s_1_0 c arg2 harg2 arg3 harg3 arg7 x0 x1)) (blkV_eq arg4 harg4 x2 1 512 _ rfl))

/-! Query block 1, key block 0. -/

theorem s_1_1 :
    v139 c arg2 harg2 arg3 harg3 arg6 x0 x1 = sO x0 x1 1 0 := by
  unfold v139 HS0_2
  refine (read_512 _ _ (score _ _) _ _).trans ?_
  exact (congrArg₂ score (blk_eq arg2 harg2 x0 1 512 _ rfl) (blk_eq arg3 harg3 x1 0 0 _ rfl))

theorem r_1_1 :
    v132 c arg2 harg2 arg3 harg3 arg8 x0 x1 = rowMax (sO x0 x1 1 0) := by
  unfold v132 HS2_2
  refine (read_128 _ _ (rowMax (score _ _)) _ _).trans ?_
  exact (congrArg rowMax (congrArg₂ score (blk_eq arg2 harg2 x0 1 512 _ rfl) (blk_eq arg3 harg3 x1 0 0 _ rfl)))

theorem l_1_1 :
    v166 c arg2 harg2 arg3 harg3 arg6 arg7 arg8 arg9 arg10 arg11 x0 x1 = (st x0 x1 x2 1 1).l := by
  unfold v166 HS5_3
  refine (read_128 _ _ (nextL _ _ _ _) _ _).trans ?_
  exact (congr (congr (congrArg₂ nextL (m_1_0 c arg2 harg2 arg3 harg3 arg8 arg9 arg10 x0 x1 x2) (r_1_1 c arg2 harg2 arg3 harg3 arg8 x0 x1)) (s_1_1 c arg2 harg2 arg3 harg3 arg6 x0 x1)) (l_1_0 c arg2 harg2 arg3 harg3 arg6 arg7 arg8 arg9 arg11 x0 x1 x2))

theorem a_1_1 :
    v169 c arg2 harg2 arg3 harg3 arg4 harg4 arg6 arg7 arg8 arg9 arg10 arg12 x0 x1 x2 = (st x0 x1 x2 1 1).a := by
  unfold v169 HS6_3 r_4 k0_pay30
  refine (read_128 _ _ (nextA _ _ _ _ _) _ _).trans ?_
  exact (congr (congr (congr (congrArg₂ nextA (m_1_0 c arg2 harg2 arg3 harg3 arg8 arg9 arg10 x0 x1 x2) (r_1_1 c arg2 harg2 arg3 harg3 arg8 x0 x1)) (s_1_1 c arg2 harg2 arg3 harg3 arg6 x0 x1)) (blkV_eq arg4 harg4 x2 0 0 _ rfl)) (a_1_0 c arg2 harg2 arg3 harg3 arg4 harg4 arg6 arg7 arg8 arg9 arg12 x0 x1 x2))

/-! Query block 2, its diagonal. -/

theorem s_2_0 :
    v195 c arg2 harg2 arg3 harg3 arg7 x0 x1 = sD x0 x1 2 := by
  unfold v195 HS1_2
  refine (read_512 _ _ (scoreD _ _) _ _).trans ?_
  exact (congrArg₂ scoreD (blk_eq arg2 harg2 x0 2 1024 _ rfl) (blk_eq arg3 harg3 x1 2 1024 _ rfl))

theorem r_2_0 :
    v191 c arg2 harg2 arg3 harg3 arg9 x0 x1 = rowMax (sD x0 x1 2) := by
  unfold v191 HS3_2 r_3 k0_pay23
  refine (read_128 _ _ (rowMax (scoreD _ _)) _ _).trans ?_
  exact (congrArg rowMax (congrArg₂ scoreD (blk_eq arg2 harg2 x0 2 1024 _ rfl) (blk_eq arg3 harg3 x1 2 1024 _ rfl)))

theorem m_2_0 :
    v231 c arg2 harg2 arg3 harg3 arg8 arg9 arg10 x0 x1 = (st x0 x1 x2 2 0).m := by
  unfold v231 HS4_4
  refine (read_128e _ _ (v191 c arg2 harg2 arg3 harg3 arg9 x0 x1) _ _).trans ?_
  exact ((r_2_0 c arg2 harg2 arg3 harg3 arg9 x0 x1).trans (st_zero_m _ _ _ _).symm)

theorem l_2_0 :
    v254 c arg2 harg2 arg3 harg3 arg6 arg7 arg8 arg9 arg10 arg11 x0 x1 = (st x0 x1 x2 2 0).l := by
  unfold v254 HS5_4
  refine (read_128 _ _ (lanes (pow _ _)) _ _).trans ?_
  exact (congrArg₂ (fun a b => lanes (pow a b)) (r_2_0 c arg2 harg2 arg3 harg3 arg9 x0 x1) (s_2_0 c arg2 harg2 arg3 harg3 arg7 x0 x1))

theorem a_2_0 :
    v260 c arg2 harg2 arg3 harg3 arg4 harg4 arg6 arg7 arg8 arg9 arg10 arg12 x0 x1 x2 = (st x0 x1 x2 2 0).a := by
  unfold v260 HS6_4
  refine (read_128 _ _ (weigh (pow _ _) _) _ _).trans ?_
  exact (congr (congrArg₂ (fun a b => weigh (pow a b)) (r_2_0 c arg2 harg2 arg3 harg3 arg9 x0 x1) (s_2_0 c arg2 harg2 arg3 harg3 arg7 x0 x1)) (blkV_eq arg4 harg4 x2 2 1024 _ rfl))

/-! Query block 2, key block 0. -/

theorem s_2_1 :
    v239 c arg2 harg2 arg3 harg3 arg6 x0 x1 = sO x0 x1 2 0 := by
  unfold v239 HS0_3
  refine (read_512 _ _ (score _ _) _ _).trans ?_
  exact (congrArg₂ score (blk_eq arg2 harg2 x0 2 1024 _ rfl) (blk_eq arg3 harg3 x1 0 0 _ rfl))

theorem r_2_1 :
    v232 c arg2 harg2 arg3 harg3 arg8 x0 x1 = rowMax (sO x0 x1 2 0) := by
  unfold v232 HS2_3
  refine (read_128 _ _ (rowMax (score _ _)) _ _).trans ?_
  exact (congrArg rowMax (congrArg₂ score (blk_eq arg2 harg2 x0 2 1024 _ rfl) (blk_eq arg3 harg3 x1 0 0 _ rfl)))

theorem m_2_1 :
    v284 c arg2 harg2 arg3 harg3 arg8 arg9 arg10 x0 x1 = (st x0 x1 x2 2 1).m := by
  unfold v284 HS4_5
  refine (read_128 _ _ (maximumf _ _) _ _).trans ?_
  exact (congrArg₂ maximumf (m_2_0 c arg2 harg2 arg3 harg3 arg8 arg9 arg10 x0 x1 x2) (r_2_1 c arg2 harg2 arg3 harg3 arg8 x0 x1))

theorem l_2_1 :
    v307 c arg2 harg2 arg3 harg3 arg6 arg7 arg8 arg9 arg10 arg11 x0 x1 = (st x0 x1 x2 2 1).l := by
  unfold v307 HS5_5
  refine (read_128 _ _ (nextL _ _ _ _) _ _).trans ?_
  exact (congr (congr (congrArg₂ nextL (m_2_0 c arg2 harg2 arg3 harg3 arg8 arg9 arg10 x0 x1 x2) (r_2_1 c arg2 harg2 arg3 harg3 arg8 x0 x1)) (s_2_1 c arg2 harg2 arg3 harg3 arg6 x0 x1)) (l_2_0 c arg2 harg2 arg3 harg3 arg6 arg7 arg8 arg9 arg10 arg11 x0 x1 x2))

theorem a_2_1 :
    v313 c arg2 harg2 arg3 harg3 arg4 harg4 arg6 arg7 arg8 arg9 arg10 arg12 x0 x1 x2 = (st x0 x1 x2 2 1).a := by
  unfold v313 HS6_5 r_6 r_7 k0_pay50
  refine (read_128 _ _ (nextA _ _ _ _ _) _ _).trans ?_
  exact (congr (congr (congr (congrArg₂ nextA (m_2_0 c arg2 harg2 arg3 harg3 arg8 arg9 arg10 x0 x1 x2) (r_2_1 c arg2 harg2 arg3 harg3 arg8 x0 x1)) (s_2_1 c arg2 harg2 arg3 harg3 arg6 x0 x1)) (blkV_eq arg4 harg4 x2 0 0 _ rfl)) (a_2_0 c arg2 harg2 arg3 harg3 arg4 harg4 arg6 arg7 arg8 arg9 arg10 arg12 x0 x1 x2))

/-! Query block 2, key block 1. -/

theorem s_2_2 :
    v292 c arg2 harg2 arg3 harg3 arg7 x0 x1 = sO x0 x1 2 1 := by
  unfold v292 HS1_3
  refine (read_512 _ _ (score _ _) _ _).trans ?_
  exact (congrArg₂ score (blk_eq arg2 harg2 x0 2 1024 _ rfl) (blk_eq arg3 harg3 x1 1 512 _ rfl))

theorem r_2_2 :
    v285 c arg2 harg2 arg3 harg3 arg9 x0 x1 = rowMax (sO x0 x1 2 1) := by
  unfold v285 HS3_3 r_5 k0_pay42
  refine (read_128 _ _ (rowMax (score _ _)) _ _).trans ?_
  exact (congrArg rowMax (congrArg₂ score (blk_eq arg2 harg2 x0 2 1024 _ rfl) (blk_eq arg3 harg3 x1 1 512 _ rfl)))

theorem l_2_2 :
    v319 c arg2 harg2 arg3 harg3 arg6 arg7 arg8 arg9 arg10 arg11 x0 x1 = (st x0 x1 x2 2 2).l := by
  unfold v319 HS5_6 r_8 r_9 k0_pay58
  refine (read_128 _ _ (nextL _ _ _ _) _ _).trans ?_
  exact (congr (congr (congrArg₂ nextL (m_2_1 c arg2 harg2 arg3 harg3 arg8 arg9 arg10 x0 x1 x2) (r_2_2 c arg2 harg2 arg3 harg3 arg9 x0 x1)) (s_2_2 c arg2 harg2 arg3 harg3 arg7 x0 x1)) (l_2_1 c arg2 harg2 arg3 harg3 arg6 arg7 arg8 arg9 arg10 arg11 x0 x1 x2))

theorem a_2_2 :
    v322 c arg2 harg2 arg3 harg3 arg4 harg4 arg6 arg7 arg8 arg9 arg10 arg12 x0 x1 x2 = (st x0 x1 x2 2 2).a := by
  unfold v322 HS6_6 r_8 r_9 k0_pay59
  refine (read_128 _ _ (nextA _ _ _ _ _) _ _).trans ?_
  exact (congr (congr (congr (congrArg₂ nextA (m_2_1 c arg2 harg2 arg3 harg3 arg8 arg9 arg10 x0 x1 x2) (r_2_2 c arg2 harg2 arg3 harg3 arg9 x0 x1)) (s_2_2 c arg2 harg2 arg3 harg3 arg7 x0 x1)) (blkV_eq arg4 harg4 x2 1 512 _ rfl)) (a_2_1 c arg2 harg2 arg3 harg3 arg4 harg4 arg6 arg7 arg8 arg9 arg10 arg12 x0 x1 x2))

/-! Query block 3, its diagonal. -/

theorem s_3_0 :
    v348 c arg2 harg2 arg3 harg3 arg6 x0 x1 = sD x0 x1 3 := by
  unfold v348 HS0_4
  refine (read_512 _ _ (scoreD _ _) _ _).trans ?_
  exact (congrArg₂ scoreD (blk_eq arg2 harg2 x0 3 1536 _ rfl) (blk_eq arg3 harg3 x1 3 1536 _ rfl))

theorem r_3_0 :
    v344 c arg2 harg2 arg3 harg3 arg8 x0 x1 = rowMax (sD x0 x1 3) := by
  unfold v344 HS2_4
  refine (read_128 _ _ (rowMax (scoreD _ _)) _ _).trans ?_
  exact (congrArg rowMax (congrArg₂ scoreD (blk_eq arg2 harg2 x0 3 1536 _ rfl) (blk_eq arg3 harg3 x1 3 1536 _ rfl)))

theorem m_3_0 :
    v384 c arg2 harg2 arg3 harg3 arg8 arg9 arg10 x0 x1 = (st x0 x1 x2 3 0).m := by
  unfold v384 HS4_7
  refine (read_128e _ _ (v344 c arg2 harg2 arg3 harg3 arg8 x0 x1) _ _).trans ?_
  exact ((r_3_0 c arg2 harg2 arg3 harg3 arg8 x0 x1).trans (st_zero_m _ _ _ _).symm)

theorem l_3_0 :
    v407 c arg2 harg2 arg3 harg3 arg6 arg7 arg8 arg9 arg10 arg11 x0 x1 = (st x0 x1 x2 3 0).l := by
  unfold v407 HS5_7 r_10 k0_pay69
  refine (read_128 _ _ (lanes (pow _ _)) _ _).trans ?_
  exact (congrArg₂ (fun a b => lanes (pow a b)) (r_3_0 c arg2 harg2 arg3 harg3 arg8 x0 x1) (s_3_0 c arg2 harg2 arg3 harg3 arg6 x0 x1))

theorem a_3_0 :
    v413 c arg2 harg2 arg3 harg3 arg4 harg4 arg6 arg7 arg8 arg9 arg10 arg12 x0 x1 x2 = (st x0 x1 x2 3 0).a := by
  unfold v413 HS6_7 r_11 r_12 k0_pay70
  refine (read_128 _ _ (weigh (pow _ _) _) _ _).trans ?_
  exact (congr (congrArg₂ (fun a b => weigh (pow a b)) (r_3_0 c arg2 harg2 arg3 harg3 arg8 x0 x1) (s_3_0 c arg2 harg2 arg3 harg3 arg6 x0 x1)) (blkV_eq arg4 harg4 x2 3 1536 _ rfl))

/-! Query block 3, key block 0. -/

theorem s_3_1 :
    v392 c arg2 harg2 arg3 harg3 arg7 x0 x1 = sO x0 x1 3 0 := by
  unfold v392 HS1_4
  refine (read_512 _ _ (score _ _) _ _).trans ?_
  exact (congrArg₂ score (blk_eq arg2 harg2 x0 3 1536 _ rfl) (blk_eq arg3 harg3 x1 0 0 _ rfl))

theorem r_3_1 :
    v385 c arg2 harg2 arg3 harg3 arg9 x0 x1 = rowMax (sO x0 x1 3 0) := by
  unfold v385 HS3_4
  refine (read_128 _ _ (rowMax (score _ _)) _ _).trans ?_
  exact (congrArg rowMax (congrArg₂ score (blk_eq arg2 harg2 x0 3 1536 _ rfl) (blk_eq arg3 harg3 x1 0 0 _ rfl)))

theorem m_3_1 :
    v434 c arg2 harg2 arg3 harg3 arg8 arg9 arg10 x0 x1 = (st x0 x1 x2 3 1).m := by
  unfold v434 HS4_8
  refine (read_128 _ _ (maximumf _ _) _ _).trans ?_
  exact (congrArg₂ maximumf (m_3_0 c arg2 harg2 arg3 harg3 arg8 arg9 arg10 x0 x1 x2) (r_3_1 c arg2 harg2 arg3 harg3 arg9 x0 x1))

theorem l_3_1 :
    v457 c arg2 harg2 arg3 harg3 arg6 arg7 arg8 arg9 arg10 arg11 x0 x1 = (st x0 x1 x2 3 1).l := by
  unfold v457 HS5_8 r_13 r_14 k0_pay78
  refine (read_128 _ _ (nextL _ _ _ _) _ _).trans ?_
  exact (congr (congr (congrArg₂ nextL (m_3_0 c arg2 harg2 arg3 harg3 arg8 arg9 arg10 x0 x1 x2) (r_3_1 c arg2 harg2 arg3 harg3 arg9 x0 x1)) (s_3_1 c arg2 harg2 arg3 harg3 arg7 x0 x1)) (l_3_0 c arg2 harg2 arg3 harg3 arg6 arg7 arg8 arg9 arg10 arg11 x0 x1 x2))

theorem a_3_1 :
    v463 c arg2 harg2 arg3 harg3 arg4 harg4 arg6 arg7 arg8 arg9 arg10 arg12 x0 x1 x2 = (st x0 x1 x2 3 1).a := by
  unfold v463 HS6_8 r_13 r_14 k0_pay79
  refine (read_128 _ _ (nextA _ _ _ _ _) _ _).trans ?_
  exact (congr (congr (congr (congrArg₂ nextA (m_3_0 c arg2 harg2 arg3 harg3 arg8 arg9 arg10 x0 x1 x2) (r_3_1 c arg2 harg2 arg3 harg3 arg9 x0 x1)) (s_3_1 c arg2 harg2 arg3 harg3 arg7 x0 x1)) (blkV_eq arg4 harg4 x2 0 0 _ rfl)) (a_3_0 c arg2 harg2 arg3 harg3 arg4 harg4 arg6 arg7 arg8 arg9 arg10 arg12 x0 x1 x2))

/-! Query block 3, key block 1. -/

theorem s_3_2 :
    v442 c arg2 harg2 arg3 harg3 arg6 x0 x1 = sO x0 x1 3 1 := by
  unfold v442 HS0_5
  refine (read_512 _ _ (score _ _) _ _).trans ?_
  exact (congrArg₂ score (blk_eq arg2 harg2 x0 3 1536 _ rfl) (blk_eq arg3 harg3 x1 1 512 _ rfl))

theorem r_3_2 :
    v435 c arg2 harg2 arg3 harg3 arg8 x0 x1 = rowMax (sO x0 x1 3 1) := by
  unfold v435 HS2_5
  refine (read_128 _ _ (rowMax (score _ _)) _ _).trans ?_
  exact (congrArg rowMax (congrArg₂ score (blk_eq arg2 harg2 x0 3 1536 _ rfl) (blk_eq arg3 harg3 x1 1 512 _ rfl)))

theorem m_3_2 :
    v487 c arg2 harg2 arg3 harg3 arg8 arg9 arg10 x0 x1 = (st x0 x1 x2 3 2).m := by
  unfold v487 HS4_9
  refine (read_128 _ _ (maximumf _ _) _ _).trans ?_
  exact (congrArg₂ maximumf (m_3_1 c arg2 harg2 arg3 harg3 arg8 arg9 arg10 x0 x1 x2) (r_3_2 c arg2 harg2 arg3 harg3 arg8 x0 x1))

theorem l_3_2 :
    v510 c arg2 harg2 arg3 harg3 arg6 arg7 arg8 arg9 arg10 arg11 x0 x1 = (st x0 x1 x2 3 2).l := by
  unfold v510 HS5_9 r_18 k0_pay89
  refine (read_128 _ _ (nextL _ _ _ _) _ _).trans ?_
  exact (congr (congr (congrArg₂ nextL (m_3_1 c arg2 harg2 arg3 harg3 arg8 arg9 arg10 x0 x1 x2) (r_3_2 c arg2 harg2 arg3 harg3 arg8 x0 x1)) (s_3_2 c arg2 harg2 arg3 harg3 arg6 x0 x1)) (l_3_1 c arg2 harg2 arg3 harg3 arg6 arg7 arg8 arg9 arg10 arg11 x0 x1 x2))

theorem a_3_2 :
    v516 c arg2 harg2 arg3 harg3 arg4 harg4 arg6 arg7 arg8 arg9 arg10 arg12 x0 x1 x2 = (st x0 x1 x2 3 2).a := by
  unfold v516 HS6_9 r_16 r_17 k0_pay90
  refine (read_128 _ _ (nextA _ _ _ _ _) _ _).trans ?_
  exact (congr (congr (congr (congrArg₂ nextA (m_3_1 c arg2 harg2 arg3 harg3 arg8 arg9 arg10 x0 x1 x2) (r_3_2 c arg2 harg2 arg3 harg3 arg8 x0 x1)) (s_3_2 c arg2 harg2 arg3 harg3 arg6 x0 x1)) (blkV_eq arg4 harg4 x2 1 512 _ rfl)) (a_3_1 c arg2 harg2 arg3 harg3 arg4 harg4 arg6 arg7 arg8 arg9 arg10 arg12 x0 x1 x2))

/-! Query block 3, key block 2. -/

theorem s_3_3 :
    v495 c arg2 harg2 arg3 harg3 arg7 x0 x1 = sO x0 x1 3 2 := by
  unfold v495 HS1_5 r_15 k0_pay81
  refine (read_512 _ _ (score _ _) _ _).trans ?_
  exact (congrArg₂ score (blk_eq arg2 harg2 x0 3 1536 _ rfl) (blk_eq arg3 harg3 x1 2 1024 _ rfl))

theorem r_3_3 :
    v488 c arg2 harg2 arg3 harg3 arg9 x0 x1 = rowMax (sO x0 x1 3 2) := by
  unfold v488 HS3_5 r_15 k0_pay82
  refine (read_128 _ _ (rowMax (score _ _)) _ _).trans ?_
  exact (congrArg rowMax (congrArg₂ score (blk_eq arg2 harg2 x0 3 1536 _ rfl) (blk_eq arg3 harg3 x1 2 1024 _ rfl)))

theorem l_3_3 :
    v522 c arg2 harg2 arg3 harg3 arg6 arg7 arg8 arg9 arg10 arg11 x0 x1 = (st x0 x1 x2 3 3).l := by
  unfold v522 HS5_10 r_19 r_20 k0_pay98
  refine (read_128 _ _ (nextL _ _ _ _) _ _).trans ?_
  exact (congr (congr (congrArg₂ nextL (m_3_2 c arg2 harg2 arg3 harg3 arg8 arg9 arg10 x0 x1 x2) (r_3_3 c arg2 harg2 arg3 harg3 arg9 x0 x1)) (s_3_3 c arg2 harg2 arg3 harg3 arg7 x0 x1)) (l_3_2 c arg2 harg2 arg3 harg3 arg6 arg7 arg8 arg9 arg10 arg11 x0 x1 x2))

theorem a_3_3 :
    v525 c arg2 harg2 arg3 harg3 arg4 harg4 arg6 arg7 arg8 arg9 arg10 arg12 x0 x1 x2 = (st x0 x1 x2 3 3).a := by
  unfold v525 HS6_10 r_19 r_20 k0_pay99
  refine (read_128 _ _ (nextA _ _ _ _ _) _ _).trans ?_
  exact (congr (congr (congr (congrArg₂ nextA (m_3_2 c arg2 harg2 arg3 harg3 arg8 arg9 arg10 x0 x1 x2) (r_3_3 c arg2 harg2 arg3 harg3 arg9 x0 x1)) (s_3_3 c arg2 harg2 arg3 harg3 arg7 x0 x1)) (blkV_eq arg4 harg4 x2 2 1024 _ rfl)) (a_3_2 c arg2 harg2 arg3 harg3 arg4 harg4 arg6 arg7 arg8 arg9 arg10 arg12 x0 x1 x2))

/-! Query block 4, its diagonal. -/

theorem s_4_0 :
    v551 c arg2 harg2 arg3 harg3 arg6 x0 x1 = sD x0 x1 4 := by
  unfold v551 HS0_6
  refine (read_512 _ _ (scoreD _ _) _ _).trans ?_
  exact (congrArg₂ scoreD (blk_eq arg2 harg2 x0 4 2048 _ rfl) (blk_eq arg3 harg3 x1 4 2048 _ rfl))

theorem r_4_0 :
    v547 c arg2 harg2 arg3 harg3 arg8 x0 x1 = rowMax (sD x0 x1 4) := by
  unfold v547 HS2_6
  refine (read_128 _ _ (rowMax (scoreD _ _)) _ _).trans ?_
  exact (congrArg rowMax (congrArg₂ scoreD (blk_eq arg2 harg2 x0 4 2048 _ rfl) (blk_eq arg3 harg3 x1 4 2048 _ rfl)))

theorem m_4_0 :
    v587 c arg2 harg2 arg3 harg3 arg8 arg9 arg10 x0 x1 = (st x0 x1 x2 4 0).m := by
  unfold v587 HS4_11
  refine (read_128e _ _ (v547 c arg2 harg2 arg3 harg3 arg8 x0 x1) _ _).trans ?_
  exact ((r_4_0 c arg2 harg2 arg3 harg3 arg8 x0 x1).trans (st_zero_m _ _ _ _).symm)

theorem l_4_0 :
    v610 c arg2 harg2 arg3 harg3 arg6 arg7 arg8 arg9 arg10 arg11 x0 x1 = (st x0 x1 x2 4 0).l := by
  unfold v610 HS5_11 r_23 k0_pay108
  refine (read_128 _ _ (lanes (pow _ _)) _ _).trans ?_
  exact (congrArg₂ (fun a b => lanes (pow a b)) (r_4_0 c arg2 harg2 arg3 harg3 arg8 x0 x1) (s_4_0 c arg2 harg2 arg3 harg3 arg6 x0 x1))

theorem a_4_0 :
    v616 c arg2 harg2 arg3 harg3 arg4 harg4 arg6 arg7 arg8 arg9 arg10 arg12 x0 x1 x2 = (st x0 x1 x2 4 0).a := by
  unfold v616 HS6_11 r_22 k0_pay109
  refine (read_128 _ _ (weigh (pow _ _) _) _ _).trans ?_
  exact (congr (congrArg₂ (fun a b => weigh (pow a b)) (r_4_0 c arg2 harg2 arg3 harg3 arg8 x0 x1) (s_4_0 c arg2 harg2 arg3 harg3 arg6 x0 x1)) (blkV_eq arg4 harg4 x2 4 2048 _ rfl))

/-! Query block 4, key block 0. -/

theorem s_4_1 :
    v595 c arg2 harg2 arg3 harg3 arg7 x0 x1 = sO x0 x1 4 0 := by
  unfold v595 HS1_6
  refine (read_512 _ _ (score _ _) _ _).trans ?_
  exact (congrArg₂ score (blk_eq arg2 harg2 x0 4 2048 _ rfl) (blk_eq arg3 harg3 x1 0 0 _ rfl))

theorem r_4_1 :
    v588 c arg2 harg2 arg3 harg3 arg9 x0 x1 = rowMax (sO x0 x1 4 0) := by
  unfold v588 HS3_6
  refine (read_128 _ _ (rowMax (score _ _)) _ _).trans ?_
  exact (congrArg rowMax (congrArg₂ score (blk_eq arg2 harg2 x0 4 2048 _ rfl) (blk_eq arg3 harg3 x1 0 0 _ rfl)))

theorem m_4_1 :
    v637 c arg2 harg2 arg3 harg3 arg8 arg9 arg10 x0 x1 = (st x0 x1 x2 4 1).m := by
  unfold v637 HS4_12 r_24 k0_pay116
  refine (read_128 _ _ (maximumf _ _) _ _).trans ?_
  exact (congrArg₂ maximumf (m_4_0 c arg2 harg2 arg3 harg3 arg8 arg9 arg10 x0 x1 x2) (r_4_1 c arg2 harg2 arg3 harg3 arg9 x0 x1))

theorem l_4_1 :
    v660 c arg2 harg2 arg3 harg3 arg6 arg7 arg8 arg9 arg10 arg11 x0 x1 = (st x0 x1 x2 4 1).l := by
  unfold v660 HS5_12 r_24 r_25 k0_pay118
  refine (read_128 _ _ (nextL _ _ _ _) _ _).trans ?_
  exact (congr (congr (congrArg₂ nextL (m_4_0 c arg2 harg2 arg3 harg3 arg8 arg9 arg10 x0 x1 x2) (r_4_1 c arg2 harg2 arg3 harg3 arg9 x0 x1)) (s_4_1 c arg2 harg2 arg3 harg3 arg7 x0 x1)) (l_4_0 c arg2 harg2 arg3 harg3 arg6 arg7 arg8 arg9 arg10 arg11 x0 x1 x2))

theorem a_4_1 :
    v666 c arg2 harg2 arg3 harg3 arg4 harg4 arg6 arg7 arg8 arg9 arg10 arg12 x0 x1 x2 = (st x0 x1 x2 4 1).a := by
  unfold v666 HS6_12 r_24 r_25 k0_pay119
  refine (read_128 _ _ (nextA _ _ _ _ _) _ _).trans ?_
  exact (congr (congr (congr (congrArg₂ nextA (m_4_0 c arg2 harg2 arg3 harg3 arg8 arg9 arg10 x0 x1 x2) (r_4_1 c arg2 harg2 arg3 harg3 arg9 x0 x1)) (s_4_1 c arg2 harg2 arg3 harg3 arg7 x0 x1)) (blkV_eq arg4 harg4 x2 0 0 _ rfl)) (a_4_0 c arg2 harg2 arg3 harg3 arg4 harg4 arg6 arg7 arg8 arg9 arg10 arg12 x0 x1 x2))

/-! Query block 4, key block 1. -/

theorem s_4_2 :
    v645 c arg2 harg2 arg3 harg3 arg6 x0 x1 = sO x0 x1 4 1 := by
  unfold v645 HS0_7
  refine (read_512 _ _ (score _ _) _ _).trans ?_
  exact (congrArg₂ score (blk_eq arg2 harg2 x0 4 2048 _ rfl) (blk_eq arg3 harg3 x1 1 512 _ rfl))

theorem r_4_2 :
    v638 c arg2 harg2 arg3 harg3 arg8 x0 x1 = rowMax (sO x0 x1 4 1) := by
  unfold v638 HS2_7
  refine (read_128 _ _ (rowMax (score _ _)) _ _).trans ?_
  exact (congrArg rowMax (congrArg₂ score (blk_eq arg2 harg2 x0 4 2048 _ rfl) (blk_eq arg3 harg3 x1 1 512 _ rfl)))

theorem m_4_2 :
    v687 c arg2 harg2 arg3 harg3 arg8 arg9 arg10 x0 x1 = (st x0 x1 x2 4 2).m := by
  unfold v687 HS4_13
  refine (read_128 _ _ (maximumf _ _) _ _).trans ?_
  exact (congrArg₂ maximumf (m_4_1 c arg2 harg2 arg3 harg3 arg8 arg9 arg10 x0 x1 x2) (r_4_2 c arg2 harg2 arg3 harg3 arg8 x0 x1))

theorem l_4_2 :
    v710 c arg2 harg2 arg3 harg3 arg6 arg7 arg8 arg9 arg10 arg11 x0 x1 = (st x0 x1 x2 4 2).l := by
  unfold v710 HS5_13 r_27 r_28 k0_pay130
  refine (read_128 _ _ (nextL _ _ _ _) _ _).trans ?_
  exact (congr (congr (congrArg₂ nextL (m_4_1 c arg2 harg2 arg3 harg3 arg8 arg9 arg10 x0 x1 x2) (r_4_2 c arg2 harg2 arg3 harg3 arg8 x0 x1)) (s_4_2 c arg2 harg2 arg3 harg3 arg6 x0 x1)) (l_4_1 c arg2 harg2 arg3 harg3 arg6 arg7 arg8 arg9 arg10 arg11 x0 x1 x2))

theorem a_4_2 :
    v716 c arg2 harg2 arg3 harg3 arg4 harg4 arg6 arg7 arg8 arg9 arg10 arg12 x0 x1 x2 = (st x0 x1 x2 4 2).a := by
  unfold v716 HS6_13 r_27 r_29 k0_pay131
  refine (read_128 _ _ (nextA _ _ _ _ _) _ _).trans ?_
  exact (congr (congr (congr (congrArg₂ nextA (m_4_1 c arg2 harg2 arg3 harg3 arg8 arg9 arg10 x0 x1 x2) (r_4_2 c arg2 harg2 arg3 harg3 arg8 x0 x1)) (s_4_2 c arg2 harg2 arg3 harg3 arg6 x0 x1)) (blkV_eq arg4 harg4 x2 1 512 _ rfl)) (a_4_1 c arg2 harg2 arg3 harg3 arg4 harg4 arg6 arg7 arg8 arg9 arg10 arg12 x0 x1 x2))

/-! Query block 4, key block 2. -/

theorem s_4_3 :
    v695 c arg2 harg2 arg3 harg3 arg7 x0 x1 = sO x0 x1 4 2 := by
  unfold v695 HS1_7 r_26 k0_pay122
  refine (read_512 _ _ (score _ _) _ _).trans ?_
  exact (congrArg₂ score (blk_eq arg2 harg2 x0 4 2048 _ rfl) (blk_eq arg3 harg3 x1 2 1024 _ rfl))

theorem r_4_3 :
    v688 c arg2 harg2 arg3 harg3 arg9 x0 x1 = rowMax (sO x0 x1 4 2) := by
  unfold v688 HS3_7 r_26 k0_pay123
  refine (read_128 _ _ (rowMax (score _ _)) _ _).trans ?_
  exact (congrArg rowMax (congrArg₂ score (blk_eq arg2 harg2 x0 4 2048 _ rfl) (blk_eq arg3 harg3 x1 2 1024 _ rfl)))

theorem m_4_3 :
    v740 c arg2 harg2 arg3 harg3 arg8 arg9 arg10 x0 x1 = (st x0 x1 x2 4 3).m := by
  unfold v740 HS4_14 r_30 k0_pay138
  refine (read_128 _ _ (maximumf _ _) _ _).trans ?_
  exact (congrArg₂ maximumf (m_4_2 c arg2 harg2 arg3 harg3 arg8 arg9 arg10 x0 x1 x2) (r_4_3 c arg2 harg2 arg3 harg3 arg9 x0 x1))

theorem l_4_3 :
    v763 c arg2 harg2 arg3 harg3 arg6 arg7 arg8 arg9 arg10 arg11 x0 x1 = (st x0 x1 x2 4 3).l := by
  unfold v763 HS5_14 r_30 r_31 k0_pay140
  refine (read_128 _ _ (nextL _ _ _ _) _ _).trans ?_
  exact (congr (congr (congrArg₂ nextL (m_4_2 c arg2 harg2 arg3 harg3 arg8 arg9 arg10 x0 x1 x2) (r_4_3 c arg2 harg2 arg3 harg3 arg9 x0 x1)) (s_4_3 c arg2 harg2 arg3 harg3 arg7 x0 x1)) (l_4_2 c arg2 harg2 arg3 harg3 arg6 arg7 arg8 arg9 arg10 arg11 x0 x1 x2))

theorem a_4_3 :
    v769 c arg2 harg2 arg3 harg3 arg4 harg4 arg6 arg7 arg8 arg9 arg10 arg12 x0 x1 x2 = (st x0 x1 x2 4 3).a := by
  unfold v769 HS6_14 r_30 r_31 k0_pay141
  refine (read_128 _ _ (nextA _ _ _ _ _) _ _).trans ?_
  exact (congr (congr (congr (congrArg₂ nextA (m_4_2 c arg2 harg2 arg3 harg3 arg8 arg9 arg10 x0 x1 x2) (r_4_3 c arg2 harg2 arg3 harg3 arg9 x0 x1)) (s_4_3 c arg2 harg2 arg3 harg3 arg7 x0 x1)) (blkV_eq arg4 harg4 x2 2 1024 _ rfl)) (a_4_2 c arg2 harg2 arg3 harg3 arg4 harg4 arg6 arg7 arg8 arg9 arg10 arg12 x0 x1 x2))

/-! Query block 4, key block 3. -/

theorem s_4_4 :
    v748 c arg2 harg2 arg3 harg3 arg6 x0 x1 = sO x0 x1 4 3 := by
  unfold v748 HS0_8
  refine (read_512 _ _ (score _ _) _ _).trans ?_
  exact (congrArg₂ score (blk_eq arg2 harg2 x0 4 2048 _ rfl) (blk_eq arg3 harg3 x1 3 1536 _ rfl))

theorem r_4_4 :
    v741 c arg2 harg2 arg3 harg3 arg8 x0 x1 = rowMax (sO x0 x1 4 3) := by
  unfold v741 HS2_8
  refine (read_128 _ _ (rowMax (score _ _)) _ _).trans ?_
  exact (congrArg rowMax (congrArg₂ score (blk_eq arg2 harg2 x0 4 2048 _ rfl) (blk_eq arg3 harg3 x1 3 1536 _ rfl)))

theorem l_4_4 :
    v775 c arg2 harg2 arg3 harg3 arg6 arg7 arg8 arg9 arg10 arg11 x0 x1 = (st x0 x1 x2 4 4).l := by
  unfold v775 HS5_15 r_33 r_34 k0_pay152
  refine (read_128 _ _ (nextL _ _ _ _) _ _).trans ?_
  exact (congr (congr (congrArg₂ nextL (m_4_3 c arg2 harg2 arg3 harg3 arg8 arg9 arg10 x0 x1 x2) (r_4_4 c arg2 harg2 arg3 harg3 arg8 x0 x1)) (s_4_4 c arg2 harg2 arg3 harg3 arg6 x0 x1)) (l_4_3 c arg2 harg2 arg3 harg3 arg6 arg7 arg8 arg9 arg10 arg11 x0 x1 x2))

theorem a_4_4 :
    v778 c arg2 harg2 arg3 harg3 arg4 harg4 arg6 arg7 arg8 arg9 arg10 arg12 x0 x1 x2 = (st x0 x1 x2 4 4).a := by
  unfold v778 HS6_15 r_33 r_35 r_36 k0_pay153
  refine (read_128 _ _ (nextA _ _ _ _ _) _ _).trans ?_
  exact (congr (congr (congr (congrArg₂ nextA (m_4_3 c arg2 harg2 arg3 harg3 arg8 arg9 arg10 x0 x1 x2) (r_4_4 c arg2 harg2 arg3 harg3 arg8 x0 x1)) (s_4_4 c arg2 harg2 arg3 harg3 arg6 x0 x1)) (blkV_eq arg4 harg4 x2 3 1536 _ rfl)) (a_4_3 c arg2 harg2 arg3 harg3 arg4 harg4 arg6 arg7 arg8 arg9 arg10 arg12 x0 x1 x2))

/-! Query block 5, its diagonal. -/

theorem s_5_0 :
    v804 c arg2 harg2 arg3 harg3 arg7 x0 x1 = sD x0 x1 5 := by
  unfold v804 HS1_8 r_32 k0_pay144
  refine (read_512 _ _ (scoreD _ _) _ _).trans ?_
  exact (congrArg₂ scoreD (blk_eq arg2 harg2 x0 5 2560 _ rfl) (blk_eq arg3 harg3 x1 5 2560 _ rfl))

theorem r_5_0 :
    v800 c arg2 harg2 arg3 harg3 arg9 x0 x1 = rowMax (sD x0 x1 5) := by
  unfold v800 HS3_8 r_32 k0_pay145
  refine (read_128 _ _ (rowMax (scoreD _ _)) _ _).trans ?_
  exact (congrArg rowMax (congrArg₂ scoreD (blk_eq arg2 harg2 x0 5 2560 _ rfl) (blk_eq arg3 harg3 x1 5 2560 _ rfl)))

theorem m_5_0 :
    v840 c arg2 harg2 arg3 harg3 arg8 arg9 arg10 x0 x1 = (st x0 x1 x2 5 0).m := by
  unfold v840 HS4_16
  refine (read_128e _ _ (v800 c arg2 harg2 arg3 harg3 arg9 x0 x1) _ _).trans ?_
  exact ((r_5_0 c arg2 harg2 arg3 harg3 arg9 x0 x1).trans (st_zero_m _ _ _ _).symm)

theorem l_5_0 :
    v863 c arg2 harg2 arg3 harg3 arg6 arg7 arg8 arg9 arg10 arg11 x0 x1 = (st x0 x1 x2 5 0).l := by
  unfold v863 HS5_16
  refine (read_128 _ _ (lanes (pow _ _)) _ _).trans ?_
  exact (congrArg₂ (fun a b => lanes (pow a b)) (r_5_0 c arg2 harg2 arg3 harg3 arg9 x0 x1) (s_5_0 c arg2 harg2 arg3 harg3 arg7 x0 x1))

theorem a_5_0 :
    v869 c arg2 harg2 arg3 harg3 arg4 harg4 arg6 arg7 arg8 arg9 arg10 arg12 x0 x1 x2 = (st x0 x1 x2 5 0).a := by
  unfold v869 HS6_16
  refine (read_128 _ _ (weigh (pow _ _) _) _ _).trans ?_
  exact (congr (congrArg₂ (fun a b => weigh (pow a b)) (r_5_0 c arg2 harg2 arg3 harg3 arg9 x0 x1) (s_5_0 c arg2 harg2 arg3 harg3 arg7 x0 x1)) (blkV_eq arg4 harg4 x2 5 2560 _ rfl))

/-! Query block 5, key block 0. -/

theorem s_5_1 :
    v848 c arg2 harg2 arg3 harg3 arg6 x0 x1 = sO x0 x1 5 0 := by
  unfold v848 HS0_9 r_37 k0_pay156
  refine (read_512 _ _ (score _ _) _ _).trans ?_
  exact (congrArg₂ score (blk_eq arg2 harg2 x0 5 2560 _ rfl) (blk_eq arg3 harg3 x1 0 0 _ rfl))

theorem r_5_1 :
    v841 c arg2 harg2 arg3 harg3 arg8 x0 x1 = rowMax (sO x0 x1 5 0) := by
  unfold v841 HS2_9 r_37 k0_pay157
  refine (read_128 _ _ (rowMax (score _ _)) _ _).trans ?_
  exact (congrArg rowMax (congrArg₂ score (blk_eq arg2 harg2 x0 5 2560 _ rfl) (blk_eq arg3 harg3 x1 0 0 _ rfl)))

theorem m_5_1 :
    v890 c arg2 harg2 arg3 harg3 arg8 arg9 arg10 x0 x1 = (st x0 x1 x2 5 1).m := by
  unfold v890 HS4_17
  refine (read_128 _ _ (maximumf _ _) _ _).trans ?_
  exact (congrArg₂ maximumf (m_5_0 c arg2 harg2 arg3 harg3 arg8 arg9 arg10 x0 x1 x2) (r_5_1 c arg2 harg2 arg3 harg3 arg8 x0 x1))

theorem l_5_1 :
    v913 c arg2 harg2 arg3 harg3 arg6 arg7 arg8 arg9 arg10 arg11 x0 x1 = (st x0 x1 x2 5 1).l := by
  unfold v913 HS5_17 r_38 r_39 k0_pay171
  refine (read_128 _ _ (nextL _ _ _ _) _ _).trans ?_
  exact (congr (congr (congrArg₂ nextL (m_5_0 c arg2 harg2 arg3 harg3 arg8 arg9 arg10 x0 x1 x2) (r_5_1 c arg2 harg2 arg3 harg3 arg8 x0 x1)) (s_5_1 c arg2 harg2 arg3 harg3 arg6 x0 x1)) (l_5_0 c arg2 harg2 arg3 harg3 arg6 arg7 arg8 arg9 arg10 arg11 x0 x1 x2))

theorem a_5_1 :
    v919 c arg2 harg2 arg3 harg3 arg4 harg4 arg6 arg7 arg8 arg9 arg10 arg12 x0 x1 x2 = (st x0 x1 x2 5 1).a := by
  unfold v919 HS6_17 r_38 r_40 k0_pay172
  refine (read_128 _ _ (nextA _ _ _ _ _) _ _).trans ?_
  exact (congr (congr (congr (congrArg₂ nextA (m_5_0 c arg2 harg2 arg3 harg3 arg8 arg9 arg10 x0 x1 x2) (r_5_1 c arg2 harg2 arg3 harg3 arg8 x0 x1)) (s_5_1 c arg2 harg2 arg3 harg3 arg6 x0 x1)) (blkV_eq arg4 harg4 x2 0 0 _ rfl)) (a_5_0 c arg2 harg2 arg3 harg3 arg4 harg4 arg6 arg7 arg8 arg9 arg10 arg12 x0 x1 x2))

/-! Query block 5, key block 1. -/

theorem s_5_2 :
    v898 c arg2 harg2 arg3 harg3 arg7 x0 x1 = sO x0 x1 5 1 := by
  unfold v898 HS1_9
  refine (read_512 _ _ (score _ _) _ _).trans ?_
  exact (congrArg₂ score (blk_eq arg2 harg2 x0 5 2560 _ rfl) (blk_eq arg3 harg3 x1 1 512 _ rfl))

theorem r_5_2 :
    v891 c arg2 harg2 arg3 harg3 arg9 x0 x1 = rowMax (sO x0 x1 5 1) := by
  unfold v891 HS3_9
  refine (read_128 _ _ (rowMax (score _ _)) _ _).trans ?_
  exact (congrArg rowMax (congrArg₂ score (blk_eq arg2 harg2 x0 5 2560 _ rfl) (blk_eq arg3 harg3 x1 1 512 _ rfl)))

theorem m_5_2 :
    v940 c arg2 harg2 arg3 harg3 arg8 arg9 arg10 x0 x1 = (st x0 x1 x2 5 2).m := by
  unfold v940 HS4_18
  refine (read_128 _ _ (maximumf _ _) _ _).trans ?_
  exact (congrArg₂ maximumf (m_5_1 c arg2 harg2 arg3 harg3 arg8 arg9 arg10 x0 x1 x2) (r_5_2 c arg2 harg2 arg3 harg3 arg9 x0 x1))

theorem l_5_2 :
    v963 c arg2 harg2 arg3 harg3 arg6 arg7 arg8 arg9 arg10 arg11 x0 x1 = (st x0 x1 x2 5 2).l := by
  unfold v963 HS5_18
  refine (read_128 _ _ (nextL _ _ _ _) _ _).trans ?_
  exact (congr (congr (congrArg₂ nextL (m_5_1 c arg2 harg2 arg3 harg3 arg8 arg9 arg10 x0 x1 x2) (r_5_2 c arg2 harg2 arg3 harg3 arg9 x0 x1)) (s_5_2 c arg2 harg2 arg3 harg3 arg7 x0 x1)) (l_5_1 c arg2 harg2 arg3 harg3 arg6 arg7 arg8 arg9 arg10 arg11 x0 x1 x2))

theorem a_5_2 :
    v969 c arg2 harg2 arg3 harg3 arg4 harg4 arg6 arg7 arg8 arg9 arg10 arg12 x0 x1 x2 = (st x0 x1 x2 5 2).a := by
  unfold v969 HS6_18
  refine (read_128 _ _ (nextA _ _ _ _ _) _ _).trans ?_
  exact (congr (congr (congr (congrArg₂ nextA (m_5_1 c arg2 harg2 arg3 harg3 arg8 arg9 arg10 x0 x1 x2) (r_5_2 c arg2 harg2 arg3 harg3 arg9 x0 x1)) (s_5_2 c arg2 harg2 arg3 harg3 arg7 x0 x1)) (blkV_eq arg4 harg4 x2 1 512 _ rfl)) (a_5_1 c arg2 harg2 arg3 harg3 arg4 harg4 arg6 arg7 arg8 arg9 arg10 arg12 x0 x1 x2))

/-! Query block 5, key block 2. -/

theorem s_5_3 :
    v948 c arg2 harg2 arg3 harg3 arg6 x0 x1 = sO x0 x1 5 2 := by
  unfold v948 HS0_10
  refine (read_512 _ _ (score _ _) _ _).trans ?_
  exact (congrArg₂ score (blk_eq arg2 harg2 x0 5 2560 _ rfl) (blk_eq arg3 harg3 x1 2 1024 _ rfl))

theorem r_5_3 :
    v941 c arg2 harg2 arg3 harg3 arg8 x0 x1 = rowMax (sO x0 x1 5 2) := by
  unfold v941 HS2_10
  refine (read_128 _ _ (rowMax (score _ _)) _ _).trans ?_
  exact (congrArg rowMax (congrArg₂ score (blk_eq arg2 harg2 x0 5 2560 _ rfl) (blk_eq arg3 harg3 x1 2 1024 _ rfl)))

theorem m_5_3 :
    v990 c arg2 harg2 arg3 harg3 arg8 arg9 arg10 x0 x1 = (st x0 x1 x2 5 3).m := by
  unfold v990 HS4_19
  refine (read_128 _ _ (maximumf _ _) _ _).trans ?_
  exact (congrArg₂ maximumf (m_5_2 c arg2 harg2 arg3 harg3 arg8 arg9 arg10 x0 x1 x2) (r_5_3 c arg2 harg2 arg3 harg3 arg8 x0 x1))

theorem l_5_3 :
    v1013 c arg2 harg2 arg3 harg3 arg6 arg7 arg8 arg9 arg10 arg11 x0 x1 = (st x0 x1 x2 5 3).l := by
  unfold v1013 HS5_19 r_41 r_42 k0_pay191
  refine (read_128 _ _ (nextL _ _ _ _) _ _).trans ?_
  exact (congr (congr (congrArg₂ nextL (m_5_2 c arg2 harg2 arg3 harg3 arg8 arg9 arg10 x0 x1 x2) (r_5_3 c arg2 harg2 arg3 harg3 arg8 x0 x1)) (s_5_3 c arg2 harg2 arg3 harg3 arg6 x0 x1)) (l_5_2 c arg2 harg2 arg3 harg3 arg6 arg7 arg8 arg9 arg10 arg11 x0 x1 x2))

theorem a_5_3 :
    v1019 c arg2 harg2 arg3 harg3 arg4 harg4 arg6 arg7 arg8 arg9 arg10 arg12 x0 x1 x2 = (st x0 x1 x2 5 3).a := by
  unfold v1019 HS6_19 r_41 r_43 k0_pay192
  refine (read_128 _ _ (nextA _ _ _ _ _) _ _).trans ?_
  exact (congr (congr (congr (congrArg₂ nextA (m_5_2 c arg2 harg2 arg3 harg3 arg8 arg9 arg10 x0 x1 x2) (r_5_3 c arg2 harg2 arg3 harg3 arg8 x0 x1)) (s_5_3 c arg2 harg2 arg3 harg3 arg6 x0 x1)) (blkV_eq arg4 harg4 x2 2 1024 _ rfl)) (a_5_2 c arg2 harg2 arg3 harg3 arg4 harg4 arg6 arg7 arg8 arg9 arg10 arg12 x0 x1 x2))

/-! Query block 5, key block 3. -/

theorem s_5_4 :
    v998 c arg2 harg2 arg3 harg3 arg7 x0 x1 = sO x0 x1 5 3 := by
  unfold v998 HS1_10
  refine (read_512 _ _ (score _ _) _ _).trans ?_
  exact (congrArg₂ score (blk_eq arg2 harg2 x0 5 2560 _ rfl) (blk_eq arg3 harg3 x1 3 1536 _ rfl))

theorem r_5_4 :
    v991 c arg2 harg2 arg3 harg3 arg9 x0 x1 = rowMax (sO x0 x1 5 3) := by
  unfold v991 HS3_10
  refine (read_128 _ _ (rowMax (score _ _)) _ _).trans ?_
  exact (congrArg rowMax (congrArg₂ score (blk_eq arg2 harg2 x0 5 2560 _ rfl) (blk_eq arg3 harg3 x1 3 1536 _ rfl)))

theorem m_5_4 :
    v1043 c arg2 harg2 arg3 harg3 arg8 arg9 arg10 x0 x1 = (st x0 x1 x2 5 4).m := by
  unfold v1043 HS4_20
  refine (read_128 _ _ (maximumf _ _) _ _).trans ?_
  exact (congrArg₂ maximumf (m_5_3 c arg2 harg2 arg3 harg3 arg8 arg9 arg10 x0 x1 x2) (r_5_4 c arg2 harg2 arg3 harg3 arg9 x0 x1))

theorem l_5_4 :
    v1066 c arg2 harg2 arg3 harg3 arg6 arg7 arg8 arg9 arg10 arg11 x0 x1 = (st x0 x1 x2 5 4).l := by
  unfold v1066 HS5_20
  refine (read_128 _ _ (nextL _ _ _ _) _ _).trans ?_
  exact (congr (congr (congrArg₂ nextL (m_5_3 c arg2 harg2 arg3 harg3 arg8 arg9 arg10 x0 x1 x2) (r_5_4 c arg2 harg2 arg3 harg3 arg9 x0 x1)) (s_5_4 c arg2 harg2 arg3 harg3 arg7 x0 x1)) (l_5_3 c arg2 harg2 arg3 harg3 arg6 arg7 arg8 arg9 arg10 arg11 x0 x1 x2))

theorem a_5_4 :
    v1072 c arg2 harg2 arg3 harg3 arg4 harg4 arg6 arg7 arg8 arg9 arg10 arg12 x0 x1 x2 = (st x0 x1 x2 5 4).a := by
  unfold v1072 HS6_20
  refine (read_128 _ _ (nextA _ _ _ _ _) _ _).trans ?_
  exact (congr (congr (congr (congrArg₂ nextA (m_5_3 c arg2 harg2 arg3 harg3 arg8 arg9 arg10 x0 x1 x2) (r_5_4 c arg2 harg2 arg3 harg3 arg9 x0 x1)) (s_5_4 c arg2 harg2 arg3 harg3 arg7 x0 x1)) (blkV_eq arg4 harg4 x2 3 1536 _ rfl)) (a_5_3 c arg2 harg2 arg3 harg3 arg4 harg4 arg6 arg7 arg8 arg9 arg10 arg12 x0 x1 x2))

/-! Query block 5, key block 4. -/

theorem s_5_5 :
    v1051 c arg2 harg2 arg3 harg3 arg6 x0 x1 = sO x0 x1 5 4 := by
  unfold v1051 HS0_11
  refine (read_512 _ _ (score _ _) _ _).trans ?_
  exact (congrArg₂ score (blk_eq arg2 harg2 x0 5 2560 _ rfl) (blk_eq arg3 harg3 x1 4 2048 _ rfl))

theorem r_5_5 :
    v1044 c arg2 harg2 arg3 harg3 arg8 x0 x1 = rowMax (sO x0 x1 5 4) := by
  unfold v1044 HS2_11
  refine (read_128 _ _ (rowMax (score _ _)) _ _).trans ?_
  exact (congrArg rowMax (congrArg₂ score (blk_eq arg2 harg2 x0 5 2560 _ rfl) (blk_eq arg3 harg3 x1 4 2048 _ rfl)))

theorem l_5_5 :
    v1078 c arg2 harg2 arg3 harg3 arg6 arg7 arg8 arg9 arg10 arg11 x0 x1 = (st x0 x1 x2 5 5).l := by
  unfold v1078 HS5_21 r_44 r_46 r_47 k0_pay211
  refine (read_128 _ _ (nextL _ _ _ _) _ _).trans ?_
  exact (congr (congr (congrArg₂ nextL (m_5_4 c arg2 harg2 arg3 harg3 arg8 arg9 arg10 x0 x1 x2) (r_5_5 c arg2 harg2 arg3 harg3 arg8 x0 x1)) (s_5_5 c arg2 harg2 arg3 harg3 arg6 x0 x1)) (l_5_4 c arg2 harg2 arg3 harg3 arg6 arg7 arg8 arg9 arg10 arg11 x0 x1 x2))

theorem a_5_5 :
    v1081 c arg2 harg2 arg3 harg3 arg4 harg4 arg6 arg7 arg8 arg9 arg10 arg12 x0 x1 x2 = (st x0 x1 x2 5 5).a := by
  unfold v1081 HS6_21 r_44 r_45 k0_pay212
  refine (read_128 _ _ (nextA _ _ _ _ _) _ _).trans ?_
  exact (congr (congr (congr (congrArg₂ nextA (m_5_4 c arg2 harg2 arg3 harg3 arg8 arg9 arg10 x0 x1 x2) (r_5_5 c arg2 harg2 arg3 harg3 arg8 x0 x1)) (s_5_5 c arg2 harg2 arg3 harg3 arg6 x0 x1)) (blkV_eq arg4 harg4 x2 4 2048 _ rfl)) (a_5_4 c arg2 harg2 arg3 harg3 arg4 harg4 arg6 arg7 arg8 arg9 arg10 arg12 x0 x1 x2))

/-! Query block 6, its diagonal. -/

theorem s_6_0 :
    v1107 c arg2 harg2 arg3 harg3 arg7 x0 x1 = sD x0 x1 6 := by
  unfold v1107 HS1_11
  refine (read_512 _ _ (scoreD _ _) _ _).trans ?_
  exact (congrArg₂ scoreD (blk_eq arg2 harg2 x0 6 3072 _ rfl) (blk_eq arg3 harg3 x1 6 3072 _ rfl))

theorem r_6_0 :
    v1103 c arg2 harg2 arg3 harg3 arg9 x0 x1 = rowMax (sD x0 x1 6) := by
  unfold v1103 HS3_11
  refine (read_128 _ _ (rowMax (scoreD _ _)) _ _).trans ?_
  exact (congrArg rowMax (congrArg₂ scoreD (blk_eq arg2 harg2 x0 6 3072 _ rfl) (blk_eq arg3 harg3 x1 6 3072 _ rfl)))

theorem m_6_0 :
    v1143 c arg2 harg2 arg3 harg3 arg8 arg9 arg10 x0 x1 = (st x0 x1 x2 6 0).m := by
  unfold v1143 HS4_22
  refine (read_128e _ _ (v1103 c arg2 harg2 arg3 harg3 arg9 x0 x1) _ _).trans ?_
  exact ((r_6_0 c arg2 harg2 arg3 harg3 arg9 x0 x1).trans (st_zero_m _ _ _ _).symm)

theorem l_6_0 :
    v1166 c arg2 harg2 arg3 harg3 arg6 arg7 arg8 arg9 arg10 arg11 x0 x1 = (st x0 x1 x2 6 0).l := by
  unfold v1166 HS5_22
  refine (read_128 _ _ (lanes (pow _ _)) _ _).trans ?_
  exact (congrArg₂ (fun a b => lanes (pow a b)) (r_6_0 c arg2 harg2 arg3 harg3 arg9 x0 x1) (s_6_0 c arg2 harg2 arg3 harg3 arg7 x0 x1))

theorem a_6_0 :
    v1172 c arg2 harg2 arg3 harg3 arg4 harg4 arg6 arg7 arg8 arg9 arg10 arg12 x0 x1 x2 = (st x0 x1 x2 6 0).a := by
  unfold v1172 HS6_22 r_49 k0_pay222
  refine (read_128 _ _ (weigh (pow _ _) _) _ _).trans ?_
  exact (congr (congrArg₂ (fun a b => weigh (pow a b)) (r_6_0 c arg2 harg2 arg3 harg3 arg9 x0 x1) (s_6_0 c arg2 harg2 arg3 harg3 arg7 x0 x1)) (blkV_eq arg4 harg4 x2 6 3072 _ rfl))

/-! Query block 6, key block 0. -/

theorem s_6_1 :
    v1151 c arg2 harg2 arg3 harg3 arg6 x0 x1 = sO x0 x1 6 0 := by
  unfold v1151 HS0_12 r_48 k0_pay216
  refine (read_512 _ _ (score _ _) _ _).trans ?_
  exact (congrArg₂ score (blk_eq arg2 harg2 x0 6 3072 _ rfl) (blk_eq arg3 harg3 x1 0 0 _ rfl))

theorem r_6_1 :
    v1144 c arg2 harg2 arg3 harg3 arg8 x0 x1 = rowMax (sO x0 x1 6 0) := by
  unfold v1144 HS2_12 r_48 k0_pay217
  refine (read_128 _ _ (rowMax (score _ _)) _ _).trans ?_
  exact (congrArg rowMax (congrArg₂ score (blk_eq arg2 harg2 x0 6 3072 _ rfl) (blk_eq arg3 harg3 x1 0 0 _ rfl)))

theorem m_6_1 :
    v1193 c arg2 harg2 arg3 harg3 arg8 arg9 arg10 x0 x1 = (st x0 x1 x2 6 1).m := by
  unfold v1193 HS4_23
  refine (read_128 _ _ (maximumf _ _) _ _).trans ?_
  exact (congrArg₂ maximumf (m_6_0 c arg2 harg2 arg3 harg3 arg8 arg9 arg10 x0 x1 x2) (r_6_1 c arg2 harg2 arg3 harg3 arg8 x0 x1))

theorem l_6_1 :
    v1216 c arg2 harg2 arg3 harg3 arg6 arg7 arg8 arg9 arg10 arg11 x0 x1 = (st x0 x1 x2 6 1).l := by
  unfold v1216 HS5_23 r_50 r_51 r_52 k0_pay231
  refine (read_128 _ _ (nextL _ _ _ _) _ _).trans ?_
  exact (congr (congr (congrArg₂ nextL (m_6_0 c arg2 harg2 arg3 harg3 arg8 arg9 arg10 x0 x1 x2) (r_6_1 c arg2 harg2 arg3 harg3 arg8 x0 x1)) (s_6_1 c arg2 harg2 arg3 harg3 arg6 x0 x1)) (l_6_0 c arg2 harg2 arg3 harg3 arg6 arg7 arg8 arg9 arg10 arg11 x0 x1 x2))

theorem a_6_1 :
    v1222 c arg2 harg2 arg3 harg3 arg4 harg4 arg6 arg7 arg8 arg9 arg10 arg12 x0 x1 x2 = (st x0 x1 x2 6 1).a := by
  unfold v1222 HS6_23 r_50 r_51 k0_pay232
  refine (read_128 _ _ (nextA _ _ _ _ _) _ _).trans ?_
  exact (congr (congr (congr (congrArg₂ nextA (m_6_0 c arg2 harg2 arg3 harg3 arg8 arg9 arg10 x0 x1 x2) (r_6_1 c arg2 harg2 arg3 harg3 arg8 x0 x1)) (s_6_1 c arg2 harg2 arg3 harg3 arg6 x0 x1)) (blkV_eq arg4 harg4 x2 0 0 _ rfl)) (a_6_0 c arg2 harg2 arg3 harg3 arg4 harg4 arg6 arg7 arg8 arg9 arg10 arg12 x0 x1 x2))

/-! Query block 6, key block 1. -/

theorem s_6_2 :
    v1201 c arg2 harg2 arg3 harg3 arg7 x0 x1 = sO x0 x1 6 1 := by
  unfold v1201 HS1_12
  refine (read_512 _ _ (score _ _) _ _).trans ?_
  exact (congrArg₂ score (blk_eq arg2 harg2 x0 6 3072 _ rfl) (blk_eq arg3 harg3 x1 1 512 _ rfl))

theorem r_6_2 :
    v1194 c arg2 harg2 arg3 harg3 arg9 x0 x1 = rowMax (sO x0 x1 6 1) := by
  unfold v1194 HS3_12
  refine (read_128 _ _ (rowMax (score _ _)) _ _).trans ?_
  exact (congrArg rowMax (congrArg₂ score (blk_eq arg2 harg2 x0 6 3072 _ rfl) (blk_eq arg3 harg3 x1 1 512 _ rfl)))

theorem m_6_2 :
    v1243 c arg2 harg2 arg3 harg3 arg8 arg9 arg10 x0 x1 = (st x0 x1 x2 6 2).m := by
  unfold v1243 HS4_24
  refine (read_128 _ _ (maximumf _ _) _ _).trans ?_
  exact (congrArg₂ maximumf (m_6_1 c arg2 harg2 arg3 harg3 arg8 arg9 arg10 x0 x1 x2) (r_6_2 c arg2 harg2 arg3 harg3 arg9 x0 x1))

theorem l_6_2 :
    v1266 c arg2 harg2 arg3 harg3 arg6 arg7 arg8 arg9 arg10 arg11 x0 x1 = (st x0 x1 x2 6 2).l := by
  unfold v1266 HS5_24
  refine (read_128 _ _ (nextL _ _ _ _) _ _).trans ?_
  exact (congr (congr (congrArg₂ nextL (m_6_1 c arg2 harg2 arg3 harg3 arg8 arg9 arg10 x0 x1 x2) (r_6_2 c arg2 harg2 arg3 harg3 arg9 x0 x1)) (s_6_2 c arg2 harg2 arg3 harg3 arg7 x0 x1)) (l_6_1 c arg2 harg2 arg3 harg3 arg6 arg7 arg8 arg9 arg10 arg11 x0 x1 x2))

theorem a_6_2 :
    v1272 c arg2 harg2 arg3 harg3 arg4 harg4 arg6 arg7 arg8 arg9 arg10 arg12 x0 x1 x2 = (st x0 x1 x2 6 2).a := by
  unfold v1272 HS6_24 r_54 k0_pay243
  refine (read_128 _ _ (nextA _ _ _ _ _) _ _).trans ?_
  exact (congr (congr (congr (congrArg₂ nextA (m_6_1 c arg2 harg2 arg3 harg3 arg8 arg9 arg10 x0 x1 x2) (r_6_2 c arg2 harg2 arg3 harg3 arg9 x0 x1)) (s_6_2 c arg2 harg2 arg3 harg3 arg7 x0 x1)) (blkV_eq arg4 harg4 x2 1 512 _ rfl)) (a_6_1 c arg2 harg2 arg3 harg3 arg4 harg4 arg6 arg7 arg8 arg9 arg10 arg12 x0 x1 x2))

/-! Query block 6, key block 2. -/

theorem s_6_3 :
    v1251 c arg2 harg2 arg3 harg3 arg6 x0 x1 = sO x0 x1 6 2 := by
  unfold v1251 HS0_13
  refine (read_512 _ _ (score _ _) _ _).trans ?_
  exact (congrArg₂ score (blk_eq arg2 harg2 x0 6 3072 _ rfl) (blk_eq arg3 harg3 x1 2 1024 _ rfl))

theorem r_6_3 :
    v1244 c arg2 harg2 arg3 harg3 arg8 x0 x1 = rowMax (sO x0 x1 6 2) := by
  unfold v1244 HS2_13 r_53 k0_pay236
  refine (read_128 _ _ (rowMax (score _ _)) _ _).trans ?_
  exact (congrArg rowMax (congrArg₂ score (blk_eq arg2 harg2 x0 6 3072 _ rfl) (blk_eq arg3 harg3 x1 2 1024 _ rfl)))

theorem m_6_3 :
    v1293 c arg2 harg2 arg3 harg3 arg8 arg9 arg10 x0 x1 = (st x0 x1 x2 6 3).m := by
  unfold v1293 HS4_25
  refine (read_128 _ _ (maximumf _ _) _ _).trans ?_
  exact (congrArg₂ maximumf (m_6_2 c arg2 harg2 arg3 harg3 arg8 arg9 arg10 x0 x1 x2) (r_6_3 c arg2 harg2 arg3 harg3 arg8 x0 x1))

theorem l_6_3 :
    v1316 c arg2 harg2 arg3 harg3 arg6 arg7 arg8 arg9 arg10 arg11 x0 x1 = (st x0 x1 x2 6 3).l := by
  unfold v1316 HS5_25 r_55 r_56 r_57 k0_pay252
  refine (read_128 _ _ (nextL _ _ _ _) _ _).trans ?_
  exact (congr (congr (congrArg₂ nextL (m_6_2 c arg2 harg2 arg3 harg3 arg8 arg9 arg10 x0 x1 x2) (r_6_3 c arg2 harg2 arg3 harg3 arg8 x0 x1)) (s_6_3 c arg2 harg2 arg3 harg3 arg6 x0 x1)) (l_6_2 c arg2 harg2 arg3 harg3 arg6 arg7 arg8 arg9 arg10 arg11 x0 x1 x2))

theorem a_6_3 :
    v1322 c arg2 harg2 arg3 harg3 arg4 harg4 arg6 arg7 arg8 arg9 arg10 arg12 x0 x1 x2 = (st x0 x1 x2 6 3).a := by
  unfold v1322 HS6_25 r_55 r_56 k0_pay253
  refine (read_128 _ _ (nextA _ _ _ _ _) _ _).trans ?_
  exact (congr (congr (congr (congrArg₂ nextA (m_6_2 c arg2 harg2 arg3 harg3 arg8 arg9 arg10 x0 x1 x2) (r_6_3 c arg2 harg2 arg3 harg3 arg8 x0 x1)) (s_6_3 c arg2 harg2 arg3 harg3 arg6 x0 x1)) (blkV_eq arg4 harg4 x2 2 1024 _ rfl)) (a_6_2 c arg2 harg2 arg3 harg3 arg4 harg4 arg6 arg7 arg8 arg9 arg10 arg12 x0 x1 x2))

/-! Query block 6, key block 3. -/

theorem s_6_4 :
    v1301 c arg2 harg2 arg3 harg3 arg7 x0 x1 = sO x0 x1 6 3 := by
  unfold v1301 HS1_13
  refine (read_512 _ _ (score _ _) _ _).trans ?_
  exact (congrArg₂ score (blk_eq arg2 harg2 x0 6 3072 _ rfl) (blk_eq arg3 harg3 x1 3 1536 _ rfl))

theorem r_6_4 :
    v1294 c arg2 harg2 arg3 harg3 arg9 x0 x1 = rowMax (sO x0 x1 6 3) := by
  unfold v1294 HS3_13
  refine (read_128 _ _ (rowMax (score _ _)) _ _).trans ?_
  exact (congrArg rowMax (congrArg₂ score (blk_eq arg2 harg2 x0 6 3072 _ rfl) (blk_eq arg3 harg3 x1 3 1536 _ rfl)))

theorem m_6_4 :
    v1343 c arg2 harg2 arg3 harg3 arg8 arg9 arg10 x0 x1 = (st x0 x1 x2 6 4).m := by
  unfold v1343 HS4_26
  refine (read_128 _ _ (maximumf _ _) _ _).trans ?_
  exact (congrArg₂ maximumf (m_6_3 c arg2 harg2 arg3 harg3 arg8 arg9 arg10 x0 x1 x2) (r_6_4 c arg2 harg2 arg3 harg3 arg9 x0 x1))

theorem l_6_4 :
    v1366 c arg2 harg2 arg3 harg3 arg6 arg7 arg8 arg9 arg10 arg11 x0 x1 = (st x0 x1 x2 6 4).l := by
  unfold v1366 HS5_26
  refine (read_128 _ _ (nextL _ _ _ _) _ _).trans ?_
  exact (congr (congr (congrArg₂ nextL (m_6_3 c arg2 harg2 arg3 harg3 arg8 arg9 arg10 x0 x1 x2) (r_6_4 c arg2 harg2 arg3 harg3 arg9 x0 x1)) (s_6_4 c arg2 harg2 arg3 harg3 arg7 x0 x1)) (l_6_3 c arg2 harg2 arg3 harg3 arg6 arg7 arg8 arg9 arg10 arg11 x0 x1 x2))

theorem a_6_4 :
    v1372 c arg2 harg2 arg3 harg3 arg4 harg4 arg6 arg7 arg8 arg9 arg10 arg12 x0 x1 x2 = (st x0 x1 x2 6 4).a := by
  unfold v1372 HS6_26 r_59 k0_pay264
  refine (read_128 _ _ (nextA _ _ _ _ _) _ _).trans ?_
  exact (congr (congr (congr (congrArg₂ nextA (m_6_3 c arg2 harg2 arg3 harg3 arg8 arg9 arg10 x0 x1 x2) (r_6_4 c arg2 harg2 arg3 harg3 arg9 x0 x1)) (s_6_4 c arg2 harg2 arg3 harg3 arg7 x0 x1)) (blkV_eq arg4 harg4 x2 3 1536 _ rfl)) (a_6_3 c arg2 harg2 arg3 harg3 arg4 harg4 arg6 arg7 arg8 arg9 arg10 arg12 x0 x1 x2))

/-! Query block 6, key block 4. -/

theorem s_6_5 :
    v1351 c arg2 harg2 arg3 harg3 arg6 x0 x1 = sO x0 x1 6 4 := by
  unfold v1351 HS0_14
  refine (read_512 _ _ (score _ _) _ _).trans ?_
  exact (congrArg₂ score (blk_eq arg2 harg2 x0 6 3072 _ rfl) (blk_eq arg3 harg3 x1 4 2048 _ rfl))

theorem r_6_5 :
    v1344 c arg2 harg2 arg3 harg3 arg8 x0 x1 = rowMax (sO x0 x1 6 4) := by
  unfold v1344 HS2_14 r_58 k0_pay257
  refine (read_128 _ _ (rowMax (score _ _)) _ _).trans ?_
  exact (congrArg rowMax (congrArg₂ score (blk_eq arg2 harg2 x0 6 3072 _ rfl) (blk_eq arg3 harg3 x1 4 2048 _ rfl)))

theorem m_6_5 :
    v1396 c arg2 harg2 arg3 harg3 arg8 arg9 arg10 x0 x1 = (st x0 x1 x2 6 5).m := by
  unfold v1396 HS4_27
  refine (read_128 _ _ (maximumf _ _) _ _).trans ?_
  exact (congrArg₂ maximumf (m_6_4 c arg2 harg2 arg3 harg3 arg8 arg9 arg10 x0 x1 x2) (r_6_5 c arg2 harg2 arg3 harg3 arg8 x0 x1))

theorem l_6_5 :
    v1419 c arg2 harg2 arg3 harg3 arg6 arg7 arg8 arg9 arg10 arg11 x0 x1 = (st x0 x1 x2 6 5).l := by
  unfold v1419 HS5_27 r_60 r_61 r_62 k0_pay273
  refine (read_128 _ _ (nextL _ _ _ _) _ _).trans ?_
  exact (congr (congr (congrArg₂ nextL (m_6_4 c arg2 harg2 arg3 harg3 arg8 arg9 arg10 x0 x1 x2) (r_6_5 c arg2 harg2 arg3 harg3 arg8 x0 x1)) (s_6_5 c arg2 harg2 arg3 harg3 arg6 x0 x1)) (l_6_4 c arg2 harg2 arg3 harg3 arg6 arg7 arg8 arg9 arg10 arg11 x0 x1 x2))

theorem a_6_5 :
    v1425 c arg2 harg2 arg3 harg3 arg4 harg4 arg6 arg7 arg8 arg9 arg10 arg12 x0 x1 x2 = (st x0 x1 x2 6 5).a := by
  unfold v1425 HS6_27 r_60 r_61 k0_pay274
  refine (read_128 _ _ (nextA _ _ _ _ _) _ _).trans ?_
  exact (congr (congr (congr (congrArg₂ nextA (m_6_4 c arg2 harg2 arg3 harg3 arg8 arg9 arg10 x0 x1 x2) (r_6_5 c arg2 harg2 arg3 harg3 arg8 x0 x1)) (s_6_5 c arg2 harg2 arg3 harg3 arg6 x0 x1)) (blkV_eq arg4 harg4 x2 4 2048 _ rfl)) (a_6_4 c arg2 harg2 arg3 harg3 arg4 harg4 arg6 arg7 arg8 arg9 arg10 arg12 x0 x1 x2))

/-! Query block 6, key block 5. -/

theorem s_6_6 :
    v1404 c arg2 harg2 arg3 harg3 arg7 x0 x1 = sO x0 x1 6 5 := by
  unfold v1404 HS1_14
  refine (read_512 _ _ (score _ _) _ _).trans ?_
  exact (congrArg₂ score (blk_eq arg2 harg2 x0 6 3072 _ rfl) (blk_eq arg3 harg3 x1 5 2560 _ rfl))

theorem r_6_6 :
    v1397 c arg2 harg2 arg3 harg3 arg9 x0 x1 = rowMax (sO x0 x1 6 5) := by
  unfold v1397 HS3_14
  refine (read_128 _ _ (rowMax (score _ _)) _ _).trans ?_
  exact (congrArg rowMax (congrArg₂ score (blk_eq arg2 harg2 x0 6 3072 _ rfl) (blk_eq arg3 harg3 x1 5 2560 _ rfl)))

theorem l_6_6 :
    v1431 c arg2 harg2 arg3 harg3 arg6 arg7 arg8 arg9 arg10 arg11 x0 x1 = (st x0 x1 x2 6 6).l := by
  unfold v1431 HS5_28
  refine (read_128 _ _ (nextL _ _ _ _) _ _).trans ?_
  exact (congr (congr (congrArg₂ nextL (m_6_5 c arg2 harg2 arg3 harg3 arg8 arg9 arg10 x0 x1 x2) (r_6_6 c arg2 harg2 arg3 harg3 arg9 x0 x1)) (s_6_6 c arg2 harg2 arg3 harg3 arg7 x0 x1)) (l_6_5 c arg2 harg2 arg3 harg3 arg6 arg7 arg8 arg9 arg10 arg11 x0 x1 x2))

theorem a_6_6 :
    v1434 c arg2 harg2 arg3 harg3 arg4 harg4 arg6 arg7 arg8 arg9 arg10 arg12 x0 x1 x2 = (st x0 x1 x2 6 6).a := by
  unfold v1434 HS6_28 r_64 r_65 k0_pay284
  refine (read_128 _ _ (nextA _ _ _ _ _) _ _).trans ?_
  exact (congr (congr (congr (congrArg₂ nextA (m_6_5 c arg2 harg2 arg3 harg3 arg8 arg9 arg10 x0 x1 x2) (r_6_6 c arg2 harg2 arg3 harg3 arg9 x0 x1)) (s_6_6 c arg2 harg2 arg3 harg3 arg7 x0 x1)) (blkV_eq arg4 harg4 x2 5 2560 _ rfl)) (a_6_5 c arg2 harg2 arg3 harg3 arg4 harg4 arg6 arg7 arg8 arg9 arg10 arg12 x0 x1 x2))

/-! Query block 7, its diagonal. -/

theorem s_7_0 :
    v1460 c arg2 harg2 arg3 harg3 arg6 x0 x1 = sD x0 x1 7 := by
  unfold v1460 HS0_15
  refine (read_512 _ _ (scoreD _ _) _ _).trans ?_
  exact (congrArg₂ scoreD (blk_eq arg2 harg2 x0 7 3584 _ rfl) (blk_eq arg3 harg3 x1 7 3584 _ rfl))

theorem r_7_0 :
    v1456 c arg2 harg2 arg3 harg3 arg8 x0 x1 = rowMax (sD x0 x1 7) := by
  unfold v1456 HS2_15 r_63 k0_pay277
  refine (read_128 _ _ (rowMax (scoreD _ _)) _ _).trans ?_
  exact (congrArg rowMax (congrArg₂ scoreD (blk_eq arg2 harg2 x0 7 3584 _ rfl) (blk_eq arg3 harg3 x1 7 3584 _ rfl)))

theorem m_7_0 :
    v1496 c arg2 harg2 arg3 harg3 arg8 arg9 arg10 x0 x1 = (st x0 x1 x2 7 0).m := by
  unfold v1496 HS4_29
  refine (read_128e _ _ (v1456 c arg2 harg2 arg3 harg3 arg8 x0 x1) _ _).trans ?_
  exact ((r_7_0 c arg2 harg2 arg3 harg3 arg8 x0 x1).trans (st_zero_m _ _ _ _).symm)

theorem l_7_0 :
    v1519 c arg2 harg2 arg3 harg3 arg6 arg7 arg8 arg9 arg10 arg11 x0 x1 = (st x0 x1 x2 7 0).l := by
  unfold v1519 HS5_29
  refine (read_128 _ _ (lanes (pow _ _)) _ _).trans ?_
  exact (congrArg₂ (fun a b => lanes (pow a b)) (r_7_0 c arg2 harg2 arg3 harg3 arg8 x0 x1) (s_7_0 c arg2 harg2 arg3 harg3 arg6 x0 x1))

theorem a_7_0 :
    v1525 c arg2 harg2 arg3 harg3 arg4 harg4 arg6 arg7 arg8 arg9 arg10 arg12 x0 x1 x2 = (st x0 x1 x2 7 0).a := by
  unfold v1525 HS6_29
  refine (read_128 _ _ (weigh (pow _ _) _) _ _).trans ?_
  exact (congr (congrArg₂ (fun a b => weigh (pow a b)) (r_7_0 c arg2 harg2 arg3 harg3 arg8 x0 x1) (s_7_0 c arg2 harg2 arg3 harg3 arg6 x0 x1)) (blkV_eq arg4 harg4 x2 7 3584 _ rfl))

/-! Query block 7, key block 0. -/

theorem s_7_1 :
    v1504 c arg2 harg2 arg3 harg3 arg7 x0 x1 = sO x0 x1 7 0 := by
  unfold v1504 HS1_15
  refine (read_512 _ _ (score _ _) _ _).trans ?_
  exact (congrArg₂ score (blk_eq arg2 harg2 x0 7 3584 _ rfl) (blk_eq arg3 harg3 x1 0 0 _ rfl))

theorem r_7_1 :
    v1497 c arg2 harg2 arg3 harg3 arg9 x0 x1 = rowMax (sO x0 x1 7 0) := by
  unfold v1497 HS3_15
  refine (read_128 _ _ (rowMax (score _ _)) _ _).trans ?_
  exact (congrArg rowMax (congrArg₂ score (blk_eq arg2 harg2 x0 7 3584 _ rfl) (blk_eq arg3 harg3 x1 0 0 _ rfl)))

theorem m_7_1 :
    v1546 c arg2 harg2 arg3 harg3 arg8 arg9 arg10 x0 x1 = (st x0 x1 x2 7 1).m := by
  unfold v1546 HS4_30
  refine (read_128 _ _ (maximumf _ _) _ _).trans ?_
  exact (congrArg₂ maximumf (m_7_0 c arg2 harg2 arg3 harg3 arg8 arg9 arg10 x0 x1 x2) (r_7_1 c arg2 harg2 arg3 harg3 arg9 x0 x1))

theorem l_7_1 :
    v1569 c arg2 harg2 arg3 harg3 arg6 arg7 arg8 arg9 arg10 arg11 x0 x1 = (st x0 x1 x2 7 1).l := by
  unfold v1569 HS5_30 r_69
  refine (read_128 _ _ (nextL _ _ _ _) _ _).trans ?_
  exact (congr (congr (congrArg₂ nextL (m_7_0 c arg2 harg2 arg3 harg3 arg8 arg9 arg10 x0 x1 x2) (r_7_1 c arg2 harg2 arg3 harg3 arg9 x0 x1)) (s_7_1 c arg2 harg2 arg3 harg3 arg7 x0 x1)) (l_7_0 c arg2 harg2 arg3 harg3 arg6 arg7 arg8 arg9 arg10 arg11 x0 x1 x2))

theorem a_7_1 :
    v1575 c arg2 harg2 arg3 harg3 arg4 harg4 arg6 arg7 arg8 arg9 arg10 arg12 x0 x1 x2 = (st x0 x1 x2 7 1).a := by
  unfold v1575 HS6_30 r_67 r_68 k0_pay302
  refine (read_128 _ _ (nextA _ _ _ _ _) _ _).trans ?_
  exact (congr (congr (congr (congrArg₂ nextA (m_7_0 c arg2 harg2 arg3 harg3 arg8 arg9 arg10 x0 x1 x2) (r_7_1 c arg2 harg2 arg3 harg3 arg9 x0 x1)) (s_7_1 c arg2 harg2 arg3 harg3 arg7 x0 x1)) (blkV_eq arg4 harg4 x2 0 0 _ rfl)) (a_7_0 c arg2 harg2 arg3 harg3 arg4 harg4 arg6 arg7 arg8 arg9 arg10 arg12 x0 x1 x2))

/-! Query block 7, key block 1. -/

theorem s_7_2 :
    v1554 c arg2 harg2 arg3 harg3 arg6 x0 x1 = sO x0 x1 7 1 := by
  unfold v1554 HS0_16 r_66 k0_pay294
  refine (read_512 _ _ (score _ _) _ _).trans ?_
  exact (congrArg₂ score (blk_eq arg2 harg2 x0 7 3584 _ rfl) (blk_eq arg3 harg3 x1 1 512 _ rfl))

theorem r_7_2 :
    v1547 c arg2 harg2 arg3 harg3 arg8 x0 x1 = rowMax (sO x0 x1 7 1) := by
  unfold v1547 HS2_16 r_66 k0_pay295
  refine (read_128 _ _ (rowMax (score _ _)) _ _).trans ?_
  exact (congrArg rowMax (congrArg₂ score (blk_eq arg2 harg2 x0 7 3584 _ rfl) (blk_eq arg3 harg3 x1 1 512 _ rfl)))

theorem m_7_2 :
    v1596 c arg2 harg2 arg3 harg3 arg8 arg9 arg10 x0 x1 = (st x0 x1 x2 7 2).m := by
  unfold v1596 HS4_31
  refine (read_128 _ _ (maximumf _ _) _ _).trans ?_
  exact (congrArg₂ maximumf (m_7_1 c arg2 harg2 arg3 harg3 arg8 arg9 arg10 x0 x1 x2) (r_7_2 c arg2 harg2 arg3 harg3 arg8 x0 x1))

theorem l_7_2 :
    v1619 c arg2 harg2 arg3 harg3 arg6 arg7 arg8 arg9 arg10 arg11 x0 x1 = (st x0 x1 x2 7 2).l := by
  unfold v1619 HS5_31 r_70 r_71 k0_pay310
  refine (read_128 _ _ (nextL _ _ _ _) _ _).trans ?_
  exact (congr (congr (congrArg₂ nextL (m_7_1 c arg2 harg2 arg3 harg3 arg8 arg9 arg10 x0 x1 x2) (r_7_2 c arg2 harg2 arg3 harg3 arg8 x0 x1)) (s_7_2 c arg2 harg2 arg3 harg3 arg6 x0 x1)) (l_7_1 c arg2 harg2 arg3 harg3 arg6 arg7 arg8 arg9 arg10 arg11 x0 x1 x2))

theorem a_7_2 :
    v1625 c arg2 harg2 arg3 harg3 arg4 harg4 arg6 arg7 arg8 arg9 arg10 arg12 x0 x1 x2 = (st x0 x1 x2 7 2).a := by
  unfold v1625 HS6_31 r_70 r_71 k0_pay311
  refine (read_128 _ _ (nextA _ _ _ _ _) _ _).trans ?_
  exact (congr (congr (congr (congrArg₂ nextA (m_7_1 c arg2 harg2 arg3 harg3 arg8 arg9 arg10 x0 x1 x2) (r_7_2 c arg2 harg2 arg3 harg3 arg8 x0 x1)) (s_7_2 c arg2 harg2 arg3 harg3 arg6 x0 x1)) (blkV_eq arg4 harg4 x2 1 512 _ rfl)) (a_7_1 c arg2 harg2 arg3 harg3 arg4 harg4 arg6 arg7 arg8 arg9 arg10 arg12 x0 x1 x2))

/-! Query block 7, key block 2. -/

theorem s_7_3 :
    v1604 c arg2 harg2 arg3 harg3 arg7 x0 x1 = sO x0 x1 7 2 := by
  unfold v1604 HS1_16
  refine (read_512 _ _ (score _ _) _ _).trans ?_
  exact (congrArg₂ score (blk_eq arg2 harg2 x0 7 3584 _ rfl) (blk_eq arg3 harg3 x1 2 1024 _ rfl))

theorem r_7_3 :
    v1597 c arg2 harg2 arg3 harg3 arg9 x0 x1 = rowMax (sO x0 x1 7 2) := by
  unfold v1597 HS3_16
  refine (read_128 _ _ (rowMax (score _ _)) _ _).trans ?_
  exact (congrArg rowMax (congrArg₂ score (blk_eq arg2 harg2 x0 7 3584 _ rfl) (blk_eq arg3 harg3 x1 2 1024 _ rfl)))

theorem m_7_3 :
    v1646 c arg2 harg2 arg3 harg3 arg8 arg9 arg10 x0 x1 = (st x0 x1 x2 7 3).m := by
  unfold v1646 HS4_32
  refine (read_128 _ _ (maximumf _ _) _ _).trans ?_
  exact (congrArg₂ maximumf (m_7_2 c arg2 harg2 arg3 harg3 arg8 arg9 arg10 x0 x1 x2) (r_7_3 c arg2 harg2 arg3 harg3 arg9 x0 x1))

theorem l_7_3 :
    v1669 c arg2 harg2 arg3 harg3 arg6 arg7 arg8 arg9 arg10 arg11 x0 x1 = (st x0 x1 x2 7 3).l := by
  unfold v1669 HS5_32 r_75
  refine (read_128 _ _ (nextL _ _ _ _) _ _).trans ?_
  exact (congr (congr (congrArg₂ nextL (m_7_2 c arg2 harg2 arg3 harg3 arg8 arg9 arg10 x0 x1 x2) (r_7_3 c arg2 harg2 arg3 harg3 arg9 x0 x1)) (s_7_3 c arg2 harg2 arg3 harg3 arg7 x0 x1)) (l_7_2 c arg2 harg2 arg3 harg3 arg6 arg7 arg8 arg9 arg10 arg11 x0 x1 x2))

theorem a_7_3 :
    v1675 c arg2 harg2 arg3 harg3 arg4 harg4 arg6 arg7 arg8 arg9 arg10 arg12 x0 x1 x2 = (st x0 x1 x2 7 3).a := by
  unfold v1675 HS6_32 r_73 r_74 k0_pay321
  refine (read_128 _ _ (nextA _ _ _ _ _) _ _).trans ?_
  exact (congr (congr (congr (congrArg₂ nextA (m_7_2 c arg2 harg2 arg3 harg3 arg8 arg9 arg10 x0 x1 x2) (r_7_3 c arg2 harg2 arg3 harg3 arg9 x0 x1)) (s_7_3 c arg2 harg2 arg3 harg3 arg7 x0 x1)) (blkV_eq arg4 harg4 x2 2 1024 _ rfl)) (a_7_2 c arg2 harg2 arg3 harg3 arg4 harg4 arg6 arg7 arg8 arg9 arg10 arg12 x0 x1 x2))

/-! Query block 7, key block 3. -/

theorem s_7_4 :
    v1654 c arg2 harg2 arg3 harg3 arg6 x0 x1 = sO x0 x1 7 3 := by
  unfold v1654 HS0_17 r_72 k0_pay313
  refine (read_512 _ _ (score _ _) _ _).trans ?_
  exact (congrArg₂ score (blk_eq arg2 harg2 x0 7 3584 _ rfl) (blk_eq arg3 harg3 x1 3 1536 _ rfl))

theorem r_7_4 :
    v1647 c arg2 harg2 arg3 harg3 arg8 x0 x1 = rowMax (sO x0 x1 7 3) := by
  unfold v1647 HS2_17 r_72 k0_pay314
  refine (read_128 _ _ (rowMax (score _ _)) _ _).trans ?_
  exact (congrArg rowMax (congrArg₂ score (blk_eq arg2 harg2 x0 7 3584 _ rfl) (blk_eq arg3 harg3 x1 3 1536 _ rfl)))

theorem m_7_4 :
    v1696 c arg2 harg2 arg3 harg3 arg8 arg9 arg10 x0 x1 = (st x0 x1 x2 7 4).m := by
  unfold v1696 HS4_33
  refine (read_128 _ _ (maximumf _ _) _ _).trans ?_
  exact (congrArg₂ maximumf (m_7_3 c arg2 harg2 arg3 harg3 arg8 arg9 arg10 x0 x1 x2) (r_7_4 c arg2 harg2 arg3 harg3 arg8 x0 x1))

theorem l_7_4 :
    v1719 c arg2 harg2 arg3 harg3 arg6 arg7 arg8 arg9 arg10 arg11 x0 x1 = (st x0 x1 x2 7 4).l := by
  unfold v1719 HS5_33 r_76 r_77 k0_pay329
  refine (read_128 _ _ (nextL _ _ _ _) _ _).trans ?_
  exact (congr (congr (congrArg₂ nextL (m_7_3 c arg2 harg2 arg3 harg3 arg8 arg9 arg10 x0 x1 x2) (r_7_4 c arg2 harg2 arg3 harg3 arg8 x0 x1)) (s_7_4 c arg2 harg2 arg3 harg3 arg6 x0 x1)) (l_7_3 c arg2 harg2 arg3 harg3 arg6 arg7 arg8 arg9 arg10 arg11 x0 x1 x2))

theorem a_7_4 :
    v1725 c arg2 harg2 arg3 harg3 arg4 harg4 arg6 arg7 arg8 arg9 arg10 arg12 x0 x1 x2 = (st x0 x1 x2 7 4).a := by
  unfold v1725 HS6_33 r_76 r_77 k0_pay330
  refine (read_128 _ _ (nextA _ _ _ _ _) _ _).trans ?_
  exact (congr (congr (congr (congrArg₂ nextA (m_7_3 c arg2 harg2 arg3 harg3 arg8 arg9 arg10 x0 x1 x2) (r_7_4 c arg2 harg2 arg3 harg3 arg8 x0 x1)) (s_7_4 c arg2 harg2 arg3 harg3 arg6 x0 x1)) (blkV_eq arg4 harg4 x2 3 1536 _ rfl)) (a_7_3 c arg2 harg2 arg3 harg3 arg4 harg4 arg6 arg7 arg8 arg9 arg10 arg12 x0 x1 x2))

/-! Query block 7, key block 4. -/

theorem s_7_5 :
    v1704 c arg2 harg2 arg3 harg3 arg7 x0 x1 = sO x0 x1 7 4 := by
  unfold v1704 HS1_17
  refine (read_512 _ _ (score _ _) _ _).trans ?_
  exact (congrArg₂ score (blk_eq arg2 harg2 x0 7 3584 _ rfl) (blk_eq arg3 harg3 x1 4 2048 _ rfl))

theorem r_7_5 :
    v1697 c arg2 harg2 arg3 harg3 arg9 x0 x1 = rowMax (sO x0 x1 7 4) := by
  unfold v1697 HS3_17
  refine (read_128 _ _ (rowMax (score _ _)) _ _).trans ?_
  exact (congrArg rowMax (congrArg₂ score (blk_eq arg2 harg2 x0 7 3584 _ rfl) (blk_eq arg3 harg3 x1 4 2048 _ rfl)))

theorem m_7_5 :
    v1746 c arg2 harg2 arg3 harg3 arg8 arg9 arg10 x0 x1 = (st x0 x1 x2 7 5).m := by
  unfold v1746 HS4_34
  refine (read_128 _ _ (maximumf _ _) _ _).trans ?_
  exact (congrArg₂ maximumf (m_7_4 c arg2 harg2 arg3 harg3 arg8 arg9 arg10 x0 x1 x2) (r_7_5 c arg2 harg2 arg3 harg3 arg9 x0 x1))

theorem l_7_5 :
    v1769 c arg2 harg2 arg3 harg3 arg6 arg7 arg8 arg9 arg10 arg11 x0 x1 = (st x0 x1 x2 7 5).l := by
  unfold v1769 HS5_34 r_81
  refine (read_128 _ _ (nextL _ _ _ _) _ _).trans ?_
  exact (congr (congr (congrArg₂ nextL (m_7_4 c arg2 harg2 arg3 harg3 arg8 arg9 arg10 x0 x1 x2) (r_7_5 c arg2 harg2 arg3 harg3 arg9 x0 x1)) (s_7_5 c arg2 harg2 arg3 harg3 arg7 x0 x1)) (l_7_4 c arg2 harg2 arg3 harg3 arg6 arg7 arg8 arg9 arg10 arg11 x0 x1 x2))

theorem a_7_5 :
    v1775 c arg2 harg2 arg3 harg3 arg4 harg4 arg6 arg7 arg8 arg9 arg10 arg12 x0 x1 x2 = (st x0 x1 x2 7 5).a := by
  unfold v1775 HS6_34 r_79 r_80 k0_pay340
  refine (read_128 _ _ (nextA _ _ _ _ _) _ _).trans ?_
  exact (congr (congr (congr (congrArg₂ nextA (m_7_4 c arg2 harg2 arg3 harg3 arg8 arg9 arg10 x0 x1 x2) (r_7_5 c arg2 harg2 arg3 harg3 arg9 x0 x1)) (s_7_5 c arg2 harg2 arg3 harg3 arg7 x0 x1)) (blkV_eq arg4 harg4 x2 4 2048 _ rfl)) (a_7_4 c arg2 harg2 arg3 harg3 arg4 harg4 arg6 arg7 arg8 arg9 arg10 arg12 x0 x1 x2))

/-! Query block 7, key block 5. -/

theorem s_7_6 :
    v1754 c arg2 harg2 arg3 harg3 arg6 x0 x1 = sO x0 x1 7 5 := by
  unfold v1754 HS0_18 r_78 k0_pay332
  refine (read_512 _ _ (score _ _) _ _).trans ?_
  exact (congrArg₂ score (blk_eq arg2 harg2 x0 7 3584 _ rfl) (blk_eq arg3 harg3 x1 5 2560 _ rfl))

theorem r_7_6 :
    v1747 c arg2 harg2 arg3 harg3 arg8 x0 x1 = rowMax (sO x0 x1 7 5) := by
  unfold v1747 HS2_18 r_78 k0_pay333
  refine (read_128 _ _ (rowMax (score _ _)) _ _).trans ?_
  exact (congrArg rowMax (congrArg₂ score (blk_eq arg2 harg2 x0 7 3584 _ rfl) (blk_eq arg3 harg3 x1 5 2560 _ rfl)))

theorem m_7_6 :
    v1781 c arg2 harg2 arg3 harg3 arg8 arg9 arg10 x0 x1 = (st x0 x1 x2 7 6).m := by
  unfold v1781 HS4_35
  refine (read_128 _ _ (maximumf _ _) _ _).trans ?_
  exact (congrArg₂ maximumf (m_7_5 c arg2 harg2 arg3 harg3 arg8 arg9 arg10 x0 x1 x2) (r_7_6 c arg2 harg2 arg3 harg3 arg8 x0 x1))

theorem l_7_6 :
    v1804 c arg2 harg2 arg3 harg3 arg6 arg7 arg8 arg9 arg10 arg11 x0 x1 = (st x0 x1 x2 7 6).l := by
  unfold v1804 HS5_35 r_82 r_83 k0_pay348
  refine (read_128 _ _ (nextL _ _ _ _) _ _).trans ?_
  exact (congr (congr (congrArg₂ nextL (m_7_5 c arg2 harg2 arg3 harg3 arg8 arg9 arg10 x0 x1 x2) (r_7_6 c arg2 harg2 arg3 harg3 arg8 x0 x1)) (s_7_6 c arg2 harg2 arg3 harg3 arg6 x0 x1)) (l_7_5 c arg2 harg2 arg3 harg3 arg6 arg7 arg8 arg9 arg10 arg11 x0 x1 x2))

theorem a_7_6 :
    v1810 c arg2 harg2 arg3 harg3 arg4 harg4 arg6 arg7 arg8 arg9 arg10 arg12 x0 x1 x2 = (st x0 x1 x2 7 6).a := by
  unfold v1810 HS6_35 r_82 r_83 k0_pay349
  refine (read_128 _ _ (nextA _ _ _ _ _) _ _).trans ?_
  exact (congr (congr (congr (congrArg₂ nextA (m_7_5 c arg2 harg2 arg3 harg3 arg8 arg9 arg10 x0 x1 x2) (r_7_6 c arg2 harg2 arg3 harg3 arg8 x0 x1)) (s_7_6 c arg2 harg2 arg3 harg3 arg6 x0 x1)) (blkV_eq arg4 harg4 x2 5 2560 _ rfl)) (a_7_5 c arg2 harg2 arg3 harg3 arg4 harg4 arg6 arg7 arg8 arg9 arg10 arg12 x0 x1 x2))

/-! Query block 7, key block 6. -/

theorem s_7_7 :
    v1789 c arg2 harg2 arg3 harg3 arg7 x0 x1 = sO x0 x1 7 6 := by
  unfold v1789 HS1_18
  refine (read_512 _ _ (score _ _) _ _).trans ?_
  exact (congrArg₂ score (blk_eq arg2 harg2 x0 7 3584 _ rfl) (blk_eq arg3 harg3 x1 6 3072 _ rfl))

theorem r_7_7 :
    v1782 c arg2 harg2 arg3 harg3 arg9 x0 x1 = rowMax (sO x0 x1 7 6) := by
  unfold v1782 HS3_18
  refine (read_128 _ _ (rowMax (score _ _)) _ _).trans ?_
  exact (congrArg rowMax (congrArg₂ score (blk_eq arg2 harg2 x0 7 3584 _ rfl) (blk_eq arg3 harg3 x1 6 3072 _ rfl)))

theorem l_7_7 :
    v1816 c arg2 harg2 arg3 harg3 arg6 arg7 arg8 arg9 arg10 arg11 x0 x1 = (st x0 x1 x2 7 7).l := by
  unfold v1816 HS5_36 r_84 r_85 k0_pay354
  refine (read_128 _ _ (nextL _ _ _ _) _ _).trans ?_
  exact (congr (congr (congrArg₂ nextL (m_7_6 c arg2 harg2 arg3 harg3 arg8 arg9 arg10 x0 x1 x2) (r_7_7 c arg2 harg2 arg3 harg3 arg9 x0 x1)) (s_7_7 c arg2 harg2 arg3 harg3 arg7 x0 x1)) (l_7_6 c arg2 harg2 arg3 harg3 arg6 arg7 arg8 arg9 arg10 arg11 x0 x1 x2))

theorem a_7_7 :
    v1819 c arg2 harg2 arg3 harg3 arg4 harg4 arg6 arg7 arg8 arg9 arg10 arg12 x0 x1 x2 = (st x0 x1 x2 7 7).a := by
  unfold v1819 HS6_36 r_84 r_85 k0_pay355
  refine (read_128 _ _ (nextA _ _ _ _ _) _ _).trans ?_
  exact (congr (congr (congr (congrArg₂ nextA (m_7_6 c arg2 harg2 arg3 harg3 arg8 arg9 arg10 x0 x1 x2) (r_7_7 c arg2 harg2 arg3 harg3 arg9 x0 x1)) (s_7_7 c arg2 harg2 arg3 harg3 arg7 x0 x1)) (blkV_eq arg4 harg4 x2 6 3072 _ rfl)) (a_7_6 c arg2 harg2 arg3 harg3 arg4 harg4 arg6 arg7 arg8 arg9 arg10 arg12 x0 x1 x2))

end Cert.KernelIdeal.Attn

end
-- ==== Proof.Out.lean ====
/- What a grid point leaves in the result's block: each block of queries' weighted values over its sum. -/
module

public import proofs.«01_k».proof.Proof.Chain

@[expose] public section

set_option maxRecDepth 16384

noncomputable section

namespace Cert.KernelIdeal.Attn

open Idealize.ShloMosaic Cert.KernelIdeal Cert.KernelIdeal.Gen Cert.KernelIdeal.Gen.kernelRun0_A.sl

variable {F : FTy → Type} [FloatOps F] [Named F]

/-- A head's results: row `y 1` lies in block `y 1 / 512`, whose diagonal is the last key block it reads. -/
def head (q k : Vec F S1x1x4096x192 .bf16) (v : Vec F S1x1x4096x128 .bf16) : Vec F S1x4096x128 .bf16 := fun y =>
  finish (st q k v ((y 1).val / 512) ((y 1).val / 512)).l (st q k v ((y 1).val / 512) ((y 1).val / 512)).a
    (ix3 (y 0) (⟨(y 1).val % 512, Nat.mod_lt _ (by decide)⟩ : Fin 512) (y 2))

/-- A stored block agrees with `head` where it lies. -/
theorem piece_eq (q k : Vec F S1x1x4096x192 .bf16) (v : Vec F S1x1x4096x128 .bf16) (i o : ℕ)
    (inb : ∀ a, ![0, o, 0] a + S1x512x128.size a ≤ S1x4096x128.size a) (ho : o = 512 * i) (hi : i < 8)
    (w : FVec F S1x512x128 .bf16) (hw : w = finish (st q k v i i).l (st q k v i i).a)
    (x : S1x512x128.Idx) :
    w x = head q k v ((Rect.unit (s := S1x4096x128) ![0, o, 0] S1x512x128.size inb).emb x) := by
  have hx : (x 1).val < 512 := (x 1).isLt
  have e1 : ((Rect.unit (s := S1x4096x128) ![0, o, 0] S1x512x128.size inb).emb x 1).val = o + (x 1).val :=
    Rect.idx_unit_val _ _ _ _ _
  have d : ((Rect.unit (s := S1x4096x128) ![0, o, 0] S1x512x128.size inb).emb x 1).val / 512 = i := by
    rw [e1]; omega
  have r : ((Rect.unit (s := S1x4096x128) ![0, o, 0] S1x512x128.size inb).emb x 1).val % 512 = (x 1).val := by
    rw [e1]; omega
  rw [hw]
  show _ = finish (st q k v (_ / 512) (_ / 512)).l (st q k v (_ / 512) (_ / 512)).a _
  rw [d]
  congr 1
  funext a
  match a with
  | ⟨0, _⟩ => exact Fin.ext ((Rect.idx_unit_val _ _ _ _ _).trans (Nat.zero_add _)).symm
  | ⟨1, _⟩ => exact Fin.ext r.symm
  | ⟨2, _⟩ => exact Fin.ext ((Rect.idx_unit_val _ _ _ _ _).trans (Nat.zero_add _)).symm

section

variable (c : Dev nD) (arg2 : Memref sig .tc .vmem S1x1x4096x192 .bf16) (harg2 : arg2.IsWhole)
  (arg3 : Memref sig .tc .vmem S1x1x4096x192 .bf16) (harg3 : arg3.IsWhole)
  (arg4 : Memref sig .tc .vmem S1x1x4096x128 .bf16) (harg4 : arg4.IsWhole)
  (arg6 arg7 : Memref sig .tc .vmem S512x512 .f32) (arg8 arg9 arg10 arg11 arg12 : Memref sig .tc .vmem S512x128 .f32)
  (x0 x1 : Vec F S1x1x4096x192 .bf16) (x2 : Vec F S1x1x4096x128 .bf16)

theorem fin_0 :
    k0_pay11 (v c arg2 harg2 arg3 harg3 arg6 arg8 arg11 x0 x1) (v66 c arg2 harg2 arg3 harg3 arg4 harg4 arg6 arg8 arg12 x0 x1 x2) = finish (st x0 x1 x2 0 0).l (st x0 x1 x2 0 0).a := by
  exact congrArg₂ finish (l_0_0 c arg2 harg2 arg3 harg3 arg6 arg8 arg11 x0 x1 x2) (a_0_0 c arg2 harg2 arg3 harg3 arg4 harg4 arg6 arg8 arg12 x0 x1 x2)

theorem fin_1 :
    k0_pay31 (v166 c arg2 harg2 arg3 harg3 arg6 arg7 arg8 arg9 arg10 arg11 x0 x1) (v169 c arg2 harg2 arg3 harg3 arg4 harg4 arg6 arg7 arg8 arg9 arg10 arg12 x0 x1 x2) = finish (st x0 x1 x2 1 1).l (st x0 x1 x2 1 1).a := by
  exact congrArg₂ finish (l_1_1 c arg2 harg2 arg3 harg3 arg6 arg7 arg8 arg9 arg10 arg11 x0 x1 x2) (a_1_1 c arg2 harg2 arg3 harg3 arg4 harg4 arg6 arg7 arg8 arg9 arg10 arg12 x0 x1 x2)

theorem fin_2 :
    k0_pay60 (v319 c arg2 harg2 arg3 harg3 arg6 arg7 arg8 arg9 arg10 arg11 x0 x1) (v322 c arg2 harg2 arg3 harg3 arg4 harg4 arg6 arg7 arg8 arg9 arg10 arg12 x0 x1 x2) = finish (st x0 x1 x2 2 2).l (st x0 x1 x2 2 2).a := by
  exact congrArg₂ finish (l_2_2 c arg2 harg2 arg3 harg3 arg6 arg7 arg8 arg9 arg10 arg11 x0 x1 x2) (a_2_2 c arg2 harg2 arg3 harg3 arg4 harg4 arg6 arg7 arg8 arg9 arg10 arg12 x0 x1 x2)

theorem fin_3 :
    k0_pay101 (r_21 c arg2 harg2 arg3 harg3 arg4 harg4 arg6 arg7 arg8 arg9 arg10 arg11 arg12 x0 x1 x2) = finish (st x0 x1 x2 3 3).l (st x0 x1 x2 3 3).a := by
  unfold r_21 k0_pay101
  exact congrArg₂ finish (l_3_3 c arg2 harg2 arg3 harg3 arg6 arg7 arg8 arg9 arg10 arg11 x0 x1 x2) (a_3_3 c arg2 harg2 arg3 harg3 arg4 harg4 arg6 arg7 arg8 arg9 arg10 arg12 x0 x1 x2)

theorem fin_4 :
    k0_pay154 (v775 c arg2 harg2 arg3 harg3 arg6 arg7 arg8 arg9 arg10 arg11 x0 x1) (v778 c arg2 harg2 arg3 harg3 arg4 harg4 arg6 arg7 arg8 arg9 arg10 arg12 x0 x1 x2) = finish (st x0 x1 x2 4 4).l (st x0 x1 x2 4 4).a := by
  exact congrArg₂ finish (l_4_4 c arg2 harg2 arg3 harg3 arg6 arg7 arg8 arg9 arg10 arg11 x0 x1 x2) (a_4_4 c arg2 harg2 arg3 harg3 arg4 harg4 arg6 arg7 arg8 arg9 arg10 arg12 x0 x1 x2)

theorem fin_5 :
    k0_pay213 (v1078 c arg2 harg2 arg3 harg3 arg6 arg7 arg8 arg9 arg10 arg11 x0 x1) (v1081 c arg2 harg2 arg3 harg3 arg4 harg4 arg6 arg7 arg8 arg9 arg10 arg12 x0 x1 x2) = finish (st x0 x1 x2 5 5).l (st x0 x1 x2 5 5).a := by
  exact congrArg₂ finish (l_5_5 c arg2 harg2 arg3 harg3 arg6 arg7 arg8 arg9 arg10 arg11 x0 x1 x2) (a_5_5 c arg2 harg2 arg3 harg3 arg4 harg4 arg6 arg7 arg8 arg9 arg10 arg12 x0 x1 x2)

theorem fin_6 :
    k0_pay285 (v1431 c arg2 harg2 arg3 harg3 arg6 arg7 arg8 arg9 arg10 arg11 x0 x1) (v1434 c arg2 harg2 arg3 harg3 arg4 harg4 arg6 arg7 arg8 arg9 arg10 arg12 x0 x1 x2) = finish (st x0 x1 x2 6 6).l (st x0 x1 x2 6 6).a := by
  exact congrArg₂ finish (l_6_6 c arg2 harg2 arg3 harg3 arg6 arg7 arg8 arg9 arg10 arg11 x0 x1 x2) (a_6_6 c arg2 harg2 arg3 harg3 arg4 harg4 arg6 arg7 arg8 arg9 arg10 arg12 x0 x1 x2)

theorem fin_7 :
    k0_pay356 (v1816 c arg2 harg2 arg3 harg3 arg6 arg7 arg8 arg9 arg10 arg11 x0 x1) (v1819 c arg2 harg2 arg3 harg3 arg4 harg4 arg6 arg7 arg8 arg9 arg10 arg12 x0 x1 x2) = finish (st x0 x1 x2 7 7).l (st x0 x1 x2 7 7).a := by
  exact congrArg₂ finish (l_7_7 c arg2 harg2 arg3 harg3 arg6 arg7 arg8 arg9 arg10 arg11 x0 x1 x2) (a_7_7 c arg2 harg2 arg3 harg3 arg4 harg4 arg6 arg7 arg8 arg9 arg10 arg12 x0 x1 x2)

end

/-- The block a grid point leaves is `head` of the blocks it reads. -/
theorem out_eq (c : Dev nD) (i : grid0.Coords)
    (arg2 : Memref sig .tc .vmem S1x1x4096x192 .bf16) (harg2 : arg2.IsWhole)
    (arg3 : Memref sig .tc .vmem S1x1x4096x192 .bf16) (harg3 : arg3.IsWhole)
    (arg4 : Memref sig .tc .vmem S1x1x4096x128 .bf16) (harg4 : arg4.IsWhole)
    (arg5 : Memref sig .tc .vmem S1x4096x128 .bf16) (harg5 : arg5.IsWhole)
    (arg6 : Memref sig .tc .vmem S512x512 .f32) (harg6 : arg6.IsWhole)
    (arg7 : Memref sig .tc .vmem S512x512 .f32) (harg7 : arg7.IsWhole)
    (arg8 : Memref sig .tc .vmem S512x128 .f32) (harg8 : arg8.IsWhole)
    (arg9 : Memref sig .tc .vmem S512x128 .f32) (harg9 : arg9.IsWhole)
    (arg10 : Memref sig .tc .vmem S512x128 .f32) (harg10 : arg10.IsWhole)
    (arg11 : Memref sig .tc .vmem S512x128 .f32) (harg11 : arg11.IsWhole)
    (arg12 : Memref sig .tc .vmem S512x128 .f32) (harg12 : arg12.IsWhole)
    (x0 x1 : Vec F S1x1x4096x192 .bf16) (x2 : Vec F S1x1x4096x128 .bf16) :
    out0_A_3 c i arg2 harg2 arg3 harg3 arg4 harg4 arg5 harg5 arg6 harg6 arg7 harg7 arg8 harg8 arg9 harg9 arg10 harg10 arg11 harg11 arg12 harg12 x0 x1 x2 = head x0 x1 x2 := by
  unfold out0_A_3
  rw [View.read_writes_junk_eq_canon]
  funext y
  refine View.canon_apply_of_pieces (head x0 x1 x2) _ ?_ y (cover0_A_3 c i arg2 harg2 arg3 harg3 arg4 harg4 arg5 harg5 arg6 harg6 arg7 harg7 arg8 harg8 arg9 harg9 arg10 harg10 arg11 harg11 arg12 harg12 x0 x1 x2 y)
  unfold kernelRun0_A
  intro p hp x
  simp only [List.mem_cons, List.not_mem_nil, or_false] at hp
  rcases hp with rfl | rfl | rfl | rfl | rfl | rfl | rfl | rfl
  · exact piece_eq x0 x1 x2 7 3584 inb_S1x4096x128_S1x512x128_0_3584_0 rfl (by decide) _ (fin_7 c arg2 harg2 arg3 harg3 arg4 harg4 arg6 arg7 arg8 arg9 arg10 arg11 arg12 x0 x1 x2) x
  · exact piece_eq x0 x1 x2 6 3072 inb_S1x4096x128_S1x512x128_0_3072_0 rfl (by decide) _ (fin_6 c arg2 harg2 arg3 harg3 arg4 harg4 arg6 arg7 arg8 arg9 arg10 arg11 arg12 x0 x1 x2) x
  · exact piece_eq x0 x1 x2 5 2560 inb_S1x4096x128_S1x512x128_0_2560_0 rfl (by decide) _ (fin_5 c arg2 harg2 arg3 harg3 arg4 harg4 arg6 arg7 arg8 arg9 arg10 arg11 arg12 x0 x1 x2) x
  · exact piece_eq x0 x1 x2 4 2048 inb_S1x4096x128_S1x512x128_0_2048_0 rfl (by decide) _ (fin_4 c arg2 harg2 arg3 harg3 arg4 harg4 arg6 arg7 arg8 arg9 arg10 arg11 arg12 x0 x1 x2) x
  · exact piece_eq x0 x1 x2 3 1536 inb_S1x4096x128_S1x512x128_0_1536_0 rfl (by decide) _ (fin_3 c arg2 harg2 arg3 harg3 arg4 harg4 arg6 arg7 arg8 arg9 arg10 arg11 arg12 x0 x1 x2) x
  · exact piece_eq x0 x1 x2 2 1024 inb_S1x4096x128_S1x512x128_0_1024_0 rfl (by decide) _ (fin_2 c arg2 harg2 arg3 harg3 arg4 harg4 arg6 arg7 arg8 arg9 arg10 arg11 arg12 x0 x1 x2) x
  · exact piece_eq x0 x1 x2 1 512 inb_S1x4096x128_S1x512x128_0_512_0 rfl (by decide) _ (fin_1 c arg2 harg2 arg3 harg3 arg4 harg4 arg6 arg7 arg8 arg9 arg10 arg11 arg12 x0 x1 x2) x
  · exact piece_eq x0 x1 x2 0 0 inb_S1x4096x128_S1x512x128_0_0_0 rfl (by decide) _ (fin_0 c arg2 harg2 arg3 harg3 arg4 harg4 arg6 arg8 arg11 arg12 x0 x1 x2) x

end Cert.KernelIdeal.Attn

end
-- ==== Proof.Head.lean ====
/- A head's results: each row is the sum of the values weighted by powers of two of the scores up to the row, over the
   sum of those weights. -/
module

public import proofs.«01_k».proof.Proof.Sem
public import proofs.«01_k».proof.Proof.Online
public import proofs.«01_k».proof.Proof.Out

@[expose] public section

set_option maxRecDepth 16384

noncomputable section

namespace Cert.KernelIdeal.Attn

open Idealize.ShloMosaic Cert.KernelIdeal Cert.KernelIdeal.Gen Cert.Online

/-! One block, at one row `a`: its scores real (`x`) where `p` and masked elsewhere. -/

section

variable (s : FVec Ideal S512x512 .f32) (a : Fin 512) (p : Fin 512 → Prop) [∀ b, Decidable (p b)] (x : Fin 512 → ℝ)
  (hs : ∀ b, s (ix2 a b) = sc (p b) (x b))

include hs in
theorem rowMax_real (b : Fin 512) (hb : p b) : ∃ μ : ℝ, ∀ c : Fin 128, rowMax s (ix2 a c) = (μ : EReal) := by
  obtain ⟨μ, h⟩ := fold_max_real (fun b : Fin 512 => (s (ix2 a b) : EReal)) (fun b => by rw [hs]; exact sc_ne_top _ _)
    b (x b) (by show s (ix2 a b) = _; rw [hs]; exact if_pos hb)
  exact ⟨μ, fun c => (rowMax_apply s a c).trans h⟩

include hs in
theorem lanes_real (m : FVec Ideal S512x128 .f32) (μ : ℝ) (hm : ∀ c : Fin 128, m (ix2 a c) = (μ : EReal)) (c : Fin 128) :
    lanes (pow m s) (ix2 a c) = (((2 : ℝ) ^ (-μ) * ∑ g : Fin 4, wt (p (col g c)) (x (col g c)) : ℝ) : EReal) := by
  rw [lanes_apply, Finset.mul_sum, coe_sum]
  refine Finset.sum_congr rfl fun g _ => ?_
  rw [pow_apply m s a _ μ hm, hs, exp2_sc]

include hs in
theorem weigh_real (m : FVec Ideal S512x128 .f32) (μ : ℝ) (hm : ∀ c : Fin 128, m (ix2 a c) = (μ : EReal))
    (v : Vec Ideal S1x1x512x128 .bf16) (e : Fin 128) :
    weigh (pow m s) v (ix2 a e)
      = (((2 : ℝ) ^ (-μ) : ℝ) : EReal) * ∑ b : Fin 512, (wt (p b) (x b) : EReal) * v (ix4 (0 : Fin 1) (0 : Fin 1) b e) := by
  rw [weigh_apply, coe_mul_sum _ (by positivity)]
  refine Finset.sum_congr rfl fun b _ => ?_
  rw [pow_apply m s a _ μ hm, hs, exp2_sc, EReal.coe_mul, mul_assoc]

end

/-! The blocks of a row of queries, one after another. -/

variable (q k : Vec Ideal S1x1x4096x192 .bf16) (v : Vec Ideal S1x1x4096x128 .bf16) (qr kr : Fin 4096 → Fin 192 → ℝ)
  (hq : ∀ t d, q (ix4 (0 : Fin 1) (0 : Fin 1) t d) = (qr t d : EReal))
  (hk : ∀ t d, k (ix4 (0 : Fin 1) (0 : Fin 1) t d) = (kr t d : EReal))

/-- The score of query `t` against key `u`. -/
def dotr (t u : Fin 4096) : ℝ := ∑ d : Fin 192, qr t d * kr u d

include hq hk in
theorem score_real (i j : ℕ) (a b : Fin 512) :
    score (blk q i) (blk k j) (ix2 a b) = (dotr qr kr (row i a) (row j b) : EReal) := by
  rw [score_apply, dotr, coe_sum]
  refine Finset.sum_congr rfl fun d _ => ?_
  show q (ix4 (0 : Fin 1) (0 : Fin 1) (row i a) d) * k (ix4 (0 : Fin 1) (0 : Fin 1) (row j b) d) = _
  rw [hq, hk, EReal.coe_mul]

include hq hk in
theorem sO_real (i j : ℕ) (a b : Fin 512) : sO q k i j (ix2 a b) = sc True (dotr qr kr (row i a) (row j b)) :=
  (score_real q k qr kr hq hk i j a b).trans (if_pos trivial).symm

include hq hk in
theorem sD_real (i : ℕ) (a b : Fin 512) : sD q k i (ix2 a b) = sc (b.val ≤ a.val) (dotr qr kr (row i a) (row i b)) := by
  unfold sD sc
  rw [scoreD_apply, score_real q k qr kr hq hk]

/-- The weights of lane `c`, summed over the diagonal and the first `n` blocks. -/
def lsum (i n : ℕ) (a : Fin 512) (c : Fin 128) : ℝ :=
  (∑ g : Fin 4, wt ((col g c).val ≤ a.val) (dotr qr kr (row i a) (row i (col g c))))
    + ∑ j ∈ Finset.range n, ∑ g : Fin 4, wt True (dotr qr kr (row i a) (row j (col g c)))

/-- The weighted values of column `e`, summed over the same. -/
def asum (i n : ℕ) (a : Fin 512) (e : Fin 128) : EReal :=
  (∑ b : Fin 512, (wt (b.val ≤ a.val) (dotr qr kr (row i a) (row i b)) : EReal) * v (ix4 (0 : Fin 1) (0 : Fin 1) (row i b) e))
    + ∑ j ∈ Finset.range n, ∑ b : Fin 512,
        (wt True (dotr qr kr (row i a) (row j b)) : EReal) * v (ix4 (0 : Fin 1) (0 : Fin 1) (row j b) e)

include hq hk in
theorem st_real (i : ℕ) (a : Fin 512) : ∀ n : ℕ, ∃ μ : ℝ,
    (∀ c : Fin 128, (st q k v i n).m (ix2 a c) = (μ : EReal))
    ∧ (∀ c : Fin 128, (st q k v i n).l (ix2 a c) = (((2 : ℝ) ^ (-μ) * lsum qr kr i n a c : ℝ) : EReal))
    ∧ (∀ e : Fin 128, (st q k v i n).a (ix2 a e) = (((2 : ℝ) ^ (-μ) : ℝ) : EReal) * asum v qr kr i n a e)
  | 0 => by
    obtain ⟨μ, hμ⟩ := rowMax_real (sD q k i) a _ _ (sD_real q k qr kr hq hk i a) a (le_refl a.val)
    refine ⟨μ, fun c => by rw [st_zero_m]; exact hμ c, fun c => ?_, fun e => ?_⟩
    · show lanes (pow (rowMax (sD q k i)) (sD q k i)) (ix2 a c) = _
      rw [lanes_real (sD q k i) a _ _ (sD_real q k qr kr hq hk i a) _ μ hμ c, lsum, Finset.range_zero, Finset.sum_empty, add_zero]
    · show weigh (pow (rowMax (sD q k i)) (sD q k i)) (blkV v i) (ix2 a e) = _
      rw [weigh_real (sD q k i) a _ _ (sD_real q k qr kr hq hk i a) _ μ hμ _ e, asum, Finset.range_zero, Finset.sum_empty, add_zero]
      rfl
  | n + 1 => by
    obtain ⟨μ, hm, hl, ha⟩ := st_real i a n
    obtain ⟨ρ, hρ⟩ := rowMax_real (sO q k i n) a _ _ (sO_real q k qr kr hq hk i n a) a trivial
    have hν : ∀ c : Fin 128, maximumf (st q k v i n).m (rowMax (sO q k i n)) (ix2 a c) = ((max μ ρ : ℝ) : EReal) := by
      intro c
      show max ((st q k v i n).m (ix2 a c) : EReal) (rowMax (sO q k i n) (ix2 a c)) = _
      rw [hm, hρ]
      exact (Online.coe_max μ ρ).symm
    refine ⟨max μ ρ, hν, fun c => ?_, fun e => ?_⟩
    · show nextL (st q k v i n).m (rowMax (sO q k i n)) (sO q k i n) (st q k v i n).l (ix2 a c) = _
      rw [nextL_apply, lanes_real (sO q k i n) a _ _ (sO_real q k qr kr hq hk i n a) _ _ hν c, hm, hρ, hl,
        ← Online.coe_max, exp2_sub, ← EReal.coe_mul, ← EReal.coe_add, lsum, lsum, Finset.sum_range_succ]
      congr 1
      rw [← mul_assoc, rescale]
      ring
    · show nextA (st q k v i n).m (rowMax (sO q k i n)) (sO q k i n) (blkV v n) (st q k v i n).a (ix2 a e) = _
      rw [nextA_apply, weigh_real (sO q k i n) a _ _ (sO_real q k qr kr hq hk i n a) _ _ hν _ e, hm, hρ, ha,
        ← Online.coe_max, exp2_sub, ← mul_assoc, ← EReal.coe_mul, rescale,
        ← EReal.left_distrib_of_nonneg_of_ne_top (EReal.coe_nonneg.2 (by positivity)) (EReal.coe_ne_top _),
        asum, asum, Finset.sum_range_succ, add_assoc]
      rfl

/-! All the blocks of a row, as one sum over the keys. -/

theorem sum_lanes {M : Type} [AddCommMonoid M] (f : Fin 512 → M) :
    ∑ c : Fin 128, ∑ g : Fin 4, f (col g c) = ∑ b : Fin 512, f b := by
  rw [Finset.sum_comm, ← Finset.sum_product', ← Equiv.sum_comp (finProdFinEquiv (m := 4) (n := 128)) f]
  refine Finset.sum_congr rfl fun x _ => congrArg f (Fin.ext ?_)
  show 128 * x.1.val + x.2.val = x.2.val + 128 * x.1.val
  omega

/-- A sum over the keys that vanishes after row `a` of block `i` is the diagonal block's part and the earlier blocks'. -/
theorem sum_rows {M : Type} [AddCommMonoid M] (f : Fin 4096 → M) (i : ℕ) (hi : i < 8)
    (hf : ∀ j, j < 8 → i < j → ∀ b, f (row j b) = 0) :
    ∑ u, f u = (∑ b, f (row i b)) + ∑ j ∈ Finset.range i, ∑ b, f (row j b) := by
  have e : ∑ u, f u = ∑ j ∈ Finset.range 8, ∑ b, f (row j b) := by
    rw [Finset.sum_range, ← Finset.sum_product', ← Equiv.sum_comp (finProdFinEquiv (m := 8) (n := 512)) f]
    refine Finset.sum_congr rfl fun x _ => congrArg f (Fin.ext ?_)
    show x.2.val + 512 * x.1.val = (512 * x.1.val + x.2.val) % 4096
    omega
  rw [e, ← Finset.sum_subset (Finset.range_mono (show i + 1 ≤ 8 by omega)), Finset.sum_range_succ, add_comm]
  intro j hj hn
  rw [Finset.mem_range] at hj hn
  exact Finset.sum_eq_zero fun b _ => hf j hj (by omega) b

/-- A weight of key `u` at query `t`. -/
def wk (t u : Fin 4096) : ℝ := wt (u.val ≤ t.val) (dotr qr kr t u)

theorem wk_pos (t : Fin 4096) : 0 < ∑ u, wk qr kr t u :=
  lt_of_lt_of_le (by rw [wt, if_pos le_rfl]; positivity)
    (Finset.single_le_sum (fun u _ => wt_nonneg _ _) (Finset.mem_univ t))

theorem row_val (i : ℕ) (hi : i < 8) (b : Fin 512) : (row i b).val = 512 * i + b.val :=
  Nat.mod_eq_of_lt (by omega)

theorem wk_diag (i : ℕ) (hi : i < 8) (a b : Fin 512) :
    wk qr kr (row i a) (row i b) = wt (b.val ≤ a.val) (dotr qr kr (row i a) (row i b)) := by
  unfold wk wt
  rw [row_val i hi, row_val i hi]
  simp only [Nat.add_le_add_iff_left]

theorem wk_before (i j : ℕ) (hi : i < 8) (hj : j < i) (a b : Fin 512) :
    wk qr kr (row i a) (row j b) = wt True (dotr qr kr (row i a) (row j b)) := by
  unfold wk wt
  rw [row_val i hi, row_val j (by omega), if_pos trivial, if_pos (by omega)]

theorem wk_after (i j : ℕ) (hj : j < 8) (h : i < j) (a b : Fin 512) : wk qr kr (row i a) (row j b) = 0 := by
  unfold wk wt
  rw [row_val i (by omega), row_val j hj, if_neg (by omega)]

theorem lsum_total (i : ℕ) (hi : i < 8) (a : Fin 512) :
    ∑ c : Fin 128, lsum qr kr i i a c = ∑ u, wk qr kr (row i a) u := by
  rw [sum_rows (wk qr kr (row i a)) i hi fun j hj h b => wk_after qr kr i j hj h a b]
  unfold lsum
  rw [Finset.sum_add_distrib, Finset.sum_comm (s := Finset.univ) (t := Finset.range i),
    sum_lanes fun b => wt (b.val ≤ a.val) (dotr qr kr (row i a) (row i b))]
  congr 1
  · exact Finset.sum_congr rfl fun b _ => (wk_diag qr kr i hi a b).symm
  · refine Finset.sum_congr rfl fun j hj => ?_
    rw [sum_lanes fun b => wt True (dotr qr kr (row i a) (row j b))]
    exact Finset.sum_congr rfl fun b _ => (wk_before qr kr i j hi (Finset.mem_range.1 hj) a b).symm

theorem asum_total (i : ℕ) (hi : i < 8) (a : Fin 512) (e : Fin 128) :
    asum v qr kr i i a e = ∑ u, (wk qr kr (row i a) u : EReal) * v (ix4 (0 : Fin 1) (0 : Fin 1) u e) := by
  rw [sum_rows (fun u => (wk qr kr (row i a) u : EReal) * v (ix4 (0 : Fin 1) (0 : Fin 1) u e)) i hi fun j hj h b => by
    rw [wk_after qr kr i j hj h a b, EReal.coe_zero, zero_mul]]
  unfold asum
  congr 1
  · exact Finset.sum_congr rfl fun b _ => by rw [wk_diag qr kr i hi a b]
  · refine Finset.sum_congr rfl fun j hj => Finset.sum_congr rfl fun b _ => ?_
    rw [wk_before qr kr i j hi (Finset.mem_range.1 hj) a b]

include hq hk in
/-- A head's result at token `t`, column `e`. -/
theorem head_apply (z : Fin 1) (t : Fin 4096) (e : Fin 128) :
    head q k v (ix3 z t e) = ((1 / ∑ u, wk qr kr t u : ℝ) : EReal)
      * ∑ u, (wk qr kr t u : EReal) * v (ix4 (0 : Fin 1) (0 : Fin 1) u e) := by
  obtain ⟨i, hi⟩ : ∃ i, i = t.val / 512 := ⟨_, rfl⟩
  obtain ⟨a, ha⟩ : ∃ a : Fin 512, a = ⟨t.val % 512, Nat.mod_lt _ (by decide)⟩ := ⟨_, rfl⟩
  have hi8 : i < 8 := by omega
  have ht : t = row i a := Fin.ext (by rw [row_val i hi8, hi, ha]; show t.val = 512 * (t.val / 512) + t.val % 512; omega)
  show finish (st q k v (t.val / 512) (t.val / 512)).l (st q k v (t.val / 512) (t.val / 512)).a
    (ix3 z (⟨t.val % 512, Nat.mod_lt _ (by decide)⟩ : Fin 512) e) = _
  rw [← hi, ← ha, finish_apply, ht]
  obtain ⟨μ, -, hl, hA⟩ := st_real q k v qr kr hq hk i a i
  have hp := wk_pos qr kr (row i a)
  have hP : (0 : ℝ) < 2 ^ (-μ) := by positivity
  simp only [hl]
  rw [← coe_sum, ← Finset.mul_sum, lsum_total qr kr i hi8, hA, asum_total v qr kr i hi8,
    Ideal.div_coe (mul_pos hP hp).ne', mul_assoc, mul_comm, mul_assoc, ← EReal.coe_mul, mul_comm]
  congr 2
  field_simp

end Cert.KernelIdeal.Attn

end
-- ==== Proof.Array.lean ====
/- What the result array holds after the run: each head's results, of that head's queries, keys and values as the host
   lines leave them. -/
module

public import proofs.«01_k».proof.Proof.Out

@[expose] public section

set_option maxRecDepth 16384

noncomputable section

namespace Cert.KernelIdeal.Attn

open Idealize.ShloMosaic Idealize.ShloMosaic.TcCoe Cert.KernelIdeal Cert.KernelIdeal.Gen

variable {F : FTy → Type} [FloatOps F] [Named F]

/-- Head `h` of batch entry `b` of a laid-out array of queries or keys. -/
def headQ (x : Vec F S8x8x4096x192 .bf16) (b h : Fin 8) : Vec F S1x1x4096x192 .bf16 :=
  fun j => x (ix4 b h (j 2) (j 3))
/-- The same of an array of values. -/
def headV (x : Vec F S8x8x4096x128 .bf16) (b h : Fin 8) : Vec F S1x1x4096x128 .bf16 :=
  fun j => x (ix4 b h (j 2) (j 3))

/-- The result: entry `b`, token `t`, column `128 h + e` is head `h`'s result at token `t`, column `e`. -/
def result (q k : Vec F S8x8x4096x192 .bf16) (v : Vec F S8x8x4096x128 .bf16) : Vec F S8x4096x1024 .bf16 := fun i =>
  have h : Fin 8 := ⟨(i 2).val / 128, by have : (i 2).val < 1024 := (i 2).isLt; omega⟩
  head (headQ q (i 0) h) (headQ k (i 0) h) (headV v (i 0) h)
    (ix3 (0 : Fin 1) (i 1) (⟨(i 2).val % 128, Nat.mod_lt _ (by decide)⟩ : Fin 128))

variable (m : (ℓ : Loc nD τ sig) → Buf (Elt F) ℓ)

theorem index_0 : ∀ t : Fin cfg0.N, win0_0.index t = ![t.val / 8, t.val % 8, 0, 0] :=
  (by decide +kernel : ∀ t : Fin grid0.N, win0_0.index t = ![t.val / 8, t.val % 8, 0, 0])
theorem index_1 : ∀ t : Fin cfg0.N, win0_1.index t = ![t.val / 8, t.val % 8, 0, 0] :=
  (by decide +kernel : ∀ t : Fin grid0.N, win0_1.index t = ![t.val / 8, t.val % 8, 0, 0])
theorem index_2 : ∀ t : Fin cfg0.N, win0_2.index t = ![t.val / 8, t.val % 8, 0, 0] :=
  (by decide +kernel : ∀ t : Fin grid0.N, win0_2.index t = ![t.val / 8, t.val % 8, 0, 0])
theorem index_3 : ∀ t : Fin cfg0.N, win0_3.index t = ![t.val / 8, 0, t.val % 8] :=
  (by decide +kernel : ∀ t : Fin grid0.N, win0_3.index t = ![t.val / 8, 0, t.val % 8])

theorem result_at (q k : Vec F S8x8x4096x192 .bf16) (v : Vec F S8x8x4096x128 .bf16) (i : S8x4096x1024.Idx) (b h : Fin 8)
    (y : S1x4096x128.Idx) (h0 : (i 0).val = b.val) (h1 : (i 1).val = (y 1).val) (h2 : (i 2).val = 128 * h.val + (y 2).val) :
    result q k v i = head (headQ q b h) (headQ k b h) (headV v b h) y := by
  have hy0 : (y 0).val < 1 := (y 0).isLt
  have hy2 : (y 2).val < 128 := (y 2).isLt
  have eb : i 0 = b := Fin.ext h0
  have eh : (⟨(i 2).val / 128, by have : (i 2).val < 1024 := (i 2).isLt; omega⟩ : Fin 8) = h := Fin.ext (by show (i 2).val / 128 = _; omega)
  have ey : (ix3 (0 : Fin 1) (i 1) (⟨(i 2).val % 128, Nat.mod_lt _ (by decide)⟩ : Fin 128) : S1x4096x128.Idx) = y := by
    funext a
    match a with
    | ⟨0, _⟩ => exact Fin.ext (by show 0 = (y 0).val; omega)
    | ⟨1, _⟩ => exact Fin.ext h1
    | ⟨2, _⟩ => exact Fin.ext (by show (i 2).val % 128 = (y 2).val; omega)
  show head (headQ q (i 0) _) (headQ k (i 0) _) (headV v (i 0) _) _ = _
  rw [eb, eh, ey]

/-- The batch entry and the head of a grid point. -/
def entry (t : Fin cfg0.N) : Fin 8 := ⟨t.val / 8, by have : t.val < 64 := t.isLt; omega⟩
def hd (t : Fin cfg0.N) : Fin 8 := ⟨t.val % 8, Nat.mod_lt _ (by decide)⟩

theorem iblk_0 (c : Dev nD) (t : Fin cfg0.N) : iblk m c 0 t = headQ (V m c main_v8) (entry t) (hd t) := by
  funext y
  show _ = V m c main_v8 _
  blk_ext [iblk, index_0 t] <;> rfl
theorem iblk_1 (c : Dev nD) (t : Fin cfg0.N) : iblk m c 1 t = headQ (V m c main_v13) (entry t) (hd t) := by
  funext y
  show _ = V m c main_v13 _
  blk_ext [iblk, index_1 t] <;> rfl
theorem iblk_2 (c : Dev nD) (t : Fin cfg0.N) : iblk m c 2 t = headV (V m c main_v15) (entry t) (hd t) := by
  funext y
  show _ = V m c main_v15 _
  blk_ext [iblk, index_2 t] <;> rfl

theorem arr_eq (c : Dev nD) : (dats m 0 c).arrAt 3 cfg0.N
    = result (V m c main_v8) (V m c main_v13) (V m c main_v15) := by
  refine (dats m 0 c).arrAt_eq_of_covers 3 _ (by decide +kernel) fun t hf y => ?_
  blk_simp
  rw [after0_3]
  unfold outsAt0
  rw [out_eq, iblk_0, iblk_1, iblk_2]
  have e0 : ((win0_3.blk t).view.emb y 0).val = (entry t).val := by
    blk_simp [index_3 t]; rfl
  have e1 : ((win0_3.blk t).view.emb y 1).val = (y 1).val := by
    blk_simp [index_3 t]
  have e2 : ((win0_3.blk t).view.emb y 2).val = 128 * (hd t).val + (y 2).val := by
    blk_simp [index_3 t]; show t.val % 8 * 128 + (y 2).val = 128 * (t.val % 8) + (y 2).val; omega
  exact (result_at _ _ _ _ (entry t) (hd t) y e0 e1 e2).symm

end Cert.KernelIdeal.Attn

end
-- ==== Proof.Host.lean ====
/- The laid-out queries, keys and values that the host lines hand the attention, at an index. -/
module

public import proofs.«01_k».proof.Proof.Array
public import Idealize.ShloMosaic.Lib.Pointwise

@[expose] public section

set_option maxRecDepth 16384

noncomputable section

namespace Cert.KernelIdeal.Attn

open Idealize.ShloMosaic Idealize.ShloMosaic.TcCoe Cert.KernelIdeal Cert.KernelIdeal.Gen

variable (m : (ℓ : Loc nD τ sig) → Buf (Elt Ideal) ℓ)

/-- The factor that the queries carry. -/
def factor : EReal := Ideal.div (Ideal.ofBits .f32 0x3D93CD3A#32) (Ideal.log (Ideal.ofBits .f32 0x40000000#32))

/-- The argument arrays, as arrays of extended reals. -/
def argQ (c : Dev nD) : S8x4096x8x128.Idx → EReal := m ((c.tc : Thread nD τ).loc main_arg0)
def argQp (c : Dev nD) : S8x4096x8x64.Idx → EReal := m ((c.tc : Thread nD τ).loc main_arg1)
def argK (c : Dev nD) : S8x4096x8x128.Idx → EReal := m ((c.tc : Thread nD τ).loc main_arg2)
def argKp (c : Dev nD) : S8x4096x64.Idx → EReal := m ((c.tc : Thread nD τ).loc main_arg3)
def argV (c : Dev nD) : S8x4096x8x128.Idx → EReal := m ((c.tc : Thread nD τ).loc main_arg4)

/-- The laid-out queries: without position first, with position after, each times the factor. -/
theorem qm_apply (c : Dev nD) (b h : Fin 8) (t : Fin 4096) (d : Fin 192) :
    (V m c main_v8 (ix4 b h t d) : EReal) =
      if hd : d.val < 128 then argQ m c (ix4 b t h (⟨d.val, hd⟩ : Fin 128)) * factor
      else argQp m c (ix4 b t h (⟨d.val - 128, by omega⟩ : Fin 64)) * factor := by
  entry_read
  pointwise
  rfl

/-- The laid-out keys: without position first, with position after, the same for every head. -/
theorem km_apply (c : Dev nD) (b h : Fin 8) (t : Fin 4096) (d : Fin 192) :
    (V m c main_v13 (ix4 b h t d) : EReal) =
      if hd : d.val < 128 then argK m c (ix4 b t h (⟨d.val, hd⟩ : Fin 128))
      else argKp m c (ix3 b t (⟨d.val - 128, by omega⟩ : Fin 64)) := by
  entry_read
  pointwise
  rfl

/-- The laid-out values. -/
theorem vm_apply (c : Dev nD) (b h : Fin 8) (t : Fin 4096) (d : Fin 128) :
    (V m c main_v15 (ix4 b h t d) : EReal) = argV m c (ix4 b t h d) := by
  entry_read
  pointwise
  rfl

end Cert.KernelIdeal.Attn

end
-- ==== Proof.Equation.lean ====
/- The reference at an index, with finite queries and keys: each value weighted by a power of two of its score, over the
   sum of those weights. -/
module

public import proofs.«01_k».proof.Proof.Ref
public import proofs.«01_k».proof.Proof.Head
public import proofs.«01_k».proof.Proof.Host

@[expose] public section

set_option maxRecDepth 16384

noncomputable section

namespace Cert.ReferenceIdeal.Attn

open Idealize.ShloMosaic Idealize.ShloMosaic.TcCoe Cert.ReferenceIdeal Cert.ReferenceIdeal.Gen Cert.Online
open Cert.KernelIdeal.Attn (dotr wk wk_pos select_sle ofBits_neg_inf factor)

/-- The scores' scale, a real. -/
def scale : ℝ := (Ideal.ofBits .f32 0x3D93CD3A#32 : EReal).toReal
theorem scale_eq : (Ideal.ofBits .f32 0x3D93CD3A#32 : EReal) = (scale : EReal) := by
  have h : (Ideal.ofBits .f32 0x3D93CD3A#32 : EReal) = ((9686330 * ((2 : ℝ) ^ 27)⁻¹ : ℝ) : EReal) := by
    simp [Ideal.ofBits, Ideal.ieee, EReal.coe_mul]
  unfold scale
  rw [h, EReal.toReal_coe]
/-- The factor that the kernel's queries carry. -/
theorem factor_eq : factor = ((scale / Real.log 2 : ℝ) : EReal) := by
  have h2 : (Ideal.ofBits .f32 0x40000000#32 : EReal) = ((2 : ℝ) : EReal) := by
    simp [Ideal.ofBits, Ideal.ieee]; rw [← EReal.coe_mul]; norm_num
  unfold factor
  rw [scale_eq, h2, Ideal.log_coe, if_neg (by norm_num), Ideal.div_coe (Real.log_pos one_lt_two).ne', ← EReal.coe_mul]
  congr 1; ring

variable (q : S8x4096x8x128.Idx → ℝ) (qp : S8x4096x8x64.Idx → ℝ) (k : S8x4096x8x128.Idx → ℝ) (kp : S8x4096x64.Idx → ℝ)

/-- A head's query row, both parts, with the kernel's factor. -/
def qrow (b h : Fin 8) (t : Fin 4096) (d : Fin 192) : ℝ :=
  if hd : d.val < 128 then q (ix4 b t h (⟨d.val, hd⟩ : Fin 128)) * (scale / Real.log 2)
  else qp (ix4 b t h (⟨d.val - 128, by omega⟩ : Fin 64)) * (scale / Real.log 2)
/-- A head's key row, both parts. -/
def krow (b h : Fin 8) (t : Fin 4096) (d : Fin 192) : ℝ :=
  if hd : d.val < 128 then k (ix4 b t h (⟨d.val, hd⟩ : Fin 128)) else kp (ix3 b t (⟨d.val - 128, by omega⟩ : Fin 64))

/-- The products of both parts, added. -/
def both (b h : Fin 8) (t u : Fin 4096) : ℝ :=
  (∑ d : Fin 128, q (ix4 b t h d) * k (ix4 b u h d)) + ∑ d : Fin 64, kp (ix3 b u d) * qp (ix4 b t h d)

theorem dot_rows (b h : Fin 8) (t u : Fin 4096) :
    dotr (qrow q qp b h) (krow k kp b h) t u = both q qp k kp b h t u * scale / Real.log 2 := by
  unfold dotr both
  refine (Fin.sum_univ_add (a := 128) (b := 64) fun d : Fin 192 => qrow q qp b h t d * krow k kp b h u d).trans ?_
  rw [mul_div_assoc, add_mul, Finset.sum_mul, Finset.sum_mul]
  refine congrArg₂ (· + ·) (Finset.sum_congr rfl fun d _ => ?_) (Finset.sum_congr rfl fun d _ => ?_)
  · have hd : (Fin.castAdd 64 d).val < 128 := d.isLt
    show qrow q qp b h t (Fin.castAdd 64 d) * krow k kp b h u (Fin.castAdd 64 d) = _
    unfold qrow krow
    rw [dif_pos hd, dif_pos hd]
    show q (ix4 b t h d) * _ * k (ix4 b u h d) = _
    ring
  · have hd : ¬ (Fin.natAdd 128 d).val < 128 := by simp
    have e : (⟨(Fin.natAdd 128 d).val - 128, by have := d.isLt; simp⟩ : Fin 64) = d := Fin.ext (by simp)
    show qrow q qp b h t (Fin.natAdd 128 d) * krow k kp b h u (Fin.natAdd 128 d) = _
    unfold qrow krow
    rw [dif_neg hd, dif_neg hd, e]
    ring

/-- The reference's scores, scaled and masked. -/
theorem scores_real (b h : Fin 8) (t u : Fin 4096) :
    scores (prods (fun i => (q i : EReal)) (fun i => (qp i : EReal)) (fun i => (k i : EReal)) fun i => (kp i : EReal)) (ix4 b h t u)
      = sc (u.val ≤ t.val) (both q qp k kp b h t u * scale) := by
  rw [scores_apply, prods_apply, causal_apply, select_sle _ _ u.isLt t.isLt, scale_eq, ofBits_neg_inf]
  unfold sc
  split
  · simp only [← EReal.coe_mul]
    rw [← coe_sum, ← coe_sum, ← EReal.coe_add, ← EReal.coe_mul]
    rfl
  · rfl

/-- A row of the reference's exponentials: the weights, up to a factor of the row. -/
theorem expo_real (s : FVec Ideal S8x8x4096x4096 .f32) (b h : Fin 8) (t : Fin 4096) (x : Fin 4096 → ℝ)
    (hs : ∀ u, s (ix4 b h t u) = sc (u.val ≤ t.val) (x u)) :
    ∃ μ : ℝ, ∀ u, expo (constant S_ .f32 0xFF800000#32) s (top (constant S_ .f32 0xFF800000#32) s) (ix4 b h t u)
      = ((Real.exp (-μ) * wt (u.val ≤ t.val) (x u / Real.log 2) : ℝ) : EReal) := by
  obtain ⟨μ, hμ⟩ := fold_max_real (fun u => sc (u.val ≤ t.val) (x u)) (fun u => sc_ne_top _ _) t (x t) (if_pos le_rfl)
  refine ⟨μ, fun u => ?_⟩
  have hz : ∀ i, ((constant S_ .f32 0xFF800000#32 : FVec Ideal S_ .f32) i : EReal) = ⊥ := fun _ => ofBits_neg_inf
  rw [expo_apply, top_apply, hz, hz]
  simp only [hs]
  rw [hμ, max_eq_right bot_le]
  exact exp_sc _ _ _

/-- The reference, at an index. -/
theorem ref_apply (v : FVec Ideal S8x4096x8x128 .f32) (b : Fin 8) (t : Fin 4096) (c : Fin 1024) :
    (let x := scores (prods (fun i => (q i : EReal)) (fun i => (qp i : EReal)) (fun i => (k i : EReal)) fun i => (kp i : EReal));
      mix (soft (expo (constant S_ .f32 0xFF800000#32) x (top (constant S_ .f32 0xFF800000#32) x))) v (ix3 b t c))
      = (have h : Fin 8 := ⟨c.val / 128, by omega⟩;
        ((1 / ∑ u, wk (qrow q qp b h) (krow k kp b h) t u : ℝ) : EReal)
          * ∑ u, (wk (qrow q qp b h) (krow k kp b h) t u : EReal) * v (ix4 b u h (⟨c.val % 128, by omega⟩ : Fin 128))) := by
  have hpos := wk_pos (qrow q qp b ⟨c.val / 128, by omega⟩) (krow k kp b ⟨c.val / 128, by omega⟩) t
  obtain ⟨μ, hμ⟩ := expo_real _ b ⟨c.val / 128, by omega⟩ t _ (scores_real q qp k kp b ⟨c.val / 128, by omega⟩ t)
  have hw : ∀ u : Fin 4096, wt (u.val ≤ t.val) (both q qp k kp b ⟨c.val / 128, by omega⟩ t u * scale / Real.log 2)
      = wk (qrow q qp b ⟨c.val / 128, by omega⟩) (krow k kp b ⟨c.val / 128, by omega⟩) t u := fun u => by
    unfold wk; rw [dot_rows]
  simp only [hw] at hμ
  show mix _ v (ix3 b t c) = _
  rw [mix_apply, coe_mul_sum _ (by positivity)]
  refine Finset.sum_congr rfl fun u _ => ?_
  rw [soft_apply, hμ u]
  simp only [hμ]
  rw [← coe_sum, ← Finset.mul_sum, Ideal.div_coe (mul_pos (Real.exp_pos _) hpos).ne', ← EReal.coe_mul, mul_comm, ← mul_assoc,
    ← EReal.coe_mul]
  congr 2
  have := (Real.exp_pos (-μ)).ne'
  field_simp

end Cert.ReferenceIdeal.Attn

end
-- ==== Proof.Value.lean ====
/- The kernel's result is the reference's, with finite queries and keys. -/
module

public import proofs.«01_k».proof.Proof.Equation
public import proofs.«01_k».proof.Pre_finite

@[expose] public section

set_option maxRecDepth 16384

noncomputable section

namespace Cert.Attention

open Idealize.ShloMosaic Idealize.ShloMosaic.TcCoe Cert.Online
open Cert.KernelIdeal.Attn Cert.ReferenceIdeal.Attn

/-- An extended real less than infinity in absolute value is a real. -/
theorem real_of_lt (x : EReal) (h : Ideal.cmp .olt (max x (-x)) (Ideal.ofBits .f32 0x7F800000#32) = 1#1) :
    ∃ r : ℝ, x = (r : EReal) := by
  have e : (Ideal.ofBits .f32 0x7F800000#32 : EReal) = ⊤ := by simp [Ideal.ofBits, Ideal.ieee]
  rw [e] at h
  have h' : max x (-x) < ⊤ := by
    by_contra hc
    exact absurd h (by simp [Ideal.cmp, hc])
  induction x with
  | bot => simp at h'
  | coe r => exact ⟨r, rfl⟩
  | top => simp at h'

/-- An array that the precondition calls finite is an array of reals. -/
theorem reals_of_finite {s : Shape} (x : s.Idx → EReal)
    (h : ∀ i, Ideal.cmp .olt (max (x i) (-(x i))) (Ideal.ofBits .f32 0x7F800000#32) = 1#1) :
    ∃ r : s.Idx → ℝ, x = fun i => (r i : EReal) := by
  choose r hr using fun i => real_of_lt (x i) (h i)
  exact ⟨r, funext hr⟩

section
open Cert.KernelIdeal Cert.KernelIdeal.Gen

variable (m : (ℓ : Loc nD τ sig) → Buf (Elt Ideal) ℓ)

/-- The kernel's result from finite queries and keys is the reference's. -/
theorem value (c : Dev nD) (q : S8x4096x8x128.Idx → ℝ) (qp : S8x4096x8x64.Idx → ℝ) (k : S8x4096x8x128.Idx → ℝ)
    (kp : S8x4096x64.Idx → ℝ) (hq : argQ m c = fun i => (q i : EReal)) (hqp : argQp m c = fun i => (qp i : EReal))
    (hk : argK m c = fun i => (k i : EReal)) (hkp : argKp m c = fun i => (kp i : EReal)) :
    result (V m c main_v8) (V m c main_v13) (V m c main_v15)
      = (let x := scores (prods (argQ m c) (argQp m c) (argK m c) (argKp m c));
        mix (soft (expo (constant Cert.ReferenceIdeal.S_ .f32 0xFF800000#32) x (top (constant Cert.ReferenceIdeal.S_ .f32 0xFF800000#32) x)))
          (argV m c)) := by
  funext i
  obtain ⟨b, t, x, rfl⟩ : ∃ (b : Fin 8) (t : Fin 4096) (x : Fin 1024), i = ix3 b t x :=
    ⟨i 0, i 1, i 2, by funext a; match a with | ⟨0, _⟩ => rfl | ⟨1, _⟩ => rfl | ⟨2, _⟩ => rfl⟩
  have hQ : ∀ (h : Fin 8) (t : Fin 4096) (d : Fin 192),
      headQ (V m c main_v8) b h (ix4 (0 : Fin 1) (0 : Fin 1) t d) = ((qrow q qp b h t d : ℝ) : EReal) := fun h t d => by
    refine (qm_apply m c b h t d).trans ?_
    unfold qrow
    rw [hq, hqp, factor_eq]
    split <;> exact (EReal.coe_mul _ _).symm
  have hK : ∀ (h : Fin 8) (t : Fin 4096) (d : Fin 192),
      headQ (V m c main_v13) b h (ix4 (0 : Fin 1) (0 : Fin 1) t d) = ((krow k kp b h t d : ℝ) : EReal) := fun h t d => by
    refine (km_apply m c b h t d).trans ?_
    unfold krow
    rw [hk, hkp]
    split <;> rfl
  rw [hq, hqp, hk, hkp]
  refine Eq.trans ?_ (ref_apply q qp k kp (argV m c) b t x).symm
  refine (head_apply _ _ _ (qrow q qp b ⟨x.val / 128, by omega⟩) (krow k kp b ⟨x.val / 128, by omega⟩)
    (hQ _) (hK _) (0 : Fin 1) t (⟨x.val % 128, by omega⟩ : Fin 128)).trans ?_
  refine congrArg _ (Finset.sum_congr rfl fun u _ => congrArg _ ?_)
  exact vm_apply m c b ⟨x.val / 128, by omega⟩ u ⟨x.val % 128, by omega⟩

end

end Cert.Attention

end
-- ==== Proof.Rows.lean ====
/- The norm of a row, the gated unit on it, and the two spellings of its activation: equal where their argument is a real. -/
module

public import Idealize.ShloMosaic.PureOps.Ideal
public import Idealize.ShloMosaic.PureOps
public import Idealize.ShloMosaic.Lib.Pointwise
public import proofs.«01_k».proof.Proof.Online

@[expose] public section

noncomputable section

namespace Cert.Rows

open Idealize.ShloMosaic Cert.Online

/-- Row `n` of an array of batch entries and tokens, these counted through. -/
def row (x : Shape.Idx ⟨3, ![8, 4096, 1024]⟩ → EReal) (n : Fin 32768) : Fin 1024 → EReal := fun e =>
  x (ix3 (⟨n.val / 4096, by omega⟩ : Fin 8) (⟨n.val % 4096, by omega⟩ : Fin 4096) e)

/-- A row over its root mean square, times a weight. -/
def norm (x w : Fin 1024 → EReal) : Fin 1024 → EReal := fun d =>
  x d * Ideal.rsqrt (Ideal.div (∑ e, x e * x e) (Ideal.ofBits .f32 0x44800000#32) + Ideal.ofBits .f32 0x358637BD#32) * w d

/-- A sigmoid by the hyperbolic tangent. -/
def sigT (g : EReal) : EReal :=
  Ideal.ofBits .f32 0x3F000000#32 * Ideal.tanh (Ideal.ofBits .f32 0x3F000000#32 * g) + Ideal.ofBits .f32 0x3F000000#32
/-- A sigmoid by the exponential. -/
def sigE (g : EReal) : EReal :=
  Ideal.div (Ideal.ofBits .f32 0x3F800000#32) (Ideal.ofBits .f32 0x3F800000#32 + Ideal.exp (-g))
/-- The activation by the hyperbolic tangent. -/
def siluT (g : EReal) : EReal :=
  Ideal.ofBits .f32 0x3F000000#32 * g * Ideal.tanh (Ideal.ofBits .f32 0x3F000000#32 * g) + Ideal.ofBits .f32 0x3F000000#32 * g
/-- The activation by the exponential. -/
def siluE (g : EReal) : EReal := g * sigE g

/-- A row's norm under a weight. -/
def proj (x nw : Fin 1024 → EReal) (w : Fin 1024 → Fin 1024 → EReal) : Fin 1024 → EReal := fun j => ∑ e, norm x nw e * w e j

/-- The gated unit of a row under an activation `s`. -/
def unit (s : EReal → EReal) (x : Fin 1024 → EReal) (wg wu : Fin 1024 → Fin 2816 → EReal) (wd : Fin 2816 → Fin 1024 → EReal) :
    Fin 1024 → EReal := fun d => ∑ j, (s (∑ e, x e * wg e j) * ∑ e, x e * wu e j) * wd j d

/-- A row plus half its normed gated unit. -/
def step (s : EReal → EReal) (x nw : Fin 1024 → EReal) (wg wu : Fin 1024 → Fin 2816 → EReal) (wd : Fin 2816 → Fin 1024 → EReal) :
    Fin 1024 → EReal := fun d => x d + Ideal.ofBits .f32 0x3F000000#32 * unit s (norm x nw) wg wu wd d

/-- The merge of two branches: each projected, weighted by the sigmoid of its gate, added, and projected. -/
def merge (s : EReal → EReal) (h oa ob ga gb : Fin 1024 → EReal) (pa pb wo : Fin 1024 → Fin 1024 → EReal) : Fin 1024 → EReal := fun d =>
  h d + ∑ j, (s (ga j) * (∑ e, oa e * pa e j) + s (gb j) * ∑ e, ob e * pb e j) * wo j d

theorem step_congr (s : EReal → EReal) {x x' nw nw' : Fin 1024 → EReal} {wg wg' wu wu' : Fin 1024 → Fin 2816 → EReal}
    {wd wd' : Fin 2816 → Fin 1024 → EReal} (hx : ∀ e, x e = x' e) (hn : ∀ e, nw e = nw' e) (hg : ∀ e j, wg e j = wg' e j)
    (hu : ∀ e j, wu e j = wu' e j) (hd : ∀ j e, wd j e = wd' j e) : step s x nw wg wu wd = step s x' nw' wg' wu' wd' := by
  rw [funext hx, funext hn, funext fun e => funext (hg e), funext fun e => funext (hu e), funext fun j => funext (hd j)]
theorem merge_congr {s s' : EReal → EReal} {h h' oa oa' ob ob' ga ga' gb gb' : Fin 1024 → EReal} {pa pa' pb pb' wo wo' : Fin 1024 → Fin 1024 → EReal}
    (hh : ∀ e, h e = h' e) (ha : ∀ e, oa e = oa' e) (hb : ∀ e, ob e = ob' e) (hga : ∀ e, s (ga e) = s' (ga' e)) (hgb : ∀ e, s (gb e) = s' (gb' e))
    (hpa : ∀ e j, pa e j = pa' e j) (hpb : ∀ e j, pb e j = pb' e j) (hwo : ∀ j e, wo j e = wo' j e) :
    merge s h oa ob ga gb pa pb wo = merge s' h' oa' ob' ga' gb' pa' pb' wo' := by
  rw [funext hh, funext ha, funext hb, funext fun e => funext (hpa e), funext fun e => funext (hpb e), funext fun e => funext (hwo e)]
  unfold merge
  simp only [hga, hgb]

theorem half_eq : (Ideal.ofBits .f32 0x3F000000#32 : EReal) = ((1 / 2 : ℝ) : EReal) := by
  simp [Ideal.ofBits, Ideal.ieee]; rw [← EReal.coe_mul]; norm_num
theorem one_eq : (Ideal.ofBits .f32 0x3F800000#32 : EReal) = ((1 : ℝ) : EReal) := by
  simp [Ideal.ofBits, Ideal.ieee]; rw [← EReal.coe_mul]; norm_num
theorem width_eq : (Ideal.ofBits .f32 0x44800000#32 : EReal) = ((1024 : ℝ) : EReal) := by
  simp [Ideal.ofBits, Ideal.ieee]; rw [← EReal.coe_mul]; norm_num
theorem eps_eq : ∃ r : ℝ, 0 < r ∧ (Ideal.ofBits .f32 0x358637BD#32 : EReal) = (r : EReal) := by
  refine ⟨8796093 * (2 ^ 43)⁻¹, by positivity, ?_⟩
  simp [Ideal.ofBits, Ideal.ieee, EReal.coe_mul]

/-- Half of a hyperbolic tangent of a half, plus a half, is the sigmoid. -/
theorem tanh_half (r : ℝ) : 1 / 2 * Real.tanh (1 / 2 * r) + 1 / 2 = 1 / (1 + Real.exp (-r)) := by
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  have p1 := Real.exp_pos (1 / 2 * r)
  have p2 := Real.exp_pos (-(1 / 2 * r))
  rw [Real.tanh_eq_sinh_div_cosh, Real.sinh_eq, Real.cosh_eq, h1]
  generalize Real.exp (1 / 2 * r) = a at *
  generalize Real.exp (-(1 / 2 * r)) = b at *
  have : a + b ≠ 0 := by positivity
  have : 1 + b * b ≠ 0 := by positivity
  field_simp
  linear_combination 2 * b * h2

theorem sigE_coe (r : ℝ) : sigE (r : EReal) = ((1 / (1 + Real.exp (-r)) : ℝ) : EReal) := by
  have hp : 0 < 1 + Real.exp (-r) := by positivity
  unfold sigE
  rw [one_eq, ← EReal.coe_neg, Ideal.exp_coe, ← EReal.coe_add, Ideal.div_coe hp.ne', ← EReal.coe_mul, one_mul]

/-- The two sigmoids agree everywhere. -/
theorem sigT_eq (g : EReal) : sigT g = sigE g := by
  induction g with
  | bot =>
    unfold sigT sigE
    rw [half_eq, one_eq, EReal.coe_mul_bot_of_pos (by norm_num), Ideal.tanh_bot, EReal.neg_bot, Ideal.exp_top, EReal.coe_add_top]
    rw [Ideal.div, if_neg EReal.top_ne_zero, EReal.inv_top, mul_zero]
    rw [← EReal.coe_one, ← EReal.coe_neg, ← EReal.coe_mul, ← EReal.coe_add]
    norm_num
  | coe r =>
    rw [sigE_coe, ← tanh_half]
    unfold sigT
    rw [half_eq, ← EReal.coe_mul, Ideal.tanh_coe, ← EReal.coe_mul, ← EReal.coe_add]
  | top =>
    unfold sigT sigE
    rw [half_eq, one_eq, EReal.coe_mul_top_of_pos (by norm_num), Ideal.tanh_top, EReal.neg_top, Ideal.exp_bot, add_zero,
      Ideal.div_coe one_ne_zero, ← EReal.coe_one, ← EReal.coe_mul, ← EReal.coe_mul, ← EReal.coe_add]
    norm_num

/-- The two activations agree at a real. -/
theorem siluT_coe (r : ℝ) : siluT (r : EReal) = siluE r := by
  unfold siluE siluT
  rw [sigE_coe, ← tanh_half, half_eq, ← EReal.coe_mul, Ideal.tanh_coe, ← EReal.coe_mul, ← EReal.coe_add, ← EReal.coe_mul]
  congr 1; ring

/-- A row over its root mean square is real, whatever the row: an infinite entry makes the factor zero. -/
theorem scaled_real (x : Fin 1024 → EReal) (d : Fin 1024) : ∃ r : ℝ,
    x d * Ideal.rsqrt (Ideal.div (∑ e, x e * x e) (Ideal.ofBits .f32 0x44800000#32) + Ideal.ofBits .f32 0x358637BD#32) = (r : EReal) := by
  obtain ⟨ε, hε, e⟩ := eps_eq
  rw [e, width_eq, Ideal.div_coe (by norm_num)]
  have nonneg : ∀ y : EReal, 0 ≤ y * y := fun y => by
    induction y with
    | bot => simp
    | coe r => rw [← EReal.coe_mul]; exact_mod_cast mul_self_nonneg r
    | top => simp
  by_cases h : ∃ e, x e * x e = ⊤
  · obtain ⟨e, he⟩ := h
    have hs : ∑ e, x e * x e = ⊤ := top_le_iff.mp (he ▸ Finset.single_le_sum (fun i _ => nonneg (x i)) (Finset.mem_univ e))
    refine ⟨0, ?_⟩
    rw [hs, EReal.top_mul_coe_of_pos (by norm_num), EReal.top_add_coe, Ideal.rsqrt_top, mul_zero]; rfl
  · have hr : ∀ e, ∃ r : ℝ, x e = (r : EReal) := fun e => by
      have := not_exists.mp h e
      revert this
      induction x e with
      | bot => intro h; simp at h
      | coe r => exact fun _ => ⟨r, rfl⟩
      | top => intro h; simp at h
    choose f hf using hr
    have hp : 0 < (∑ e, f e * f e) * (1 / 1024) + ε :=
      add_pos_of_nonneg_of_pos (mul_nonneg (Finset.sum_nonneg fun i _ => mul_self_nonneg _) (by norm_num)) hε
    refine ⟨f d * (Real.sqrt ((∑ e, f e * f e) * (1 / 1024) + ε))⁻¹, ?_⟩
    simp only [hf, ← EReal.coe_mul]
    rw [← coe_sum, ← EReal.coe_mul, ← EReal.coe_add, Ideal.rsqrt_coe, if_neg hp.le.not_gt, if_neg hp.ne', ← EReal.coe_mul]

/-- Where the norm's weight and the projection's are real, so is the projection: the two activations agree at it. -/
theorem proj_silu (x : Fin 1024 → EReal) (nw : Fin 1024 → ℝ) (w : Fin 1024 → Fin 1024 → EReal) (j : Fin 1024) (v : Fin 1024 → ℝ)
    (hv : ∀ e, w e j = (v e : EReal)) :
    siluT (proj x (fun e => (nw e : EReal)) w j) = siluE (proj x (fun e => (nw e : EReal)) w j) := by
  choose f hf using scaled_real x
  have hp : proj x (fun e => (nw e : EReal)) w j = ((∑ e, f e * nw e * v e : ℝ) : EReal) := by
    unfold proj norm
    rw [coe_sum]; exact Finset.sum_congr rfl fun e _ => by rw [hf, hv, ← EReal.coe_mul, ← EReal.coe_mul]
  rw [hp, siluT_coe]

/-- Where the norm's weight and the gate's weights are real, the two activations give the same step. -/
theorem step_eq (x : Fin 1024 → EReal) (nw : Fin 1024 → ℝ) (wg : Fin 1024 → Fin 2816 → ℝ) (wu : Fin 1024 → Fin 2816 → EReal)
    (wd : Fin 2816 → Fin 1024 → EReal) :
    step siluT x (fun e => (nw e : EReal)) (fun e j => (wg e j : EReal)) wu wd
      = step siluE x (fun e => (nw e : EReal)) (fun e j => (wg e j : EReal)) wu wd := by
  choose f hf using scaled_real x
  have hn : ∀ e, norm x (fun e => (nw e : EReal)) e = ((f e * nw e : ℝ) : EReal) := fun e => by
    unfold norm; rw [hf, ← EReal.coe_mul]
  unfold step unit
  funext d
  refine congrArg (x d + _ * ·) (Finset.sum_congr rfl fun j _ => ?_)
  have hg : ∑ e, norm x (fun e => (nw e : EReal)) e * (wg e j : EReal) = ((∑ e, f e * nw e * wg e j : ℝ) : EReal) := by
    rw [coe_sum]; exact Finset.sum_congr rfl fun e _ => by rw [hn, ← EReal.coe_mul]
  rw [hg, siluT_coe]

end Cert.Rows

end
-- ==== Proof.FfnBlock.lean ====
/- The block that the gated unit's body computes, at an index: the step of a row, and its norm where the layer ends. -/
module

public import proofs.«01_k».proof.Proof.Gen.Kernel2Ideal.Value
public import proofs.«01_k».proof.Proof.Rows
public import Idealize.ShloMosaic.Lib.Pointwise
public import Idealize.ShloMosaic.Lib.Tactic.CleanTypes

@[expose] public section

set_option maxRecDepth 16384

noncomputable section

namespace Cert.Kernel2Ideal.Ffn

open Idealize.ShloMosaic Idealize.ShloMosaic.TcCoe Cert.Kernel2Ideal Cert.Kernel2Ideal.Gen Cert.Rows

/-- The squares' sums of the rows. -/
def squares (x : FVec Ideal S512x1024 .f32) : FVec Ideal S512 .f32 :=
  multiReduction .add [1] S512 (mulf x x) 0x00000000#32 reduces_S512x1024_S512 (.inl rfl) rfl
/-- Each row over its root mean square, times the weight. -/
def normed (x : FVec Ideal S512x1024 .f32) (q : FVec Ideal S512 .f32) (w : FVec Ideal S1x1024 .f32) : FVec Ideal S512x1024 .f32 :=
  mulf (mulf x (broadcastTo S512x1024 (rsqrt (addf (divf (shapeCast S512x1 q shapeCasts_S512_S512x1)
    (broadcast S512x1 (Scalar.ofBits .f32 0x44800000#32))) (broadcast S512x1 (Scalar.ofBits .f32 0x358637BD#32)))) broadcasts_S512x1_S512x1024))
    (broadcastTo S512x1024 w broadcasts_S1x1024_S512x1024)
/-- The rows under a weight. -/
def into (x : FVec Ideal S512x1024 .bf16) (w : FVec Ideal S1024x2816 .bf16) : FVec Ideal S512x2816 .f32 :=
  matmul dot_S512x1024_S1024x2816_S512x2816_1_0_0_1_n_n none x w (constant S512x2816 .f32 0x00000000#32)
/-- The gate's activation times the other branch. -/
def gated (g u : FVec Ideal S512x2816 .f32) : FVec Ideal S512x2816 .bf16 :=
  truncf .bf16 (mulf (addf (mulf (mulf (broadcast S512x2816 (Scalar.ofBits .f32 0x3F000000#32)) g)
    (tanh (mulf (broadcast S512x2816 (Scalar.ofBits .f32 0x3F000000#32)) g))) (mulf (broadcast S512x2816 (Scalar.ofBits .f32 0x3F000000#32)) g)) u) bitsLt_bf16_f32
/-- The rows plus half of the way back. -/
def back (x : FVec Ideal S512x1024 .f32) (a : FVec Ideal S512x2816 .bf16) (w : FVec Ideal S2816x1024 .bf16) : FVec Ideal S512x1024 .f32 :=
  addf x (mulf (broadcast S512x1024 (Scalar.ofBits .f32 0x3F000000#32))
    (matmul dot_S512x2816_S2816x1024_S512x1024_1_0_0_1_n_n none a w (constant S512x1024 .f32 0x00000000#32)))

theorem squares_apply (x : FVec Ideal S512x1024 .f32) (a : Fin 512) : squares x (ix1 a)
      = ∑ e : Fin 1024, (x (ix2 a e) : EReal) * x (ix2 a e) := by
  unfold squares
  pointwise
theorem normed_apply (x : FVec Ideal S512x1024 .f32) (q : FVec Ideal S512 .f32) (w : FVec Ideal S1x1024 .f32) (a : Fin 512) (d : Fin 1024) :
    normed x q w (ix2 a d) = (x (ix2 a d) : EReal)
      * Ideal.rsqrt (Ideal.div (q (ix1 a)) (Ideal.ofBits .f32 0x44800000#32) + Ideal.ofBits .f32 0x358637BD#32) * w (ix2 (0 : Fin 1) d) := by
  unfold normed
  pointwise
theorem into_apply (x : FVec Ideal S512x1024 .bf16) (w : FVec Ideal S1024x2816 .bf16) (a : Fin 512) (j : Fin 2816) : into x w (ix2 a j)
      = ∑ e : Fin 1024, (x (ix2 a e) : EReal) * w (ix2 e j) := by
  unfold into
  pointwise
theorem gated_apply (g u : FVec Ideal S512x2816 .f32) (i : S512x2816.Idx) : gated g u i = siluT (g i) * (u i : EReal) := rfl
theorem back_apply (x : FVec Ideal S512x1024 .f32) (s : FVec Ideal S512x2816 .bf16) (w : FVec Ideal S2816x1024 .bf16) (a : Fin 512) (d : Fin 1024) :
    back x s w (ix2 a d) = (x (ix2 a d) : EReal) + Ideal.ofBits .f32 0x3F000000#32 * ∑ j : Fin 2816, (s (ix2 a j) : EReal) * w (ix2 j d) := by
  unfold back
  pointwise

theorem pay2_eq (x : Vec Ideal S512x1024 .f32) (nw : Vec Ideal S1x1024 .f32) (wg wu : Vec Ideal S1024x2816 .bf16) (wd : Vec Ideal S2816x1024 .bf16) :
    k0_pay2 x nw wg wu wd =
      (have X := shapeCast S512x1024 x shapeCasts_S512x1024_S512x1024
       have n := truncf .bf16 (normed X (squares X) (shapeCast S1x1024 nw shapeCasts_S1x1024_S1x1024)) bitsLt_bf16_f32
       back X (gated (into n (shapeCast S1024x2816 wg shapeCasts_S1024x2816_S1024x2816)) (into n (shapeCast S1024x2816 wu shapeCasts_S1024x2816_S1024x2816)))
        (shapeCast S2816x1024 wd shapeCasts_S2816x1024_S2816x1024)) := rfl

/-- The block before the last norm: each row's step. -/
theorem pay2_apply (x : Vec Ideal S512x1024 .f32) (nw : Vec Ideal S1x1024 .f32) (wg wu : Vec Ideal S1024x2816 .bf16) (wd : Vec Ideal S2816x1024 .bf16)
    (a : Fin 512) (d : Fin 1024) : k0_pay2 x nw wg wu wd (ix2 a d)
      = step siluT (fun e => x (ix2 a e)) (fun e => nw (ix2 (0 : Fin 1) e)) (fun e j => wg (ix2 e j)) (fun e j => wu (ix2 e j)) (fun j e => wd (ix2 j e)) d := by
  rw [pay2_eq]
  simp only [shapeCast_self, back_apply, gated_apply, into_apply]
  unfold step unit Rows.norm
  simp only [← squares_apply, ← normed_apply]
  rfl

/-- The block after it. -/
theorem pay1_apply (x : Vec Ideal S512x1024 .f32) (nw : Vec Ideal S1x1024 .f32) (wg wu : Vec Ideal S1024x2816 .bf16) (wd : Vec Ideal S2816x1024 .bf16)
    (fw : Vec Ideal S1x1024 .f32) (a : Fin 512) (d : Fin 1024) :
    k0_pay1 (k0_pay2 x nw wg wu wd) (k0_pay3 fw) (k0_pay4 x nw wg wu wd) (ix2 a d)
      = Rows.norm (step siluT (fun e => x (ix2 a e)) (fun e => nw (ix2 (0 : Fin 1) e)) (fun e j => wg (ix2 e j)) (fun e j => wu (ix2 e j))
          (fun j e => wd (ix2 j e))) (fun e => fw (ix2 (0 : Fin 1) e)) d := by
  have h : k0_pay1 (k0_pay2 x nw wg wu wd) (k0_pay3 fw) (k0_pay4 x nw wg wu wd)
      = normed (k0_pay2 x nw wg wu wd) (squares (k0_pay2 x nw wg wu wd)) (shapeCast S1x1024 fw shapeCasts_S1x1024_S1x1024) := rfl
  rw [h]
  simp only [shapeCast_self, normed_apply, squares_apply, pay2_apply]
  rfl

end Cert.Kernel2Ideal.Ffn

end
-- ==== Proof.Ffn.lean ====
/- What the gated unit's result array holds after the run of the layer's last call, of the arguments: each row's step, normed. -/
module

public import proofs.«01_k».proof.Proof.FfnBlock
public import Idealize.ShloMosaic.Lib.Pointwise
public import Idealize.ShloMosaic.Lib.Pipeline.ValueKit

@[expose] public section

set_option maxRecDepth 16384

noncomputable section

namespace Cert.Kernel2Ideal.Ffn

open Idealize.ShloMosaic Idealize.ShloMosaic.TcCoe Cert.Kernel2Ideal Cert.Kernel2Ideal.Gen Cert.Rows

variable (m : (ℓ : Loc nD τ sig) → Buf (Elt Ideal) ℓ)

/-- The result of the arrays that the call is given. -/
def result (x : Vec Ideal S32768x1024 .f32) (nw : Vec Ideal S1x1024 .f32) (wg wu : Vec Ideal S1024x2816 .bf16) (wd : Vec Ideal S2816x1024 .bf16)
    (fw : Vec Ideal S1x1024 .f32) : Vec Ideal S32768x1024 .f32 := fun i =>
  Rows.norm (step siluT (fun e => x (ix2 (i 0) e)) (fun e => nw (ix2 (0 : Fin 1) e)) (fun e j => wg (ix2 e j)) (fun e j => wu (ix2 e j))
    (fun j e => wd (ix2 j e))) (fun e => fw (ix2 (0 : Fin 1) e)) (i 1)

theorem index_0 : ∀ t : Fin cfg0.N, win0_0.index t = ![t.val, 0] :=
  (by decide +kernel : ∀ t : Fin grid0.N, win0_0.index t = ![t.val, 0])
theorem index_6 : ∀ t : Fin cfg0.N, win0_6.index t = ![t.val, 0] :=
  (by decide +kernel : ∀ t : Fin grid0.N, win0_6.index t = ![t.val, 0])

/-- Row `a` of the block of grid point `t`. -/
def line (t : Fin cfg0.N) (a : Fin 512) : Fin 32768 := ⟨512 * t.val + a.val, by have : t.val < 64 := t.isLt; omega⟩

theorem iblk_0 (c : Dev nD) (t : Fin cfg0.N) (a : Fin 512) (e : Fin 1024) : iblk m c 0 t (ix2 a e) = V m c main_v0 (ix2 (line t a) e) := by
  blk_ext [iblk, index_0 t]
  · show t.val * 512 + a.val = 512 * t.val + a.val
    omega
theorem index_1 : ∀ t : Fin cfg0.N, win0_1.index t = ![0, 0] :=
  (by decide +kernel : ∀ t : Fin grid0.N, win0_1.index t = ![0, 0])
theorem iblk_1 (c : Dev nD) (t : Fin cfg0.N) : iblk m c 1 t = V m c main_v1 := by
  funext y
  blk_ext [iblk, index_1 t]
theorem index_2 : ∀ t : Fin cfg0.N, win0_2.index t = ![0, 0] :=
  (by decide +kernel : ∀ t : Fin grid0.N, win0_2.index t = ![0, 0])
theorem iblk_2 (c : Dev nD) (t : Fin cfg0.N) : iblk m c 2 t = V m c main_v2 := by
  funext y
  blk_ext [iblk, index_2 t]
theorem index_3 : ∀ t : Fin cfg0.N, win0_3.index t = ![0, 0] :=
  (by decide +kernel : ∀ t : Fin grid0.N, win0_3.index t = ![0, 0])
theorem iblk_3 (c : Dev nD) (t : Fin cfg0.N) : iblk m c 3 t = V m c main_v3 := by
  funext y
  blk_ext [iblk, index_3 t]
theorem index_4 : ∀ t : Fin cfg0.N, win0_4.index t = ![0, 0] :=
  (by decide +kernel : ∀ t : Fin grid0.N, win0_4.index t = ![0, 0])
theorem iblk_4 (c : Dev nD) (t : Fin cfg0.N) : iblk m c 4 t = V m c main_v4 := by
  funext y
  blk_ext [iblk, index_4 t]
theorem index_5 : ∀ t : Fin cfg0.N, win0_5.index t = ![0, 0] :=
  (by decide +kernel : ∀ t : Fin grid0.N, win0_5.index t = ![0, 0])
theorem iblk_5 (c : Dev nD) (t : Fin cfg0.N) : iblk m c 5 t = V m c main_v5 := by
  funext y
  blk_ext [iblk, index_5 t]

theorem out_eq (x0 : Vec Ideal S512x1024 .f32) (x1 : Vec Ideal S1x1024 .f32) (x2 x3 : Vec Ideal S1024x2816 .bf16) (x4 : Vec Ideal S2816x1024 .bf16)
    (x5 : Vec Ideal S1x1024 .f32) : out0_6 x0 x1 x2 x3 x4 x5 = k0_pay1 (k0_pay2 x0 x1 x2 x3 x4) (k0_pay3 x5) (k0_pay4 x0 x1 x2 x3 x4) := by
  unfold out0_6
  have z : (![0, 0] : Fin 2 → Nat) = fun _ => 0 := by funext a; fin_cases a <;> rfl
  rw [View.canon_unit_zero z]
  simp only [View.ld_unit_zero (S := S512x1024) z, View.ld_unit_zero (S := S1x1024) z, View.ld_unit_zero (S := S1024x2816) z, View.ld_unit_zero (S := S2816x1024) z]

/-- A grid point's block of the result. -/
theorem block_eq (c : Dev nD) (t : Fin cfg0.N) (y : S512x1024.Idx) (i : S32768x1024.Idx) (h0 : i 0 = line t (y 0)) (h1 : i 1 = y 1) :
    k0_pay1 (k0_pay2 (iblk m c 0 t) (V m c main_v1) (V m c main_v2) (V m c main_v3) (V m c main_v4)) (k0_pay3 (V m c main_v5)) (k0_pay4 (iblk m c 0 t) (V m c main_v1) (V m c main_v2) (V m c main_v3) (V m c main_v4)) y
      = result (V m c main_v0) (V m c main_v1) (V m c main_v2) (V m c main_v3) (V m c main_v4) (V m c main_v5) i := by
  obtain ⟨a, d, rfl⟩ : ∃ a d, y = ix2 a d := ⟨y 0, y 1, by funext a; fin_cases a <;> rfl⟩
  refine (pay1_apply _ _ _ _ _ _ _ _).trans ?_
  unfold result
  rw [h0, h1]
  exact congrFun (congrArg (Rows.norm · _) <| step_congr siluT (fun e => iblk_0 m c t a e) (fun _ => rfl) (fun _ _ => rfl) (fun _ _ => rfl) fun _ _ => rfl) d

theorem arr_eq (c : Dev nD) : (dats m 0 c).arrAt 6 cfg0.N
    = result (V m c main_v0) (V m c main_v1) (V m c main_v2) (V m c main_v3) (V m c main_v4) (V m c main_v5) := by
  refine (dats m 0 c).arrAt_eq_of_covers 6 _ (by decide +kernel) fun t hf y => ?_
  blk_simp
  rw [after0_6, out_eq, iblk_1, iblk_2, iblk_3, iblk_4, iblk_5]
  exact block_eq m c t y _ (Fin.ext (by blk_simp [index_6 t]; show t.val * 512 + (y 0).val = 512 * t.val + (y 0).val; omega))
    (Fin.ext (by blk_simp [index_6 t]))

/-- The arguments, as arrays of extended reals. -/
def argX (c : Dev nD) : S8x4096x1024.Idx → EReal := m ((c.tc : Thread nD τ).loc main_arg0)
def argN (c : Dev nD) : S1024.Idx → EReal := m ((c.tc : Thread nD τ).loc main_arg1)
def argG (c : Dev nD) : S1024x2816.Idx → EReal := m ((c.tc : Thread nD τ).loc main_arg2)
def argU (c : Dev nD) : S1024x2816.Idx → EReal := m ((c.tc : Thread nD τ).loc main_arg3)
def argD (c : Dev nD) : S2816x1024.Idx → EReal := m ((c.tc : Thread nD τ).loc main_arg4)
def argF (c : Dev nD) : S1024.Idx → EReal := m ((c.tc : Thread nD τ).loc main_arg5)

theorem x_apply (c : Dev nD) (n : Fin 32768) (e : Fin 1024) : V m c main_v0 (ix2 n e) = row (argX m c) n e := by
  entry_read
  pointwise
  rfl
theorem n_apply (c : Dev nD) (e : Fin 1024) : V m c main_v1 (ix2 (0 : Fin 1) e) = argN m c (ix1 e) := by
  entry_read
  pointwise
  rfl
theorem g_apply (c : Dev nD) (e : Fin 1024) (j : Fin 2816) : V m c main_v2 (ix2 e j) = argG m c (ix2 e j) := by
  entry_read
  pointwise
  rfl
theorem u_apply (c : Dev nD) (e : Fin 1024) (j : Fin 2816) : V m c main_v3 (ix2 e j) = argU m c (ix2 e j) := by
  entry_read
  pointwise
  rfl
theorem d_apply (c : Dev nD) (j : Fin 2816) (e : Fin 1024) : V m c main_v4 (ix2 j e) = argD m c (ix2 j e) := by
  entry_read
  pointwise
  rfl
theorem f_apply (c : Dev nD) (e : Fin 1024) : V m c main_v5 (ix2 (0 : Fin 1) e) = argF m c (ix1 e) := by
  entry_read
  pointwise
  rfl

/-- The result at row `n`, of the arguments. -/
theorem arr_apply (c : Dev nD) (n : Fin 32768) (d : Fin 1024) : (dats m 0 c).arrAt 6 cfg0.N (ix2 n d)
    = Rows.norm (step siluT (row (argX m c) n) (fun e => argN m c (ix1 e)) (fun e j => argG m c (ix2 e j)) (fun e j => argU m c (ix2 e j))
        (fun j e => argD m c (ix2 j e))) (fun e => argF m c (ix1 e)) d := by
  rw [arr_eq]
  exact congrFun (congrArg₂ Rows.norm (step_congr siluT (x_apply m c n) (n_apply m c) (g_apply m c) (u_apply m c) (d_apply m c)) (funext (f_apply m c))) d

end Cert.Kernel2Ideal.Ffn

end
-- ==== Proof.FfnInner.lean ====
/- What the gated unit's result array holds after the run, of the arguments: each row's step. -/
module

public import proofs.«01_k».proof.Proof.FfnBlock
public import proofs.«01_k».proof.Proof.Gen.Kernel3Ideal.Value
public import Idealize.ShloMosaic.Lib.Pointwise
public import Idealize.ShloMosaic.Lib.Pipeline.ValueKit

@[expose] public section

set_option maxRecDepth 16384

noncomputable section

namespace Cert.Kernel3Ideal.Ffn

open Idealize.ShloMosaic Idealize.ShloMosaic.TcCoe Cert.Kernel3Ideal Cert.Kernel3Ideal.Gen Cert.Rows

variable (m : (ℓ : Loc nD τ sig) → Buf (Elt Ideal) ℓ)

/-- The result of the arrays that the call is given. -/
def result (x : Vec Ideal S32768x1024 .f32) (nw : Vec Ideal S1x1024 .f32) (wg wu : Vec Ideal S1024x2816 .bf16) (wd : Vec Ideal S2816x1024 .bf16)
    : Vec Ideal S32768x1024 .f32 := fun i =>
  (step siluT (fun e => x (ix2 (i 0) e)) (fun e => nw (ix2 (0 : Fin 1) e)) (fun e j => wg (ix2 e j)) (fun e j => wu (ix2 e j))
    (fun j e => wd (ix2 j e))) (i 1)

theorem index_0 : ∀ t : Fin cfg0.N, win0_0.index t = ![t.val, 0] :=
  (by decide +kernel : ∀ t : Fin grid0.N, win0_0.index t = ![t.val, 0])
theorem index_6 : ∀ t : Fin cfg0.N, win0_6.index t = ![t.val, 0] :=
  (by decide +kernel : ∀ t : Fin grid0.N, win0_6.index t = ![t.val, 0])

/-- Row `a` of the block of grid point `t`. -/
def line (t : Fin cfg0.N) (a : Fin 512) : Fin 32768 := ⟨512 * t.val + a.val, by have : t.val < 64 := t.isLt; omega⟩

theorem iblk_0 (c : Dev nD) (t : Fin cfg0.N) (a : Fin 512) (e : Fin 1024) : iblk m c 0 t (ix2 a e) = V m c main_v1 (ix2 (line t a) e) := by
  blk_ext [iblk, index_0 t]
  · show t.val * 512 + a.val = 512 * t.val + a.val
    omega
theorem index_1 : ∀ t : Fin cfg0.N, win0_1.index t = ![0, 0] :=
  (by decide +kernel : ∀ t : Fin grid0.N, win0_1.index t = ![0, 0])
theorem iblk_1 (c : Dev nD) (t : Fin cfg0.N) : iblk m c 1 t = V m c main_v2 := by
  funext y
  blk_ext [iblk, index_1 t]
theorem index_2 : ∀ t : Fin cfg0.N, win0_2.index t = ![0, 0] :=
  (by decide +kernel : ∀ t : Fin grid0.N, win0_2.index t = ![0, 0])
theorem iblk_2 (c : Dev nD) (t : Fin cfg0.N) : iblk m c 2 t = V m c main_v3 := by
  funext y
  blk_ext [iblk, index_2 t]
theorem index_3 : ∀ t : Fin cfg0.N, win0_3.index t = ![0, 0] :=
  (by decide +kernel : ∀ t : Fin grid0.N, win0_3.index t = ![0, 0])
theorem iblk_3 (c : Dev nD) (t : Fin cfg0.N) : iblk m c 3 t = V m c main_v4 := by
  funext y
  blk_ext [iblk, index_3 t]
theorem index_4 : ∀ t : Fin cfg0.N, win0_4.index t = ![0, 0] :=
  (by decide +kernel : ∀ t : Fin grid0.N, win0_4.index t = ![0, 0])
theorem iblk_4 (c : Dev nD) (t : Fin cfg0.N) : iblk m c 4 t = V m c main_v5 := by
  funext y
  blk_ext [iblk, index_4 t]

theorem out_eq (x0 : Vec Ideal S512x1024 .f32) (x1 : Vec Ideal S1x1024 .f32) (x2 x3 : Vec Ideal S1024x2816 .bf16) (x4 : Vec Ideal S2816x1024 .bf16)
    (x5 : Vec Ideal S1x1024 .f32) : out0_6 x0 x1 x2 x3 x4 x5 = k0_pay1 x0 x1 x2 x3 x4 := by
  unfold out0_6
  have z : (![0, 0] : Fin 2 → Nat) = fun _ => 0 := by funext a; fin_cases a <;> rfl
  rw [View.canon_unit_zero z]
  simp only [View.ld_unit_zero (S := S512x1024) z, View.ld_unit_zero (S := S1x1024) z, View.ld_unit_zero (S := S1024x2816) z, View.ld_unit_zero (S := S2816x1024) z]

/-- A grid point's block of the result. -/
theorem block_eq (c : Dev nD) (t : Fin cfg0.N) (y : S512x1024.Idx) (i : S32768x1024.Idx) (h0 : i 0 = line t (y 0)) (h1 : i 1 = y 1) :
    k0_pay1 (iblk m c 0 t) (V m c main_v2) (V m c main_v3) (V m c main_v4) (V m c main_v5) y
      = result (V m c main_v1) (V m c main_v2) (V m c main_v3) (V m c main_v4) (V m c main_v5) i := by
  obtain ⟨a, d, rfl⟩ : ∃ a d, y = ix2 a d := ⟨y 0, y 1, by funext a; fin_cases a <;> rfl⟩
  refine (Kernel2Ideal.Ffn.pay2_apply _ _ _ _ _ _ _).trans ?_
  unfold result
  rw [h0, h1]
  exact congrFun (step_congr siluT (fun e => iblk_0 m c t a e) (fun _ => rfl) (fun _ _ => rfl) (fun _ _ => rfl) fun _ _ => rfl) d

theorem arr_eq (c : Dev nD) : (dats m 0 c).arrAt 6 cfg0.N
    = result (V m c main_v1) (V m c main_v2) (V m c main_v3) (V m c main_v4) (V m c main_v5) := by
  refine (dats m 0 c).arrAt_eq_of_covers 6 _ (by decide +kernel) fun t hf y => ?_
  blk_simp
  rw [after0_6, out_eq, iblk_1, iblk_2, iblk_3, iblk_4]
  exact block_eq m c t y _ (Fin.ext (by blk_simp [index_6 t]; show t.val * 512 + (y 0).val = 512 * t.val + (y 0).val; omega))
    (Fin.ext (by blk_simp [index_6 t]))

/-- The arguments, as arrays of extended reals. -/
def argX (c : Dev nD) : S8x4096x1024.Idx → EReal := m ((c.tc : Thread nD τ).loc main_arg0)
def argN (c : Dev nD) : S1024.Idx → EReal := m ((c.tc : Thread nD τ).loc main_arg1)
def argG (c : Dev nD) : S1024x2816.Idx → EReal := m ((c.tc : Thread nD τ).loc main_arg2)
def argU (c : Dev nD) : S1024x2816.Idx → EReal := m ((c.tc : Thread nD τ).loc main_arg3)
def argD (c : Dev nD) : S2816x1024.Idx → EReal := m ((c.tc : Thread nD τ).loc main_arg4)

theorem x_apply (c : Dev nD) (n : Fin 32768) (e : Fin 1024) : V m c main_v1 (ix2 n e) = row (argX m c) n e := by
  entry_read
  pointwise
  rfl
theorem n_apply (c : Dev nD) (e : Fin 1024) : V m c main_v2 (ix2 (0 : Fin 1) e) = argN m c (ix1 e) := by
  entry_read
  pointwise
  rfl
theorem g_apply (c : Dev nD) (e : Fin 1024) (j : Fin 2816) : V m c main_v3 (ix2 e j) = argG m c (ix2 e j) := by
  entry_read
  pointwise
  rfl
theorem u_apply (c : Dev nD) (e : Fin 1024) (j : Fin 2816) : V m c main_v4 (ix2 e j) = argU m c (ix2 e j) := by
  entry_read
  pointwise
  rfl
theorem d_apply (c : Dev nD) (j : Fin 2816) (e : Fin 1024) : V m c main_v5 (ix2 j e) = argD m c (ix2 j e) := by
  entry_read
  pointwise
  rfl

/-- The result at row `n`, of the arguments. -/
theorem arr_apply (c : Dev nD) (n : Fin 32768) (d : Fin 1024) : (dats m 0 c).arrAt 6 cfg0.N (ix2 n d)
    = (step siluT (row (argX m c) n) (fun e => argN m c (ix1 e)) (fun e j => argG m c (ix2 e j)) (fun e j => argU m c (ix2 e j))
        (fun j e => argD m c (ix2 j e))) d := by
  rw [arr_eq]
  exact congrFun (step_congr siluT (x_apply m c n) (n_apply m c) (g_apply m c) (u_apply m c) (d_apply m c)) d

end Cert.Kernel3Ideal.Ffn

end
-- ==== Proof.FfnRef.lean ====
/- What the gated unit's reference computes, at an index: the step of a row, and its norm. -/
module

public import proofs.«01_k».proof.Proof.Gen.Reference2Ideal.Run
public import proofs.«01_k».proof.Proof.Rows
public import Idealize.ShloMosaic.Lib.Pointwise
public import Idealize.ShloMosaic.Lib.Tactic.CleanTypes

@[expose] public section

set_option maxRecDepth 16384

noncomputable section

namespace Cert.Reference2Ideal.Ffn

open Idealize.ShloMosaic Idealize.ShloMosaic.TcCoe Cert.Reference2Ideal Cert.Reference2Ideal.Gen Cert.Rows

/-- The squares' sums of the rows. -/
def squares (x : FVec Ideal S8x4096x1024 .f32) : FVec Ideal S8x4096 .f32 :=
  Host.reduceAdd (mulf x x) (constant S_ .f32 0x00000000#32) reducesTo_S8x4096x1024_S8x4096_d2 h_S_
/-- Each row over its root mean square, times the weight. -/
def normed (x : FVec Ideal S8x4096x1024 .f32) (q : FVec Ideal S8x4096 .f32) (w : FVec Ideal S1024 .f32) : FVec Ideal S8x4096x1024 .f32 :=
  mulf (mulf x (broadcastInDim S8x4096x1024 ![0, 1, 2] bcast_S8x4096x1_S8x4096x1024_0_1_2
      (Host.rsqrt (addf (Host.divf (broadcastInDim S8x4096x1 ![0, 1] bcast_S8x4096_S8x4096x1_0_1 q)
        (broadcastInDim S8x4096x1 ![] bcast_S_S8x4096x1 (constant S_ .f32 0x44800000#32)))
        (broadcastInDim S8x4096x1 ![] bcast_S_S8x4096x1 (constant S_ .f32 0x358637BD#32))))))
    (broadcastInDim S8x4096x1024 ![0, 1, 2] bcast_S1x1x1024_S8x4096x1024_0_1_2 (broadcastInDim S1x1x1024 ![2] bcast_S1024_S1x1x1024_2 w))
/-- The rows under a weight. -/
def into (x : FVec Ideal S8x4096x1024 .f32) (w : FVec Ideal S1024x2816 .f32) : FVec Ideal S8x4096x2816 .f32 :=
  Host.dotGeneral dot_S8x4096x1024_S1024x2816_S8x4096x2816_2_0_01_1_n_n none x w
/-- The gate's activation times the other branch. -/
def gated (g u : FVec Ideal S8x4096x2816 .f32) : FVec Ideal S8x4096x2816 .f32 :=
  mulf (mulf g (Host.divf (broadcastInDim S8x4096x2816 ![] bcast_S_S8x4096x2816 (constant S_ .f32 0x3F800000#32))
    (addf (broadcastInDim S8x4096x2816 ![] bcast_S_S8x4096x2816 (constant S_ .f32 0x3F800000#32)) (Host.exp (Host.negf g))))) u
/-- The rows plus half of the way back. -/
def back (x : FVec Ideal S8x4096x1024 .f32) (a : FVec Ideal S8x4096x2816 .f32) (w : FVec Ideal S2816x1024 .f32) : FVec Ideal S8x4096x1024 .f32 :=
  addf x (mulf (broadcastInDim S8x4096x1024 ![] bcast_S_S8x4096x1024 (constant S_ .f32 0x3F000000#32))
    (Host.dotGeneral dot_S8x4096x2816_S2816x1024_S8x4096x1024_2_0_01_1_n_n none a w))
/-- The step of the rows. -/
def steps (x : FVec Ideal S8x4096x1024 .f32) (nw : FVec Ideal S1024 .f32) (wg wu : FVec Ideal S1024x2816 .f32) (wd : FVec Ideal S2816x1024 .f32) :
    FVec Ideal S8x4096x1024 .f32 :=
  back x (gated (into (normed x (squares x) nw) wg) (into (normed x (squares x) nw) wu)) wd
/-- The rows, batch entries and tokens counted through. -/
def flat (x : FVec Ideal S8x4096x1024 .f32) : FVec Ideal S32768x1024 .f32 := shapeCast S32768x1024 x shapeCasts_S8x4096x1024_S32768x1024

theorem squares_apply (x : FVec Ideal S8x4096x1024 .f32) (b : Fin 8) (t : Fin 4096) : squares x (ix2 b t)
      = ∑ e : Fin 1024, (x (ix3 b t e) : EReal) * x (ix3 b t e) := by
  unfold squares
  pointwise
theorem normed_apply (x : FVec Ideal S8x4096x1024 .f32) (q : FVec Ideal S8x4096 .f32) (w : FVec Ideal S1024 .f32) (b : Fin 8) (t : Fin 4096) (d : Fin 1024) :
    normed x q w (ix3 b t d) = (x (ix3 b t d) : EReal)
      * Ideal.rsqrt (Ideal.div (q (ix2 b t)) (Ideal.ofBits .f32 0x44800000#32) + Ideal.ofBits .f32 0x358637BD#32) * w (ix1 d) := by
  unfold normed
  pointwise
theorem into_apply (x : FVec Ideal S8x4096x1024 .f32) (w : FVec Ideal S1024x2816 .f32) (b : Fin 8) (t : Fin 4096) (j : Fin 2816) : into x w (ix3 b t j)
      = ∑ e : Fin 1024, (x (ix3 b t e) : EReal) * w (ix2 e j) := by
  unfold into
  pointwise
theorem gated_apply (g u : FVec Ideal S8x4096x2816 .f32) (i : S8x4096x2816.Idx) : gated g u i = siluE (g i) * (u i : EReal) := rfl
theorem back_apply (x : FVec Ideal S8x4096x1024 .f32) (s : FVec Ideal S8x4096x2816 .f32) (w : FVec Ideal S2816x1024 .f32) (b : Fin 8) (t : Fin 4096) (d : Fin 1024) :
    back x s w (ix3 b t d) = (x (ix3 b t d) : EReal) + Ideal.ofBits .f32 0x3F000000#32 * ∑ j : Fin 2816, (s (ix3 b t j) : EReal) * w (ix2 j d) := by
  unfold back
  pointwise
theorem steps_apply (x : FVec Ideal S8x4096x1024 .f32) (nw : FVec Ideal S1024 .f32) (wg wu : FVec Ideal S1024x2816 .f32) (wd : FVec Ideal S2816x1024 .f32)
    (b : Fin 8) (t : Fin 4096) (d : Fin 1024) : steps x nw wg wu wd (ix3 b t d)
      = step siluE (fun e => x (ix3 b t e)) (fun e => nw (ix1 e)) (fun e j => wg (ix2 e j)) (fun e j => wu (ix2 e j)) (fun j e => wd (ix2 j e)) d := by
  unfold steps
  simp only [back_apply, gated_apply, into_apply]
  unfold step unit Rows.norm
  simp only [← squares_apply, ← normed_apply]
theorem flat_apply (x : FVec Ideal S8x4096x1024 .f32) (n : Fin 32768) (d : Fin 1024) : flat x (ix2 n d) = row x n d := by
  unfold flat
  pointwise
  rfl

/-- The reference at row `n`. -/
theorem steps_row (x : FVec Ideal S8x4096x1024 .f32) (nw : FVec Ideal S1024 .f32) (wg wu : FVec Ideal S1024x2816 .f32) (wd : FVec Ideal S2816x1024 .f32)
    (n : Fin 32768) (d : Fin 1024) : flat (steps x nw wg wu wd) (ix2 n d)
      = step siluE (row x n) (fun e => nw (ix1 e)) (fun e j => wg (ix2 e j)) (fun e j => wu (ix2 e j)) (fun j e => wd (ix2 j e)) d := by
  rw [flat_apply]
  exact steps_apply x nw wg wu wd _ _ d
/-- The reference with the last norm, at row `n`. -/
theorem normed_row (x : FVec Ideal S8x4096x1024 .f32) (nw : FVec Ideal S1024 .f32) (wg wu : FVec Ideal S1024x2816 .f32) (wd : FVec Ideal S2816x1024 .f32)
    (fw : FVec Ideal S1024 .f32) (n : Fin 32768) (d : Fin 1024) :
    flat (normed (steps x nw wg wu wd) (squares (steps x nw wg wu wd)) fw) (ix2 n d)
      = Rows.norm (step siluE (row x n) (fun e => nw (ix1 e)) (fun e j => wg (ix2 e j)) (fun e j => wu (ix2 e j)) (fun j e => wd (ix2 j e)))
          (fun e => fw (ix1 e)) d := by
  rw [flat_apply]
  unfold row
  simp only [normed_apply, squares_apply, steps_apply]
  rfl

theorem res_eq (m : (ℓ : Loc nD τ sig) → Buf (Elt Ideal) ℓ) (c : Dev nD) :
    Value.res_main_v34 m c
      = (have h := steps (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4));
        flat (normed h (squares h) (m ((c.tc : Thread nD τ).loc main_arg5)))) := rfl

end Cert.Reference2Ideal.Ffn

end
-- ==== Proof.Merge.lean ====
/- What the merge's result array holds after the run, of the arguments: each row's merge under the sigmoid by the hyperbolic tangent. -/
module

public import proofs.«01_k».proof.Proof.Gen.Kernel4Ideal.Value
public import proofs.«01_k».proof.Proof.Rows
public import Idealize.ShloMosaic.Lib.Pointwise
public import Idealize.ShloMosaic.Lib.Pipeline.ValueKit
public import Idealize.ShloMosaic.Lib.Tactic.CleanTypes

@[expose] public section

set_option maxRecDepth 16384

noncomputable section

namespace Cert.Kernel4Ideal.Merge

open Idealize.ShloMosaic Idealize.ShloMosaic.TcCoe Cert.Kernel4Ideal Cert.Kernel4Ideal.Gen Cert.Rows

/-- Rows under a weight. -/
def prod (x : FVec Ideal S512x1024 .bf16) (w : FVec Ideal S1024x1024 .bf16) : FVec Ideal S512x1024 .f32 :=
  matmul dot_S512x1024_S1024x1024_S512x1024_1_0_0_1_n_n none x w (constant S512x1024 .f32 0x00000000#32)
theorem prod_apply (x : FVec Ideal S512x1024 .bf16) (w : FVec Ideal S1024x1024 .bf16) (a : Fin 512) (d : Fin 1024) : prod x w (ix2 a d)
      = ∑ e : Fin 1024, (x (ix2 a e) : EReal) * w (ix2 e d) := by
  unfold prod
  pointwise

/-- The block that the body computes, at an index; its gates are sigmoids already. -/
theorem pay1_apply (h : Vec Ideal S512x1024 .f32) (oa ob ga gb : Vec Ideal S512x1024 .bf16) (pa pb wo : Vec Ideal S1024x1024 .bf16)
    (a : Fin 512) (d : Fin 1024) : k0_pay1 oa pa ob pb ga gb h wo (ix2 a d)
      = merge id (fun e => h (ix2 a e)) (fun e => oa (ix2 a e)) (fun e => ob (ix2 a e)) (fun e => ga (ix2 a e)) (fun e => gb (ix2 a e))
          (fun e j => pa (ix2 e j)) (fun e j => pb (ix2 e j)) (fun j e => wo (ix2 j e)) d := by
  have e : k0_pay1 oa pa ob pb ga gb h wo
      = (have C := fun (x : FVec Ideal S512x1024 .bf16) => shapeCast S512x1024 x shapeCasts_S512x1024_S512x1024
         have W := fun (w : FVec Ideal S1024x1024 .bf16) => shapeCast S1024x1024 w shapeCasts_S1024x1024_S1024x1024
         addf (shapeCast S512x1024 h shapeCasts_S512x1024_S512x1024)
          (prod (truncf .bf16 (addf (mulf (extf .f32 (C ga) bitsLt_bf16_f32) (prod (C oa) (W pa)))
            (mulf (extf .f32 (C gb) bitsLt_bf16_f32) (prod (C ob) (W pb)))) bitsLt_bf16_f32) (W wo))) := rfl
  rw [e]
  simp only [shapeCast_self]
  unfold merge
  simp only [← prod_apply]
  exact congrArg ((h (ix2 a d) : EReal) + ·) (prod_apply _ _ a d)

variable (m : (ℓ : Loc nD τ sig) → Buf (Elt Ideal) ℓ)

/-- The result of the arrays that the call is given. -/
def result (h : Vec Ideal S32768x1024 .f32) (oa ob ga gb : Vec Ideal S32768x1024 .bf16) (pa pb wo : Vec Ideal S1024x1024 .bf16) :
    Vec Ideal S32768x1024 .f32 := fun i =>
  merge id (fun e => h (ix2 (i 0) e)) (fun e => oa (ix2 (i 0) e)) (fun e => ob (ix2 (i 0) e)) (fun e => ga (ix2 (i 0) e)) (fun e => gb (ix2 (i 0) e))
    (fun e j => pa (ix2 e j)) (fun e j => pb (ix2 e j)) (fun j e => wo (ix2 j e)) (i 1)

/-- Row `a` of the block of grid point `t`. -/
def line (t : Fin cfg0.N) (a : Fin 512) : Fin 32768 := ⟨512 * t.val + a.val, by have : t.val < 64 := t.isLt; omega⟩

theorem index_0 : ∀ t : Fin cfg0.N, win0_0.index t = ![t.val, 0] :=
  (by decide +kernel : ∀ t : Fin grid0.N, win0_0.index t = ![t.val, 0])
theorem iblk_0 (c : Dev nD) (t : Fin cfg0.N) (a : Fin 512) (e : Fin 1024) : iblk m c 0 t (ix2 a e) = V m c main_v16 (ix2 (line t a) e) := by
  blk_ext [iblk, index_0 t]
  · show t.val * 512 + a.val = 512 * t.val + a.val
    omega
theorem index_1 : ∀ t : Fin cfg0.N, win0_1.index t = ![t.val, 0] :=
  (by decide +kernel : ∀ t : Fin grid0.N, win0_1.index t = ![t.val, 0])
theorem iblk_1 (c : Dev nD) (t : Fin cfg0.N) (a : Fin 512) (e : Fin 1024) : iblk m c 1 t (ix2 a e) = V m c main_v18 (ix2 (line t a) e) := by
  blk_ext [iblk, index_1 t]
  · show t.val * 512 + a.val = 512 * t.val + a.val
    omega
theorem index_2 : ∀ t : Fin cfg0.N, win0_2.index t = ![t.val, 0] :=
  (by decide +kernel : ∀ t : Fin grid0.N, win0_2.index t = ![t.val, 0])
theorem iblk_2 (c : Dev nD) (t : Fin cfg0.N) (a : Fin 512) (e : Fin 1024) : iblk m c 2 t (ix2 a e) = V m c main_v20 (ix2 (line t a) e) := by
  blk_ext [iblk, index_2 t]
  · show t.val * 512 + a.val = 512 * t.val + a.val
    omega
theorem index_3 : ∀ t : Fin cfg0.N, win0_3.index t = ![t.val, 0] :=
  (by decide +kernel : ∀ t : Fin grid0.N, win0_3.index t = ![t.val, 0])
theorem iblk_3 (c : Dev nD) (t : Fin cfg0.N) (a : Fin 512) (e : Fin 1024) : iblk m c 3 t (ix2 a e) = V m c main_v21 (ix2 (line t a) e) := by
  blk_ext [iblk, index_3 t]
  · show t.val * 512 + a.val = 512 * t.val + a.val
    omega
theorem index_4 : ∀ t : Fin cfg0.N, win0_4.index t = ![t.val, 0] :=
  (by decide +kernel : ∀ t : Fin grid0.N, win0_4.index t = ![t.val, 0])
theorem iblk_4 (c : Dev nD) (t : Fin cfg0.N) (a : Fin 512) (e : Fin 1024) : iblk m c 4 t (ix2 a e) = V m c main_v22 (ix2 (line t a) e) := by
  blk_ext [iblk, index_4 t]
  · show t.val * 512 + a.val = 512 * t.val + a.val
    omega
theorem index_5 : ∀ t : Fin cfg0.N, win0_5.index t = ![0, 0] :=
  (by decide +kernel : ∀ t : Fin grid0.N, win0_5.index t = ![0, 0])
theorem iblk_5 (c : Dev nD) (t : Fin cfg0.N) : iblk m c 5 t = V m c main_v23 := by
  funext y
  blk_ext [iblk, index_5 t]
theorem index_6 : ∀ t : Fin cfg0.N, win0_6.index t = ![0, 0] :=
  (by decide +kernel : ∀ t : Fin grid0.N, win0_6.index t = ![0, 0])
theorem iblk_6 (c : Dev nD) (t : Fin cfg0.N) : iblk m c 6 t = V m c main_v24 := by
  funext y
  blk_ext [iblk, index_6 t]
theorem index_7 : ∀ t : Fin cfg0.N, win0_7.index t = ![0, 0] :=
  (by decide +kernel : ∀ t : Fin grid0.N, win0_7.index t = ![0, 0])
theorem iblk_7 (c : Dev nD) (t : Fin cfg0.N) : iblk m c 7 t = V m c main_v25 := by
  funext y
  blk_ext [iblk, index_7 t]
theorem index_8 : ∀ t : Fin cfg0.N, win0_8.index t = ![t.val, 0] :=
  (by decide +kernel : ∀ t : Fin grid0.N, win0_8.index t = ![t.val, 0])

theorem out_eq (x0 : Vec Ideal S512x1024 .f32) (x1 x2 x3 x4 : Vec Ideal S512x1024 .bf16) (x5 x6 x7 : Vec Ideal S1024x1024 .bf16) :
    out0_8 x0 x1 x2 x3 x4 x5 x6 x7 = k0_pay1 x1 x5 x2 x6 x3 x4 x0 x7 := by
  unfold out0_8
  have z : (![0, 0] : Fin 2 → Nat) = fun _ => 0 := by funext a; fin_cases a <;> rfl
  rw [View.canon_unit_zero z]
  simp only [View.ld_unit_zero (S := S512x1024) z, View.ld_unit_zero (S := S1024x1024) z]

/-- A grid point's block of the result. -/
theorem block_eq (c : Dev nD) (t : Fin cfg0.N) (y : S512x1024.Idx) (i : S32768x1024.Idx) (h0 : i 0 = line t (y 0)) (h1 : i 1 = y 1) :
    k0_pay1 (iblk m c 1 t) (V m c main_v23) (iblk m c 2 t) (V m c main_v24) (iblk m c 3 t) (iblk m c 4 t) (iblk m c 0 t) (V m c main_v25) y
      = result (V m c main_v16) (V m c main_v18) (V m c main_v20) (V m c main_v21) (V m c main_v22) (V m c main_v23) (V m c main_v24) (V m c main_v25) i := by
  obtain ⟨a, d, rfl⟩ : ∃ a d, y = ix2 a d := ⟨y 0, y 1, by funext a; fin_cases a <;> rfl⟩
  refine (pay1_apply _ _ _ _ _ _ _ _ _ _).trans ?_
  unfold result
  rw [h0, h1]
  exact congrFun (merge_congr (s := id) (s' := id) (fun e => iblk_0 m c t a e) (fun e => iblk_1 m c t a e) (fun e => iblk_2 m c t a e) (fun e => iblk_3 m c t a e)
    (fun e => iblk_4 m c t a e) (fun _ _ => rfl) (fun _ _ => rfl) fun _ _ => rfl) d

theorem arr_eq (c : Dev nD) : (dats m 0 c).arrAt 8 cfg0.N
    = result (V m c main_v16) (V m c main_v18) (V m c main_v20) (V m c main_v21) (V m c main_v22) (V m c main_v23) (V m c main_v24) (V m c main_v25) := by
  refine (dats m 0 c).arrAt_eq_of_covers 8 _ (by decide +kernel) fun t hf y => ?_
  blk_simp
  rw [after0_8, out_eq, iblk_5, iblk_6, iblk_7]
  exact block_eq m c t y _ (Fin.ext (by blk_simp [index_8 t]; show t.val * 512 + (y 0).val = 512 * t.val + (y 0).val; omega))
    (Fin.ext (by blk_simp [index_8 t]))

/-- The arguments, as arrays of extended reals. -/
def argH (c : Dev nD) : S8x4096x1024.Idx → EReal := m ((c.tc : Thread nD τ).loc main_arg0)
def argA (c : Dev nD) : S8x4096x1024.Idx → EReal := m ((c.tc : Thread nD τ).loc main_arg1)
def argB (c : Dev nD) : S8x4096x1024.Idx → EReal := m ((c.tc : Thread nD τ).loc main_arg2)
def argGA (c : Dev nD) : S8x4096x1024.Idx → EReal := m ((c.tc : Thread nD τ).loc main_arg3)
def argGB (c : Dev nD) : S8x4096x1024.Idx → EReal := m ((c.tc : Thread nD τ).loc main_arg4)
def argPA (c : Dev nD) : S1024x1024.Idx → EReal := m ((c.tc : Thread nD τ).loc main_arg5)
def argPB (c : Dev nD) : S1024x1024.Idx → EReal := m ((c.tc : Thread nD τ).loc main_arg6)
def argO (c : Dev nD) : S1024x1024.Idx → EReal := m ((c.tc : Thread nD τ).loc main_arg7)

theorem h_apply (c : Dev nD) (n : Fin 32768) (e : Fin 1024) : V m c main_v16 (ix2 n e) = row (argH m c) n e := by
  entry_read
  pointwise
  rfl
theorem a_apply (c : Dev nD) (n : Fin 32768) (e : Fin 1024) : V m c main_v18 (ix2 n e) = row (argA m c) n e := by
  entry_read
  pointwise
  rfl
theorem b_apply (c : Dev nD) (n : Fin 32768) (e : Fin 1024) : V m c main_v20 (ix2 n e) = row (argB m c) n e := by
  entry_read
  pointwise
  rfl
theorem ga_apply (c : Dev nD) (n : Fin 32768) (e : Fin 1024) : V m c main_v21 (ix2 n e) = sigT (row (argGA m c) n e) := by
  entry_read
  pointwise
  rfl
theorem gb_apply (c : Dev nD) (n : Fin 32768) (e : Fin 1024) : V m c main_v22 (ix2 n e) = sigT (row (argGB m c) n e) := by
  entry_read
  pointwise
  rfl
theorem pa_apply (c : Dev nD) (e j : Fin 1024) : V m c main_v23 (ix2 e j) = argPA m c (ix2 e j) := by
  entry_read
  pointwise
  rfl
theorem pb_apply (c : Dev nD) (e j : Fin 1024) : V m c main_v24 (ix2 e j) = argPB m c (ix2 e j) := by
  entry_read
  pointwise
  rfl
theorem o_apply (c : Dev nD) (e j : Fin 1024) : V m c main_v25 (ix2 e j) = argO m c (ix2 e j) := by
  entry_read
  pointwise
  rfl

/-- The result at row `n`, of the arguments. -/
theorem arr_apply (c : Dev nD) (n : Fin 32768) (d : Fin 1024) : (dats m 0 c).arrAt 8 cfg0.N (ix2 n d)
    = merge sigT (row (argH m c) n) (row (argA m c) n) (row (argB m c) n) (row (argGA m c) n) (row (argGB m c) n)
        (fun e j => argPA m c (ix2 e j)) (fun e j => argPB m c (ix2 e j)) (fun j e => argO m c (ix2 j e)) d := by
  rw [arr_eq]
  exact congrFun (merge_congr (s := id) (s' := sigT) (h_apply m c n) (a_apply m c n) (b_apply m c n) (ga_apply m c n) (gb_apply m c n)
    (pa_apply m c) (pb_apply m c) (o_apply m c)) d

end Cert.Kernel4Ideal.Merge

end
-- ==== Proof.MergeRef.lean ====
/- What the merge's reference computes, at an index. -/
module

public import proofs.«01_k».proof.Proof.Gen.Reference4Ideal.Run
public import proofs.«01_k».proof.Proof.Rows
public import Idealize.ShloMosaic.Lib.Pointwise
public import Idealize.ShloMosaic.Lib.Tactic.CleanTypes

@[expose] public section

set_option maxRecDepth 16384

noncomputable section

namespace Cert.Reference4Ideal.Merge

open Idealize.ShloMosaic Idealize.ShloMosaic.TcCoe Cert.Reference4Ideal Cert.Reference4Ideal.Gen Cert.Rows

/-- Rows under a weight. -/
def prod (x : FVec Ideal S8x4096x1024 .f32) (w : FVec Ideal S1024x1024 .f32) : FVec Ideal S8x4096x1024 .f32 :=
  Host.dotGeneral dot_S8x4096x1024_S1024x1024_S8x4096x1024_2_0_01_1_n_n none x w
/-- The sigmoid. -/
def gate (x : FVec Ideal S8x4096x1024 .f32) : FVec Ideal S8x4096x1024 .f32 :=
  Host.divf (broadcastInDim S8x4096x1024 ![] bcast_S_S8x4096x1024 (constant S_ .f32 0x3F800000#32))
    (addf (broadcastInDim S8x4096x1024 ![] bcast_S_S8x4096x1024 (constant S_ .f32 0x3F800000#32)) (Host.exp (Host.negf x)))
/-- The result. -/
def res (h oa ob ga gb : FVec Ideal S8x4096x1024 .f32) (pa pb wo : FVec Ideal S1024x1024 .f32) : FVec Ideal S32768x1024 .f32 :=
  shapeCast S32768x1024 (addf h (prod (addf (mulf (gate ga) (prod oa pa)) (mulf (gate gb) (prod ob pb))) wo)) shapeCasts_S8x4096x1024_S32768x1024

theorem prod_apply (x : FVec Ideal S8x4096x1024 .f32) (w : FVec Ideal S1024x1024 .f32) (b : Fin 8) (t : Fin 4096) (d : Fin 1024) : prod x w (ix3 b t d)
      = ∑ e : Fin 1024, (x (ix3 b t e) : EReal) * w (ix2 e d) := by
  unfold prod
  pointwise
theorem gate_apply (x : FVec Ideal S8x4096x1024 .f32) (i : S8x4096x1024.Idx) : gate x i = sigE (x i) := rfl
theorem flat_apply (x : FVec Ideal S8x4096x1024 .f32) (n : Fin 32768) (d : Fin 1024) :
    shapeCast S32768x1024 x shapeCasts_S8x4096x1024_S32768x1024 (ix2 n d) = row x n d := by
  pointwise
  rfl

/-- The reference at row `n`. -/
theorem res_apply (h oa ob ga gb : FVec Ideal S8x4096x1024 .f32) (pa pb wo : FVec Ideal S1024x1024 .f32) (n : Fin 32768) (d : Fin 1024) :
    res h oa ob ga gb pa pb wo (ix2 n d)
      = merge sigE (row h n) (row oa n) (row ob n) (row ga n) (row gb n) (fun e j => pa (ix2 e j)) (fun e j => pb (ix2 e j)) (fun j e => wo (ix2 j e)) d := by
  unfold res
  rw [flat_apply]
  unfold merge row
  simp only [← prod_apply, ← gate_apply]
  exact congrArg ((h _ : EReal) + ·) (prod_apply _ _ _ _ d)

end Cert.Reference4Ideal.Merge

end
-- ==== Proof.Layer.lean ====
/- The gated unit's and the merge's results, of the kernel and of the reference, are the same arrays. -/
module

public import proofs.«01_k».proof.Proof.Ffn
public import proofs.«01_k».proof.Proof.FfnInner
public import proofs.«01_k».proof.Proof.FfnRef
public import proofs.«01_k».proof.Proof.Merge
public import proofs.«01_k».proof.Proof.MergeRef

@[expose] public section

set_option maxRecDepth 16384

noncomputable section

namespace Cert.Layer

open Idealize.ShloMosaic Idealize.ShloMosaic.TcCoe Cert.Rows Cert.Reference2Ideal.Ffn

/-- The layer's last call: the gated unit with the last norm. -/
theorem final_value (m : (ℓ : Loc Cert.Kernel2Ideal.nD Cert.Kernel2Ideal.τ Cert.Kernel2Ideal.sig) → Buf (Elt Ideal) ℓ) (c : Dev Cert.Kernel2Ideal.nD)
    (w : Cert.Kernel2Ideal.S1024.Idx → ℝ) (g : Cert.Kernel2Ideal.S1024x2816.Idx → ℝ)
    (hw : Cert.Kernel2Ideal.Ffn.argN m c = fun i => (w i : EReal)) (hg : Cert.Kernel2Ideal.Ffn.argG m c = fun i => (g i : EReal)) :
    (Cert.Kernel2Ideal.Gen.dats m 0 c).arrAt 6 Cert.Kernel2Ideal.cfg0.N
      = (have h := steps (Cert.Kernel2Ideal.Ffn.argX m c) (Cert.Kernel2Ideal.Ffn.argN m c) (Cert.Kernel2Ideal.Ffn.argG m c)
          (Cert.Kernel2Ideal.Ffn.argU m c) (Cert.Kernel2Ideal.Ffn.argD m c);
        flat (normed h (squares h) (Cert.Kernel2Ideal.Ffn.argF m c))) := by
  funext i
  obtain ⟨n, d, rfl⟩ : ∃ (n : Fin 32768) (d : Fin 1024), i = ix2 n d := ⟨i 0, i 1, by funext a; fin_cases a <;> rfl⟩
  refine (Cert.Kernel2Ideal.Ffn.arr_apply m c n d).trans (Eq.trans ?_ (normed_row _ _ _ _ _ _ n d).symm)
  rw [hw, hg]
  exact congrFun (congrArg (Rows.norm · _) (step_eq _ (fun e => w (ix1 e)) (fun e j => g (ix2 e j)) _ _)) d

/-- The gated unit without it. -/
theorem inner_value (m : (ℓ : Loc Cert.Kernel3Ideal.nD Cert.Kernel3Ideal.τ Cert.Kernel3Ideal.sig) → Buf (Elt Ideal) ℓ) (c : Dev Cert.Kernel3Ideal.nD)
    (w : Cert.Kernel3Ideal.S1024.Idx → ℝ) (g : Cert.Kernel3Ideal.S1024x2816.Idx → ℝ)
    (hw : Cert.Kernel3Ideal.Ffn.argN m c = fun i => (w i : EReal)) (hg : Cert.Kernel3Ideal.Ffn.argG m c = fun i => (g i : EReal)) :
    (Cert.Kernel3Ideal.Gen.dats m 0 c).arrAt 6 Cert.Kernel3Ideal.cfg0.N
      = flat (steps (Cert.Kernel3Ideal.Ffn.argX m c) (Cert.Kernel3Ideal.Ffn.argN m c) (Cert.Kernel3Ideal.Ffn.argG m c)
          (Cert.Kernel3Ideal.Ffn.argU m c) (Cert.Kernel3Ideal.Ffn.argD m c)) := by
  funext i
  obtain ⟨n, d, rfl⟩ : ∃ (n : Fin 32768) (d : Fin 1024), i = ix2 n d := ⟨i 0, i 1, by funext a; fin_cases a <;> rfl⟩
  refine (Cert.Kernel3Ideal.Ffn.arr_apply m c n d).trans (Eq.trans ?_ (steps_row _ _ _ _ _ n d).symm)
  rw [hw, hg]
  exact congrFun (step_eq _ (fun e => w (ix1 e)) (fun e j => g (ix2 e j)) _ _) d

open Cert.Kernel4Ideal.Merge in
/-- The merge. -/
theorem merge_value (m : (ℓ : Loc Cert.Kernel4Ideal.nD Cert.Kernel4Ideal.τ Cert.Kernel4Ideal.sig) → Buf (Elt Ideal) ℓ) (c : Dev Cert.Kernel4Ideal.nD) :
    (Cert.Kernel4Ideal.Gen.dats m 0 c).arrAt 8 Cert.Kernel4Ideal.cfg0.N
      = Cert.Reference4Ideal.Merge.res (argH m c) (argA m c) (argB m c) (argGA m c) (argGB m c) (argPA m c) (argPB m c) (argO m c) := by
  funext i
  obtain ⟨n, d, rfl⟩ : ∃ (n : Fin 32768) (d : Fin 1024), i = ix2 n d := ⟨i 0, i 1, by funext a; fin_cases a <;> rfl⟩
  refine (arr_apply m c n d).trans (Eq.trans ?_ (Cert.Reference4Ideal.Merge.res_apply _ _ _ _ _ _ _ _ n d).symm)
  exact congrFun (merge_congr (fun _ => rfl) (fun _ => rfl) (fun _ => rfl) (fun _ => sigT_eq _) (fun _ => sigT_eq _)
    (fun _ _ => rfl) (fun _ _ => rfl) fun _ _ => rfl) d

end Cert.Layer

end
-- ==== Proof.Same.lean ====
/- The programs whose ideal reading rewrites nothing: their facts and frames are those of the ideal program, at the bits. -/
module

public import proofs.«01_k».proof.Defs
public import proofs.«01_k».proof.Proof.Gen.Kernel2Ideal.Frame
public import proofs.«01_k».proof.Proof.Gen.Kernel3Ideal.Frame
public import proofs.«01_k».proof.Proof.Gen.Kernel4Ideal.Frame

@[expose] public section

set_option maxRecDepth 16384

noncomputable section

namespace Cert.Same

open Idealize.ShloMosaic Idealize.SL.Sem

theorem facts2₀ : Cert.Kernel2.Facts₀ where
  shapeCasts_S8x4096x1024_S32768x1024 := Cert.Kernel2Ideal.Gen.facts₀.shapeCasts_S8x4096x1024_S32768x1024
  bcast_S1024_S1x1024_1 := Cert.Kernel2Ideal.Gen.facts₀.bcast_S1024_S1x1024_1
  bitsLt_bf16_f32 := Cert.Kernel2Ideal.Gen.facts₀.bitsLt_bf16_f32
  inb_S512x1024_S512x1024_0_0 := Cert.Kernel2Ideal.Gen.facts₀.inb_S512x1024_S512x1024_0_0
  h_S512x1024 := Cert.Kernel2Ideal.Gen.facts₀.h_S512x1024
  shapeCasts_S512x1024_S512x1024 := Cert.Kernel2Ideal.Gen.facts₀.shapeCasts_S512x1024_S512x1024
  inb_S1x1024_S1x1024_0_0 := Cert.Kernel2Ideal.Gen.facts₀.inb_S1x1024_S1x1024_0_0
  h_S1x1024 := Cert.Kernel2Ideal.Gen.facts₀.h_S1x1024
  shapeCasts_S1x1024_S1x1024 := Cert.Kernel2Ideal.Gen.facts₀.shapeCasts_S1x1024_S1x1024
  reduces_S512x1024_S512 := Cert.Kernel2Ideal.Gen.facts₀.reduces_S512x1024_S512
  shapeCasts_S512_S512x1 := Cert.Kernel2Ideal.Gen.facts₀.shapeCasts_S512_S512x1
  broadcasts_S512x1_S512x1024 := Cert.Kernel2Ideal.Gen.facts₀.broadcasts_S512x1_S512x1024
  broadcasts_S1x1024_S512x1024 := Cert.Kernel2Ideal.Gen.facts₀.broadcasts_S1x1024_S512x1024
  inb_S1024x2816_S1024x2816_0_0 := Cert.Kernel2Ideal.Gen.facts₀.inb_S1024x2816_S1024x2816_0_0
  h_S1024x2816 := Cert.Kernel2Ideal.Gen.facts₀.h_S1024x2816
  shapeCasts_S1024x2816_S1024x2816 := Cert.Kernel2Ideal.Gen.facts₀.shapeCasts_S1024x2816_S1024x2816
  inb_S2816x1024_S2816x1024_0_0 := Cert.Kernel2Ideal.Gen.facts₀.inb_S2816x1024_S2816x1024_0_0
  h_S2816x1024 := Cert.Kernel2Ideal.Gen.facts₀.h_S2816x1024
  shapeCasts_S2816x1024_S2816x1024 := Cert.Kernel2Ideal.Gen.facts₀.shapeCasts_S2816x1024_S2816x1024
  dot_S512x1024_S1024x2816_S512x2816_1_0_0_1_n_n_wf := Cert.Kernel2Ideal.Gen.facts₀.dot_S512x1024_S1024x2816_S512x2816_1_0_0_1_n_n_wf
  dot_S512x2816_S2816x1024_S512x1024_1_0_0_1_n_n_wf := Cert.Kernel2Ideal.Gen.facts₀.dot_S512x2816_S2816x1024_S512x1024_1_0_0_1_n_n_wf
  hrank0 := Cert.Kernel2Ideal.Gen.facts₀.hrank0
  hstage0_0 := Cert.Kernel2Ideal.Gen.facts₀.hstage0_0
  nbuf0_0 := Cert.Kernel2Ideal.Gen.facts₀.nbuf0_0
  hreads0_0 := Cert.Kernel2Ideal.Gen.facts₀.hreads0_0
  hinb0_0 := Cert.Kernel2Ideal.Gen.facts₀.hinb0_0
  hwx0_0 := Cert.Kernel2Ideal.Gen.facts₀.hwx0_0
  hstage0_1 := Cert.Kernel2Ideal.Gen.facts₀.hstage0_1
  nbuf0_1 := Cert.Kernel2Ideal.Gen.facts₀.nbuf0_1
  hreads0_1 := Cert.Kernel2Ideal.Gen.facts₀.hreads0_1
  hinb0_1 := Cert.Kernel2Ideal.Gen.facts₀.hinb0_1
  hwx0_1 := Cert.Kernel2Ideal.Gen.facts₀.hwx0_1
  hstage0_2 := Cert.Kernel2Ideal.Gen.facts₀.hstage0_2
  nbuf0_2 := Cert.Kernel2Ideal.Gen.facts₀.nbuf0_2
  hreads0_2 := Cert.Kernel2Ideal.Gen.facts₀.hreads0_2
  hinb0_2 := Cert.Kernel2Ideal.Gen.facts₀.hinb0_2
  hwx0_2 := Cert.Kernel2Ideal.Gen.facts₀.hwx0_2
  hstage0_3 := Cert.Kernel2Ideal.Gen.facts₀.hstage0_3
  nbuf0_3 := Cert.Kernel2Ideal.Gen.facts₀.nbuf0_3
  hreads0_3 := Cert.Kernel2Ideal.Gen.facts₀.hreads0_3
  hinb0_3 := Cert.Kernel2Ideal.Gen.facts₀.hinb0_3
  hwx0_3 := Cert.Kernel2Ideal.Gen.facts₀.hwx0_3
  hstage0_4 := Cert.Kernel2Ideal.Gen.facts₀.hstage0_4
  nbuf0_4 := Cert.Kernel2Ideal.Gen.facts₀.nbuf0_4
  hreads0_4 := Cert.Kernel2Ideal.Gen.facts₀.hreads0_4
  hinb0_4 := Cert.Kernel2Ideal.Gen.facts₀.hinb0_4
  hwx0_4 := Cert.Kernel2Ideal.Gen.facts₀.hwx0_4
  hstage0_5 := Cert.Kernel2Ideal.Gen.facts₀.hstage0_5
  nbuf0_5 := Cert.Kernel2Ideal.Gen.facts₀.nbuf0_5
  hreads0_5 := Cert.Kernel2Ideal.Gen.facts₀.hreads0_5
  hinb0_5 := Cert.Kernel2Ideal.Gen.facts₀.hinb0_5
  hwx0_5 := Cert.Kernel2Ideal.Gen.facts₀.hwx0_5
  hstage0_6 := Cert.Kernel2Ideal.Gen.facts₀.hstage0_6
  nbuf0_6 := Cert.Kernel2Ideal.Gen.facts₀.nbuf0_6
  hreads0_6 := Cert.Kernel2Ideal.Gen.facts₀.hreads0_6
  hinb0_6 := Cert.Kernel2Ideal.Gen.facts₀.hinb0_6
  hwx0_6 := Cert.Kernel2Ideal.Gen.facts₀.hwx0_6
theorem facts2 : Cert.Kernel2.Facts where
  toFacts₀ := facts2₀
theorem facts3₀ : Cert.Kernel3.Facts₀ where
  bcast_S_S1x1024 := Cert.Kernel3Ideal.Gen.facts₀.bcast_S_S1x1024
  shapeCasts_S8x4096x1024_S32768x1024 := Cert.Kernel3Ideal.Gen.facts₀.shapeCasts_S8x4096x1024_S32768x1024
  bcast_S1024_S1x1024_1 := Cert.Kernel3Ideal.Gen.facts₀.bcast_S1024_S1x1024_1
  bitsLt_bf16_f32 := Cert.Kernel3Ideal.Gen.facts₀.bitsLt_bf16_f32
  inb_S512x1024_S512x1024_0_0 := Cert.Kernel3Ideal.Gen.facts₀.inb_S512x1024_S512x1024_0_0
  h_S512x1024 := Cert.Kernel3Ideal.Gen.facts₀.h_S512x1024
  shapeCasts_S512x1024_S512x1024 := Cert.Kernel3Ideal.Gen.facts₀.shapeCasts_S512x1024_S512x1024
  inb_S1x1024_S1x1024_0_0 := Cert.Kernel3Ideal.Gen.facts₀.inb_S1x1024_S1x1024_0_0
  h_S1x1024 := Cert.Kernel3Ideal.Gen.facts₀.h_S1x1024
  shapeCasts_S1x1024_S1x1024 := Cert.Kernel3Ideal.Gen.facts₀.shapeCasts_S1x1024_S1x1024
  reduces_S512x1024_S512 := Cert.Kernel3Ideal.Gen.facts₀.reduces_S512x1024_S512
  shapeCasts_S512_S512x1 := Cert.Kernel3Ideal.Gen.facts₀.shapeCasts_S512_S512x1
  broadcasts_S512x1_S512x1024 := Cert.Kernel3Ideal.Gen.facts₀.broadcasts_S512x1_S512x1024
  broadcasts_S1x1024_S512x1024 := Cert.Kernel3Ideal.Gen.facts₀.broadcasts_S1x1024_S512x1024
  inb_S1024x2816_S1024x2816_0_0 := Cert.Kernel3Ideal.Gen.facts₀.inb_S1024x2816_S1024x2816_0_0
  h_S1024x2816 := Cert.Kernel3Ideal.Gen.facts₀.h_S1024x2816
  shapeCasts_S1024x2816_S1024x2816 := Cert.Kernel3Ideal.Gen.facts₀.shapeCasts_S1024x2816_S1024x2816
  inb_S2816x1024_S2816x1024_0_0 := Cert.Kernel3Ideal.Gen.facts₀.inb_S2816x1024_S2816x1024_0_0
  h_S2816x1024 := Cert.Kernel3Ideal.Gen.facts₀.h_S2816x1024
  shapeCasts_S2816x1024_S2816x1024 := Cert.Kernel3Ideal.Gen.facts₀.shapeCasts_S2816x1024_S2816x1024
  dot_S512x1024_S1024x2816_S512x2816_1_0_0_1_n_n_wf := Cert.Kernel3Ideal.Gen.facts₀.dot_S512x1024_S1024x2816_S512x2816_1_0_0_1_n_n_wf
  dot_S512x2816_S2816x1024_S512x1024_1_0_0_1_n_n_wf := Cert.Kernel3Ideal.Gen.facts₀.dot_S512x2816_S2816x1024_S512x1024_1_0_0_1_n_n_wf
  hrank0 := Cert.Kernel3Ideal.Gen.facts₀.hrank0
  hstage0_0 := Cert.Kernel3Ideal.Gen.facts₀.hstage0_0
  nbuf0_0 := Cert.Kernel3Ideal.Gen.facts₀.nbuf0_0
  hreads0_0 := Cert.Kernel3Ideal.Gen.facts₀.hreads0_0
  hinb0_0 := Cert.Kernel3Ideal.Gen.facts₀.hinb0_0
  hwx0_0 := Cert.Kernel3Ideal.Gen.facts₀.hwx0_0
  hstage0_1 := Cert.Kernel3Ideal.Gen.facts₀.hstage0_1
  nbuf0_1 := Cert.Kernel3Ideal.Gen.facts₀.nbuf0_1
  hreads0_1 := Cert.Kernel3Ideal.Gen.facts₀.hreads0_1
  hinb0_1 := Cert.Kernel3Ideal.Gen.facts₀.hinb0_1
  hwx0_1 := Cert.Kernel3Ideal.Gen.facts₀.hwx0_1
  hstage0_2 := Cert.Kernel3Ideal.Gen.facts₀.hstage0_2
  nbuf0_2 := Cert.Kernel3Ideal.Gen.facts₀.nbuf0_2
  hreads0_2 := Cert.Kernel3Ideal.Gen.facts₀.hreads0_2
  hinb0_2 := Cert.Kernel3Ideal.Gen.facts₀.hinb0_2
  hwx0_2 := Cert.Kernel3Ideal.Gen.facts₀.hwx0_2
  hstage0_3 := Cert.Kernel3Ideal.Gen.facts₀.hstage0_3
  nbuf0_3 := Cert.Kernel3Ideal.Gen.facts₀.nbuf0_3
  hreads0_3 := Cert.Kernel3Ideal.Gen.facts₀.hreads0_3
  hinb0_3 := Cert.Kernel3Ideal.Gen.facts₀.hinb0_3
  hwx0_3 := Cert.Kernel3Ideal.Gen.facts₀.hwx0_3
  hstage0_4 := Cert.Kernel3Ideal.Gen.facts₀.hstage0_4
  nbuf0_4 := Cert.Kernel3Ideal.Gen.facts₀.nbuf0_4
  hreads0_4 := Cert.Kernel3Ideal.Gen.facts₀.hreads0_4
  hinb0_4 := Cert.Kernel3Ideal.Gen.facts₀.hinb0_4
  hwx0_4 := Cert.Kernel3Ideal.Gen.facts₀.hwx0_4
  hstage0_5 := Cert.Kernel3Ideal.Gen.facts₀.hstage0_5
  nbuf0_5 := Cert.Kernel3Ideal.Gen.facts₀.nbuf0_5
  hreads0_5 := Cert.Kernel3Ideal.Gen.facts₀.hreads0_5
  hinb0_5 := Cert.Kernel3Ideal.Gen.facts₀.hinb0_5
  hwx0_5 := Cert.Kernel3Ideal.Gen.facts₀.hwx0_5
  hstage0_6 := Cert.Kernel3Ideal.Gen.facts₀.hstage0_6
  nbuf0_6 := Cert.Kernel3Ideal.Gen.facts₀.nbuf0_6
  hreads0_6 := Cert.Kernel3Ideal.Gen.facts₀.hreads0_6
  hinb0_6 := Cert.Kernel3Ideal.Gen.facts₀.hinb0_6
  hwx0_6 := Cert.Kernel3Ideal.Gen.facts₀.hwx0_6
theorem facts3 : Cert.Kernel3.Facts where
  toFacts₀ := facts3₀
theorem facts4₀ : Cert.Kernel4.Facts₀ where
  bcast_S_S8x4096x1024 := Cert.Kernel4Ideal.Gen.facts₀.bcast_S_S8x4096x1024
  bitsLt_bf16_f32 := Cert.Kernel4Ideal.Gen.facts₀.bitsLt_bf16_f32
  shapeCasts_S8x4096x1024_S32768x1024 := Cert.Kernel4Ideal.Gen.facts₀.shapeCasts_S8x4096x1024_S32768x1024
  inb_S512x1024_S512x1024_0_0 := Cert.Kernel4Ideal.Gen.facts₀.inb_S512x1024_S512x1024_0_0
  h_S512x1024 := Cert.Kernel4Ideal.Gen.facts₀.h_S512x1024
  shapeCasts_S512x1024_S512x1024 := Cert.Kernel4Ideal.Gen.facts₀.shapeCasts_S512x1024_S512x1024
  inb_S1024x1024_S1024x1024_0_0 := Cert.Kernel4Ideal.Gen.facts₀.inb_S1024x1024_S1024x1024_0_0
  h_S1024x1024 := Cert.Kernel4Ideal.Gen.facts₀.h_S1024x1024
  shapeCasts_S1024x1024_S1024x1024 := Cert.Kernel4Ideal.Gen.facts₀.shapeCasts_S1024x1024_S1024x1024
  dot_S512x1024_S1024x1024_S512x1024_1_0_0_1_n_n_wf := Cert.Kernel4Ideal.Gen.facts₀.dot_S512x1024_S1024x1024_S512x1024_1_0_0_1_n_n_wf
  hrank0 := Cert.Kernel4Ideal.Gen.facts₀.hrank0
  hstage0_0 := Cert.Kernel4Ideal.Gen.facts₀.hstage0_0
  nbuf0_0 := Cert.Kernel4Ideal.Gen.facts₀.nbuf0_0
  hreads0_0 := Cert.Kernel4Ideal.Gen.facts₀.hreads0_0
  hinb0_0 := Cert.Kernel4Ideal.Gen.facts₀.hinb0_0
  hwx0_0 := Cert.Kernel4Ideal.Gen.facts₀.hwx0_0
  hstage0_1 := Cert.Kernel4Ideal.Gen.facts₀.hstage0_1
  nbuf0_1 := Cert.Kernel4Ideal.Gen.facts₀.nbuf0_1
  hreads0_1 := Cert.Kernel4Ideal.Gen.facts₀.hreads0_1
  hinb0_1 := Cert.Kernel4Ideal.Gen.facts₀.hinb0_1
  hwx0_1 := Cert.Kernel4Ideal.Gen.facts₀.hwx0_1
  hstage0_2 := Cert.Kernel4Ideal.Gen.facts₀.hstage0_2
  nbuf0_2 := Cert.Kernel4Ideal.Gen.facts₀.nbuf0_2
  hreads0_2 := Cert.Kernel4Ideal.Gen.facts₀.hreads0_2
  hinb0_2 := Cert.Kernel4Ideal.Gen.facts₀.hinb0_2
  hwx0_2 := Cert.Kernel4Ideal.Gen.facts₀.hwx0_2
  hstage0_3 := Cert.Kernel4Ideal.Gen.facts₀.hstage0_3
  nbuf0_3 := Cert.Kernel4Ideal.Gen.facts₀.nbuf0_3
  hreads0_3 := Cert.Kernel4Ideal.Gen.facts₀.hreads0_3
  hinb0_3 := Cert.Kernel4Ideal.Gen.facts₀.hinb0_3
  hwx0_3 := Cert.Kernel4Ideal.Gen.facts₀.hwx0_3
  hstage0_4 := Cert.Kernel4Ideal.Gen.facts₀.hstage0_4
  nbuf0_4 := Cert.Kernel4Ideal.Gen.facts₀.nbuf0_4
  hreads0_4 := Cert.Kernel4Ideal.Gen.facts₀.hreads0_4
  hinb0_4 := Cert.Kernel4Ideal.Gen.facts₀.hinb0_4
  hwx0_4 := Cert.Kernel4Ideal.Gen.facts₀.hwx0_4
  hstage0_5 := Cert.Kernel4Ideal.Gen.facts₀.hstage0_5
  nbuf0_5 := Cert.Kernel4Ideal.Gen.facts₀.nbuf0_5
  hreads0_5 := Cert.Kernel4Ideal.Gen.facts₀.hreads0_5
  hinb0_5 := Cert.Kernel4Ideal.Gen.facts₀.hinb0_5
  hwx0_5 := Cert.Kernel4Ideal.Gen.facts₀.hwx0_5
  hstage0_6 := Cert.Kernel4Ideal.Gen.facts₀.hstage0_6
  nbuf0_6 := Cert.Kernel4Ideal.Gen.facts₀.nbuf0_6
  hreads0_6 := Cert.Kernel4Ideal.Gen.facts₀.hreads0_6
  hinb0_6 := Cert.Kernel4Ideal.Gen.facts₀.hinb0_6
  hwx0_6 := Cert.Kernel4Ideal.Gen.facts₀.hwx0_6
  hstage0_7 := Cert.Kernel4Ideal.Gen.facts₀.hstage0_7
  nbuf0_7 := Cert.Kernel4Ideal.Gen.facts₀.nbuf0_7
  hreads0_7 := Cert.Kernel4Ideal.Gen.facts₀.hreads0_7
  hinb0_7 := Cert.Kernel4Ideal.Gen.facts₀.hinb0_7
  hwx0_7 := Cert.Kernel4Ideal.Gen.facts₀.hwx0_7
  hstage0_8 := Cert.Kernel4Ideal.Gen.facts₀.hstage0_8
  nbuf0_8 := Cert.Kernel4Ideal.Gen.facts₀.nbuf0_8
  hreads0_8 := Cert.Kernel4Ideal.Gen.facts₀.hreads0_8
  hinb0_8 := Cert.Kernel4Ideal.Gen.facts₀.hinb0_8
  hwx0_8 := Cert.Kernel4Ideal.Gen.facts₀.hwx0_8
theorem facts4 : Cert.Kernel4.Facts where
  toFacts₀ := facts4₀

theorem defs2₀ : @Cert.Kernel2.defs₀ Bits _ facts2 = Cert.Kernel2Ideal.defs₀ (F := Bits) :=
  congrArg Defs.onTc <| funext fun ℓ => funext fun a => by
    match ℓ, a with
    | 0, (_, _) => rfl
    | ⟨_ + 1, h⟩, _ => exact absurd h (Nat.not_lt.2 (Nat.le_add_left _ _))
theorem defs2 : @Cert.Kernel2.defs Bits _ facts2 = Cert.Kernel2Ideal.defs (F := Bits) :=
  congrArg (Pipeline.defs _) defs2₀
/-- The frame of the program at the bits. -/
theorem frame2 : Cert.quiescent_Kernel2 (hKernel2 := facts2) := fun m ρ _ => by
  rw [defs2]
  exact Cert.Kernel2Ideal.Gen.frame (F := Bits) m ρ

theorem defs3₀ : @Cert.Kernel3.defs₀ Bits _ facts3 = Cert.Kernel3Ideal.defs₀ (F := Bits) :=
  congrArg Defs.onTc <| funext fun ℓ => funext fun a => by
    match ℓ, a with
    | 0, (_, _) => rfl
    | ⟨_ + 1, h⟩, _ => exact absurd h (Nat.not_lt.2 (Nat.le_add_left _ _))
theorem defs3 : @Cert.Kernel3.defs Bits _ facts3 = Cert.Kernel3Ideal.defs (F := Bits) :=
  congrArg (Pipeline.defs _) defs3₀
/-- The frame of the program at the bits. -/
theorem frame3 : Cert.quiescent_Kernel3 (hKernel3 := facts3) := fun m ρ _ => by
  rw [defs3]
  exact Cert.Kernel3Ideal.Gen.frame (F := Bits) m ρ

theorem defs4₀ : @Cert.Kernel4.defs₀ Bits _ facts4 = Cert.Kernel4Ideal.defs₀ (F := Bits) :=
  congrArg Defs.onTc <| funext fun ℓ => funext fun a => by
    match ℓ, a with
    | 0, (_, _) => rfl
    | ⟨_ + 1, h⟩, _ => exact absurd h (Nat.not_lt.2 (Nat.le_add_left _ _))
theorem defs4 : @Cert.Kernel4.defs Bits _ facts4 = Cert.Kernel4Ideal.defs (F := Bits) :=
  congrArg (Pipeline.defs _) defs4₀
/-- The frame of the program at the bits. -/
theorem frame4 : Cert.quiescent_Kernel4 (hKernel4 := facts4) := fun m ρ _ => by
  rw [defs4]
  exact Cert.Kernel4Ideal.Gen.frame (F := Bits) m ρ

end Cert.Same

end
-- ==== Proof.InBody.lean ====
/- The input projections' body at a grid point: what it is given and what it leaves, from a run of it that leaves pieces covering
   each result's buffer and the carried scratch. -/
module

public import proofs.«01_k».proof.Proof.Gen.Kernel5Ideal.Frame.Runs

@[expose] public section

set_option maxRecDepth 16384

noncomputable section

namespace Cert.Kernel5Ideal.Inproj

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is given at point `t`: `P` of the scratch, the operands' blocks, the results' buffers at anything. -/
def given (c : Dev nD) (t : Fin cfg0.N) (P Q : sProp 𝕄) : sProp 𝕄 :=
  iprop(P ∗ Q ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ owns (c : Thread nD τ) (ms0_12 t) fullShare (iblk m c 12 t)
    ∗ owns (c : Thread nD τ) (ms0_13 t) fullShare (iblk m c 13 t)
    ∗ owns (c : Thread nD τ) (ms0_14 t) fullShare (iblk m c 14 t)
    ∗ owns (c : Thread nD τ) (ms0_15 t) fullShare (iblk m c 15 t)
    ∗ owns (c : Thread nD τ) (ms0_16 t) fullShare (iblk m c 16 t)
    ∗ owns (c : Thread nD τ) (ms0_17 t) fullShare (iblk m c 17 t)
    ∗ owns (c : Thread nD τ) (ms0_18 t) fullShare (iblk m c 18 t)
    ∗ owns (c : Thread nD τ) (ms0_19 t) fullShare (iblk m c 19 t)
    ∗ owns (c : Thread nD τ) (ms0_20 t) fullShare (iblk m c 20 t)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d)
    ∗ (∃ d, owns (c : Thread nD τ) (ms0_29 t) fullShare d)
    ∗ (∃ d, owns (c : Thread nD τ) (ms0_30 t) fullShare d))
/-- What it leaves: the blocks as they were and each result's buffer at its contents. -/
def left (c : Dev nD) (t : Fin cfg0.N) (P Q : sProp 𝕄) (o21 : Vec F S1x256x1024 .bf16) (o22 : Vec F S1x256x1024 .bf16) (o23 : Vec F S1x256x1024 .bf16) (o24 : Vec F S1x256x1024 .bf16) (o25 : Vec F S1x256x16 .f32) (o26 : Vec F S1x8x256x192 .bf16) (o27 : Vec F S1x8x256x192 .bf16) (o28 : Vec F S1x8x256x128 .bf16) (o29 : Vec F S1x256x1024 .bf16) (o30 : Vec F S1x256x1024 .bf16) : sProp 𝕄 :=
  iprop(P ∗ Q ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ owns (c : Thread nD τ) (ms0_12 t) fullShare (iblk m c 12 t)
    ∗ owns (c : Thread nD τ) (ms0_13 t) fullShare (iblk m c 13 t)
    ∗ owns (c : Thread nD τ) (ms0_14 t) fullShare (iblk m c 14 t)
    ∗ owns (c : Thread nD τ) (ms0_15 t) fullShare (iblk m c 15 t)
    ∗ owns (c : Thread nD τ) (ms0_16 t) fullShare (iblk m c 16 t)
    ∗ owns (c : Thread nD τ) (ms0_17 t) fullShare (iblk m c 17 t)
    ∗ owns (c : Thread nD τ) (ms0_18 t) fullShare (iblk m c 18 t)
    ∗ owns (c : Thread nD τ) (ms0_19 t) fullShare (iblk m c 19 t)
    ∗ owns (c : Thread nD τ) (ms0_20 t) fullShare (iblk m c 20 t)
    ∗ owns (c : Thread nD τ) (ms0_21 t) fullShare o21
    ∗ owns (c : Thread nD τ) (ms0_22 t) fullShare o22
    ∗ owns (c : Thread nD τ) (ms0_23 t) fullShare o23
    ∗ owns (c : Thread nD τ) (ms0_24 t) fullShare o24
    ∗ owns (c : Thread nD τ) (ms0_25 t) fullShare o25
    ∗ owns (c : Thread nD τ) (ms0_26 t) fullShare o26
    ∗ owns (c : Thread nD τ) (ms0_27 t) fullShare o27
    ∗ owns (c : Thread nD τ) (ms0_28 t) fullShare o28
    ∗ owns (c : Thread nD τ) (ms0_29 t) fullShare o29
    ∗ owns (c : Thread nD τ) (ms0_30 t) fullShare o30)
/-- What a run of the body at point `t` says of its pieces: from `P` of the scratch, the pieces are written. -/
def Ran (c : Dev nD) (t : Fin cfg0.N) (P : sProp 𝕄) (L21 : List (View.Piece (Elt F) S1x256x1024 .bf16)) (L22 : List (View.Piece (Elt F) S1x256x1024 .bf16)) (L23 : List (View.Piece (Elt F) S1x256x1024 .bf16)) (L24 : List (View.Piece (Elt F) S1x256x1024 .bf16)) (L25 : List (View.Piece (Elt F) S1x256x16 .f32)) (L26 : List (View.Piece (Elt F) S1x8x256x192 .bf16)) (L27 : List (View.Piece (Elt F) S1x8x256x192 .bf16)) (L28 : List (View.Piece (Elt F) S1x8x256x128 .bf16)) (L29 : List (View.Piece (Elt F) S1x256x1024 .bf16)) (L30 : List (View.Piece (Elt F) S1x256x1024 .bf16)) (LS : List (View.Piece (Elt F) S264x3072 .f32)) : Prop :=
  ∀ (E : Set ℕ) (K : PUnit → sProp 𝕄), iprop(owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ owns (c : Thread nD τ) (ms0_12 t) fullShare (iblk m c 12 t)
    ∗ owns (c : Thread nD τ) (ms0_13 t) fullShare (iblk m c 13 t)
    ∗ owns (c : Thread nD τ) (ms0_14 t) fullShare (iblk m c 14 t)
    ∗ owns (c : Thread nD τ) (ms0_15 t) fullShare (iblk m c 15 t)
    ∗ owns (c : Thread nD τ) (ms0_16 t) fullShare (iblk m c 16 t)
    ∗ owns (c : Thread nD τ) (ms0_17 t) fullShare (iblk m c 17 t)
    ∗ owns (c : Thread nD τ) (ms0_18 t) fullShare (iblk m c 18 t)
    ∗ owns (c : Thread nD τ) (ms0_19 t) fullShare (iblk m c 19 t)
    ∗ owns (c : Thread nD τ) (ms0_20 t) fullShare (iblk m c 20 t)
    ∗ (∃ d, owns (c : Thread nD τ) (ms0_21 t) fullShare d)
    ∗ (∃ d, owns (c : Thread nD τ) (ms0_22 t) fullShare d)
    ∗ (∃ d, owns (c : Thread nD τ) (ms0_23 t) fullShare d)
    ∗ (∃ d, owns (c : Thread nD τ) (ms0_24 t) fullShare d)
    ∗ (∃ d, owns (c : Thread nD τ) (ms0_25 t) fullShare d)
    ∗ (∃ d, owns (c : Thread nD τ) (ms0_26 t) fullShare d)
    ∗ (∃ d, owns (c : Thread nD τ) (ms0_27 t) fullShare d)
    ∗ (∃ d, owns (c : Thread nD τ) (ms0_28 t) fullShare d)
    ∗ (∃ d, owns (c : Thread nD τ) (ms0_29 t) fullShare d)
    ∗ (∃ d, owns (c : Thread nD τ) (ms0_30 t) fullShare d)
    ∗ P
    ∗ (iprop(owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ owns (c : Thread nD τ) (ms0_12 t) fullShare (iblk m c 12 t)
    ∗ owns (c : Thread nD τ) (ms0_13 t) fullShare (iblk m c 13 t)
    ∗ owns (c : Thread nD τ) (ms0_14 t) fullShare (iblk m c 14 t)
    ∗ owns (c : Thread nD τ) (ms0_15 t) fullShare (iblk m c 15 t)
    ∗ owns (c : Thread nD τ) (ms0_16 t) fullShare (iblk m c 16 t)
    ∗ owns (c : Thread nD τ) (ms0_17 t) fullShare (iblk m c 17 t)
    ∗ owns (c : Thread nD τ) (ms0_18 t) fullShare (iblk m c 18 t)
    ∗ owns (c : Thread nD τ) (ms0_19 t) fullShare (iblk m c 19 t)
    ∗ owns (c : Thread nD τ) (ms0_20 t) fullShare (iblk m c 20 t)
    ∗ (∃ f, (ms0_21 t).view.loc (c : Thread nD τ) ↦[(ms0_21 t).view.set]{fullShare} (ms0_21 t).view.writes (Elt F) f L21)
    ∗ (∃ f, (ms0_22 t).view.loc (c : Thread nD τ) ↦[(ms0_22 t).view.set]{fullShare} (ms0_22 t).view.writes (Elt F) f L22)
    ∗ (∃ f, (ms0_23 t).view.loc (c : Thread nD τ) ↦[(ms0_23 t).view.set]{fullShare} (ms0_23 t).view.writes (Elt F) f L23)
    ∗ (∃ f, (ms0_24 t).view.loc (c : Thread nD τ) ↦[(ms0_24 t).view.set]{fullShare} (ms0_24 t).view.writes (Elt F) f L24)
    ∗ (∃ f, (ms0_25 t).view.loc (c : Thread nD τ) ↦[(ms0_25 t).view.set]{fullShare} (ms0_25 t).view.writes (Elt F) f L25)
    ∗ (∃ f, (ms0_26 t).view.loc (c : Thread nD τ) ↦[(ms0_26 t).view.set]{fullShare} (ms0_26 t).view.writes (Elt F) f L26)
    ∗ (∃ f, (ms0_27 t).view.loc (c : Thread nD τ) ↦[(ms0_27 t).view.set]{fullShare} (ms0_27 t).view.writes (Elt F) f L27)
    ∗ (∃ f, (ms0_28 t).view.loc (c : Thread nD τ) ↦[(ms0_28 t).view.set]{fullShare} (ms0_28 t).view.writes (Elt F) f L28)
    ∗ (∃ f, (ms0_29 t).view.loc (c : Thread nD τ) ↦[(ms0_29 t).view.set]{fullShare} (ms0_29 t).view.writes (Elt F) f L29)
    ∗ (∃ f, (ms0_30 t).view.loc (c : Thread nD τ) ↦[(ms0_30 t).view.set]{fullShare} (ms0_30 t).view.writes (Elt F) f L30)
    ∗ (∃ f, scM0_0.view.loc (c : Thread nD τ) ↦[scM0_0.view.set]{fullShare} scM0_0.view.writes (Elt F) f LS)) -∗ K ⟨⟩))
    ⊢ wp frame (wpE (defs₀ (F := F)) Variants.none c none) E (bodyAt0 t) K

set_option maxHeartbeats 8000000 in
/-- The body at point `t`, by a run of it whose pieces cover. -/
theorem body_of (c : Dev nD) (t : Fin cfg0.N) (P Q : sProp 𝕄) (L21 : List (View.Piece (Elt F) S1x256x1024 .bf16)) (L22 : List (View.Piece (Elt F) S1x256x1024 .bf16)) (L23 : List (View.Piece (Elt F) S1x256x1024 .bf16)) (L24 : List (View.Piece (Elt F) S1x256x1024 .bf16)) (L25 : List (View.Piece (Elt F) S1x256x16 .f32)) (L26 : List (View.Piece (Elt F) S1x8x256x192 .bf16)) (L27 : List (View.Piece (Elt F) S1x8x256x192 .bf16)) (L28 : List (View.Piece (Elt F) S1x8x256x128 .bf16)) (L29 : List (View.Piece (Elt F) S1x256x1024 .bf16)) (L30 : List (View.Piece (Elt F) S1x256x1024 .bf16)) (LS : List (View.Piece (Elt F) S264x3072 .f32))
    (run : Ran m c t P L21 L22 L23 L24 L25 L26 L27 L28 L29 L30 LS)
    (h21 : ∀ y : (S1x256x1024).Idx, ∃ pc ∈ L21, y ∈ pc.1.set) (h22 : ∀ y : (S1x256x1024).Idx, ∃ pc ∈ L22, y ∈ pc.1.set) (h23 : ∀ y : (S1x256x1024).Idx, ∃ pc ∈ L23, y ∈ pc.1.set) (h24 : ∀ y : (S1x256x1024).Idx, ∃ pc ∈ L24, y ∈ pc.1.set) (h25 : ∀ y : (S1x256x16).Idx, ∃ pc ∈ L25, y ∈ pc.1.set) (h26 : ∀ y : (S1x8x256x192).Idx, ∃ pc ∈ L26, y ∈ pc.1.set) (h27 : ∀ y : (S1x8x256x192).Idx, ∃ pc ∈ L27, y ∈ pc.1.set) (h28 : ∀ y : (S1x8x256x128).Idx, ∃ pc ∈ L28, y ∈ pc.1.set) (h29 : ∀ y : (S1x256x1024).Idx, ∃ pc ∈ L29, y ∈ pc.1.set) (h30 : ∀ y : (S1x256x1024).Idx, ∃ pc ∈ L30, y ∈ pc.1.set) (hS : ∀ y : (S264x3072).Idx, ∃ pc ∈ LS, y ∈ pc.1.set) :
    given m c t (iprop(P ∗ (∃ r, prngReg c r))) Q
    ⊢ wp frame (wpE (defs₀ (F := F)) Variants.none c none) Set.univ (bodyAt0 t) (fun _ => left m c t
      (iprop(owns (c : Thread nD τ) scM0_0 fullShare (VS0_0.read (Elt F) (VS0_0.writes (Elt F) VS0_0.junk LS)) ∗ (∃ r, prngReg c r))) Q
      (VO0_21.read (Elt F) (VO0_21.writes (Elt F) VO0_21.junk L21)) (VO0_22.read (Elt F) (VO0_22.writes (Elt F) VO0_22.junk L22)) (VO0_23.read (Elt F) (VO0_23.writes (Elt F) VO0_23.junk L23)) (VO0_24.read (Elt F) (VO0_24.writes (Elt F) VO0_24.junk L24)) (VO0_25.read (Elt F) (VO0_25.writes (Elt F) VO0_25.junk L25)) (VO0_26.read (Elt F) (VO0_26.writes (Elt F) VO0_26.junk L26)) (VO0_27.read (Elt F) (VO0_27.writes (Elt F) VO0_27.junk L27)) (VO0_28.read (Elt F) (VO0_28.writes (Elt F) VO0_28.junk L28)) (VO0_29.read (Elt F) (VO0_29.writes (Elt F) VO0_29.junk L29)) (VO0_30.read (Elt F) (VO0_30.writes (Elt F) VO0_30.junk L30))) := by
  unfold given left
  iintro ⟨⟨HS, Hg⟩, Ho, H0, H1, H2, H3, H4, H5, H6, H7, H8, H9, H10, H11, H12, H13, H14, H15, H16, H17, H18, H19, H20, H21, H22, H23, H24, H25, H26, H27, H28, H29, H30⟩
  iapply (run Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [HS]; · iexact HS
  iintro ⟨H0, H1, H2, H3, H4, H5, H6, H7, H8, H9, H10, H11, H12, H13, H14, H15, H16, H17, H18, H19, H20, ⟨%e21, H21⟩, ⟨%e22, H22⟩, ⟨%e23, H23⟩, ⟨%e24, H24⟩, ⟨%e25, H25⟩, ⟨%e26, H26⟩, ⟨%e27, H27⟩, ⟨%e28, H28⟩, ⟨%e29, H29⟩, ⟨%e30, H30⟩, ⟨%es, HS⟩⟩
  isplitl [HS Hg]
  · isplitl [HS]
    · unfold owns; iexists _; isplitr
      swap; · iexact HS
      ipureintro; exact View.read_writes_of_cover _ _ _ _ _ hS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]
  · unfold owns; iexists _; isplitr
    swap; · iexact H21
    ipureintro; exact View.read_writes_of_cover _ _ _ _ _ h21
  isplitl [H22]
  · unfold owns; iexists _; isplitr
    swap; · iexact H22
    ipureintro; exact View.read_writes_of_cover _ _ _ _ _ h22
  isplitl [H23]
  · unfold owns; iexists _; isplitr
    swap; · iexact H23
    ipureintro; exact View.read_writes_of_cover _ _ _ _ _ h23
  isplitl [H24]
  · unfold owns; iexists _; isplitr
    swap; · iexact H24
    ipureintro; exact View.read_writes_of_cover _ _ _ _ _ h24
  isplitl [H25]
  · unfold owns; iexists _; isplitr
    swap; · iexact H25
    ipureintro; exact View.read_writes_of_cover _ _ _ _ _ h25
  isplitl [H26]
  · unfold owns; iexists _; isplitr
    swap; · iexact H26
    ipureintro; exact View.read_writes_of_cover _ _ _ _ _ h26
  isplitl [H27]
  · unfold owns; iexists _; isplitr
    swap; · iexact H27
    ipureintro; exact View.read_writes_of_cover _ _ _ _ _ h27
  isplitl [H28]
  · unfold owns; iexists _; isplitr
    swap; · iexact H28
    ipureintro; exact View.read_writes_of_cover _ _ _ _ _ h28
  isplitl [H29]
  · unfold owns; iexists _; isplitr
    swap; · iexact H29
    ipureintro; exact View.read_writes_of_cover _ _ _ _ _ h29
  unfold owns; iexists _; isplitr
  swap; · iexact H30
  ipureintro; exact View.read_writes_of_cover _ _ _ _ _ h30

end Cert.Kernel5Ideal.Inproj

end
-- ==== Proof.InRunA.lean ====
/- The input projections' body, run once on whole staging buffers, at a sequence's first rows: the scratch is stored whole. -/
module

public import proofs.«01_k».proof.Proof.Gen.Kernel5Ideal.Frame.Runs

@[expose] public section

-- membership in a rectangle of production extents (`View.cover_of_tiled`): the elaborator's structural look
-- recurses once per coordinate of the long axes
set_option maxRecDepth 16384

noncomputable section

namespace Cert.Kernel5Ideal.Inproj

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 12000000 in
/-- What the body leaves in each result's buffer and in the carried scratch, as pieces, with the body's triple on them. -/
noncomputable def runA (c : Dev nD) (i : grid0.Coords) (arg2 : Memref sig .tc .vmem S1x1x256 .i32) (harg2 : arg2.IsWhole) (arg3 : Memref sig .tc .vmem S1x256x1024 .f32) (harg3 : arg3.IsWhole) (arg4 : Memref sig .tc .vmem S1x1024 .f32) (harg4 : arg4.IsWhole) (arg5 : Memref sig .tc .vmem S1024x3072 .bf16) (harg5 : arg5.IsWhole) (arg6 : Memref sig .tc .vmem S4x3072 .f32) (harg6 : arg6.IsWhole) (arg7 : Memref sig .tc .vmem S1024x1024 .bf16) (harg7 : arg7.IsWhole) (arg8 : Memref sig .tc .vmem S1024x16 .bf16) (harg8 : arg8.IsWhole) (arg9 : Memref sig .tc .vmem S2x16 .f32) (harg9 : arg9.IsWhole) (arg10 : Memref sig .tc .vmem S1024x384 .bf16) (harg10 : arg10.IsWhole) (arg11 : Memref sig .tc .vmem S1024x256 .bf16) (harg11 : arg11.IsWhole) (arg12 : Memref sig .tc .vmem S1024x128 .bf16) (harg12 : arg12.IsWhole) (arg13 : Memref sig .tc .vmem S1024x1024 .bf16) (harg13 : arg13.IsWhole) (arg14 : Memref sig .tc .vmem S1024x1024 .bf16) (harg14 : arg14.IsWhole) (arg15 : Memref sig .tc .vmem S1x384 .f32) (harg15 : arg15.IsWhole) (arg16 : Memref sig .tc .vmem S384x1024 .bf16) (harg16 : arg16.IsWhole) (arg17 : Memref sig .tc .vmem S384x512 .bf16) (harg17 : arg17.IsWhole) (arg18 : Memref sig .tc .vmem S384x512 .bf16) (harg18 : arg18.IsWhole) (arg19 : Memref sig .tc .vmem S1x256 .f32) (harg19 : arg19.IsWhole) (arg20 : Memref sig .tc .vmem S256x1024 .bf16) (harg20 : arg20.IsWhole) (arg21 : Memref sig .tc .vmem S256x1024 .bf16) (harg21 : arg21.IsWhole) (arg22 : Memref sig .tc .vmem S1x128 .f32) (harg22 : arg22.IsWhole) (arg23 : Memref sig .tc .vmem S1x256x1024 .bf16) (harg23 : arg23.IsWhole) (arg24 : Memref sig .tc .vmem S1x256x1024 .bf16) (harg24 : arg24.IsWhole) (arg25 : Memref sig .tc .vmem S1x256x1024 .bf16) (harg25 : arg25.IsWhole) (arg26 : Memref sig .tc .vmem S1x256x1024 .bf16) (harg26 : arg26.IsWhole) (arg27 : Memref sig .tc .vmem S1x256x16 .f32) (harg27 : arg27.IsWhole) (arg28 : Memref sig .tc .vmem S1x8x256x192 .bf16) (harg28 : arg28.IsWhole) (arg29 : Memref sig .tc .vmem S1x8x256x192 .bf16) (harg29 : arg29.IsWhole) (arg30 : Memref sig .tc .vmem S1x8x256x128 .bf16) (harg30 : arg30.IsWhole) (arg31 : Memref sig .tc .vmem S1x256x1024 .bf16) (harg31 : arg31.IsWhole) (arg32 : Memref sig .tc .vmem S1x256x1024 .bf16) (harg32 : arg32.IsWhole) (arg33 : Memref sig .tc .vmem S264x3072 .f32) (harg33 : arg33.IsWhole) (hc0 : cond0_0 i)
    (x0 : Vec F S1x1x256 .i32) (x1 : Vec F S1x256x1024 .f32) (x2 : Vec F S1x1024 .f32) (x3 : Vec F S1024x3072 .bf16) (x4 : Vec F S4x3072 .f32) (x5 : Vec F S1024x1024 .bf16) (x6 : Vec F S1024x16 .bf16) (x7 : Vec F S2x16 .f32) (x8 : Vec F S1024x384 .bf16) (x9 : Vec F S1024x256 .bf16) (x10 : Vec F S1024x128 .bf16) (x11 : Vec F S1024x1024 .bf16) (x12 : Vec F S1024x1024 .bf16) (x13 : Vec F S1x384 .f32) (x14 : Vec F S384x1024 .bf16) (x15 : Vec F S384x512 .bf16) (x16 : Vec F S384x512 .bf16) (x17 : Vec F S1x256 .f32) (x18 : Vec F S256x1024 .bf16) (x19 : Vec F S256x1024 .bf16) (x20 : Vec F S1x128 .f32) :
    Σ' (L21 : List (View.Piece (Elt F) S1x256x1024 .bf16)), Σ' (L22 : List (View.Piece (Elt F) S1x256x1024 .bf16)), Σ' (L23 : List (View.Piece (Elt F) S1x256x1024 .bf16)), Σ' (L24 : List (View.Piece (Elt F) S1x256x1024 .bf16)), Σ' (L25 : List (View.Piece (Elt F) S1x256x16 .f32)), Σ' (L26 : List (View.Piece (Elt F) S1x8x256x192 .bf16)), Σ' (L27 : List (View.Piece (Elt F) S1x8x256x192 .bf16)), Σ' (L28 : List (View.Piece (Elt F) S1x8x256x128 .bf16)), Σ' (L29 : List (View.Piece (Elt F) S1x256x1024 .bf16)), Σ' (L30 : List (View.Piece (Elt F) S1x256x1024 .bf16)), { LS0 : List (View.Piece (Elt F) S264x3072 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d) ∗ (∃ d, owns (c : Thread nD τ) arg32 fullShare d) ∗ (∃ d, owns (c : Thread nD τ) arg33 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f L26) ∗ (∃ f, arg29.view.loc (c : Thread nD τ) ↦[arg29.view.set]{fullShare} arg29.view.writes (Elt F) f L27) ∗ (∃ f, arg30.view.loc (c : Thread nD τ) ↦[arg30.view.set]{fullShare} arg30.view.writes (Elt F) f L28) ∗ (∃ f, arg31.view.loc (c : Thread nD τ) ↦[arg31.view.set]{fullShare} arg31.view.writes (Elt F) f L29) ∗ (∃ f, arg32.view.loc (c : Thread nD τ) ↦[arg32.view.set]{fullShare} arg32.view.writes (Elt F) f L30) ∗ (∃ f, arg33.view.loc (c : Thread nD τ) ↦[arg33.view.set]{fullShare} arg33.view.writes (Elt F) f LS0)) -∗ K ⟨⟩))
          ⊢ wp frame (wpE (defs₀ (F := F)) Variants.none c none) E (cc0_inproj i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33) K } := by
  refine ⟨?_, ?_, ?_, ?_, ?_, ?_, ?_, ?_, ?_, ?_, ?_, fun E K => ?run⟩
  case run =>
    simp only [cc0_inproj_eq_skeleton]; unfold cc0_inproj_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%d27, %f27, -, H27⟩, ⟨%d28, %f28, -, H28⟩, ⟨%d29, %f29, -, H29⟩, ⟨%d30, %f30, -, H30⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg22.eq_unread hf20
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]
    · iexists _; isplitr; · ipureintro; exact harg22.read_unread _
      iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [H27]; · iexists _; iexact H27
    isplitl [H28]; · iexists _; iexact H28
    isplitl [H29]; · iexists _; iexact H29
    isplitl [H30]; · iexists _; iexact H30
    iexists _; iexact HS0

end Cert.Kernel5Ideal.Inproj

end
-- ==== Proof.InFrame.lean ====
/- The input projections' frame: at each point the body's run, what the results' buffers and the carried scratch hold after it,
   and the pipeline over it. -/
module

public import proofs.«01_k».proof.Proof.InBody
public import proofs.«01_k».proof.Proof.InRunA
public import proofs.«01_k».proof.Proof.InRunB
public import Idealize.ShloMosaic.Lib.Claim
public import Idealize.ShloMosaic.Lib.Pipeline.Value

@[expose] public section

-- membership in a rectangle of production extents (`View.cover_of_tiled`): the elaborator's structural look
-- recurses once per coordinate of the long axes
set_option maxRecDepth 16384

noncomputable section

namespace Cert.Kernel5Ideal.Inproj

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The runs at a point -/

/-- At a sequence's first rows, -/
def atA (c : Dev nD) (t : Fin cfg0.N) (h0 : t.val % 16 = 0) :=
  runA (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t)
    scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
/-- and at the others, from the scratch at `xs`. -/
def atB (c : Dev nD) (t : Fin cfg0.N) (h0 : ¬t.val % 16 = 0) (xs : Vec F S264x3072 .f32) :=
  runB (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t)
    scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) xs

theorem coverA_21 (c : Dev nD) (t : Fin cfg0.N) (h0 : t.val % 16 = 0) (y : (S1x256x1024).Idx) : ∃ pc ∈ (atA m c t h0).1, y ∈ pc.1.set :=
  View.cover_of_tiledL (atA m c t h0).1 S1x256x128.size (by sl_kernel_rfl) y
theorem coverA_22 (c : Dev nD) (t : Fin cfg0.N) (h0 : t.val % 16 = 0) (y : (S1x256x1024).Idx) : ∃ pc ∈ (atA m c t h0).2.1, y ∈ pc.1.set :=
  View.cover_of_tiledL (atA m c t h0).2.1 S1x256x128.size (by sl_kernel_rfl) y
theorem coverA_23 (c : Dev nD) (t : Fin cfg0.N) (h0 : t.val % 16 = 0) (y : (S1x256x1024).Idx) : ∃ pc ∈ (atA m c t h0).2.2.1, y ∈ pc.1.set :=
  View.cover_of_tiledL (atA m c t h0).2.2.1 S1x256x128.size (by sl_kernel_rfl) y
theorem coverA_24 (c : Dev nD) (t : Fin cfg0.N) (h0 : t.val % 16 = 0) (y : (S1x256x1024).Idx) : ∃ pc ∈ (atA m c t h0).2.2.2.1, y ∈ pc.1.set :=
  View.cover_of_tiledL (atA m c t h0).2.2.2.1 S1x256x1024.size (by sl_kernel_rfl) y
theorem coverA_25 (c : Dev nD) (t : Fin cfg0.N) (h0 : t.val % 16 = 0) (y : (S1x256x16).Idx) : ∃ pc ∈ (atA m c t h0).2.2.2.2.1, y ∈ pc.1.set :=
  View.cover_of_tiledL (atA m c t h0).2.2.2.2.1 S1x256x16.size (by sl_kernel_rfl) y
theorem coverA_26 (c : Dev nD) (t : Fin cfg0.N) (h0 : t.val % 16 = 0) (y : (S1x8x256x192).Idx) : ∃ pc ∈ (atA m c t h0).2.2.2.2.2.1, y ∈ pc.1.set :=
  View.cover_of_tiledBy (atA m c t h0).2.2.2.2.2.1 ![1, 1, 256, 64] (by sl_kernel_rfl) y
theorem coverA_27 (c : Dev nD) (t : Fin cfg0.N) (h0 : t.val % 16 = 0) (y : (S1x8x256x192).Idx) : ∃ pc ∈ (atA m c t h0).2.2.2.2.2.2.1, y ∈ pc.1.set :=
  View.cover_of_tiledBy (atA m c t h0).2.2.2.2.2.2.1 ![1, 1, 256, 64] (by sl_kernel_rfl) y
theorem coverA_28 (c : Dev nD) (t : Fin cfg0.N) (h0 : t.val % 16 = 0) (y : (S1x8x256x128).Idx) : ∃ pc ∈ (atA m c t h0).2.2.2.2.2.2.2.1, y ∈ pc.1.set :=
  View.cover_of_tiledL (atA m c t h0).2.2.2.2.2.2.2.1 S1x1x256x128.size (by sl_kernel_rfl) y
theorem coverA_29 (c : Dev nD) (t : Fin cfg0.N) (h0 : t.val % 16 = 0) (y : (S1x256x1024).Idx) : ∃ pc ∈ (atA m c t h0).2.2.2.2.2.2.2.2.1, y ∈ pc.1.set :=
  View.cover_of_tiledL (atA m c t h0).2.2.2.2.2.2.2.2.1 S1x256x1024.size (by sl_kernel_rfl) y
theorem coverA_30 (c : Dev nD) (t : Fin cfg0.N) (h0 : t.val % 16 = 0) (y : (S1x256x1024).Idx) : ∃ pc ∈ (atA m c t h0).2.2.2.2.2.2.2.2.2.1, y ∈ pc.1.set :=
  View.cover_of_tiledL (atA m c t h0).2.2.2.2.2.2.2.2.2.1 S1x256x1024.size (by sl_kernel_rfl) y
theorem coverA_s (c : Dev nD) (t : Fin cfg0.N) (h0 : t.val % 16 = 0) (y : (S264x3072).Idx) : ∃ pc ∈ (atA m c t h0).2.2.2.2.2.2.2.2.2.2.1, y ∈ pc.1.set :=
  View.cover_of_tiledBy (atA m c t h0).2.2.2.2.2.2.2.2.2.2.1 ![8, 3072] (by sl_kernel_rfl) y
theorem coverB_21 (c : Dev nD) (t : Fin cfg0.N) (h0 : ¬t.val % 16 = 0) (xs : Vec F S264x3072 .f32) (y : (S1x256x1024).Idx) : ∃ pc ∈ (atB m c t h0 xs).1, y ∈ pc.1.set :=
  View.cover_of_tiledL (atB m c t h0 xs).1 S1x256x128.size (by sl_kernel_rfl) y
theorem coverB_22 (c : Dev nD) (t : Fin cfg0.N) (h0 : ¬t.val % 16 = 0) (xs : Vec F S264x3072 .f32) (y : (S1x256x1024).Idx) : ∃ pc ∈ (atB m c t h0 xs).2.1, y ∈ pc.1.set :=
  View.cover_of_tiledL (atB m c t h0 xs).2.1 S1x256x128.size (by sl_kernel_rfl) y
theorem coverB_23 (c : Dev nD) (t : Fin cfg0.N) (h0 : ¬t.val % 16 = 0) (xs : Vec F S264x3072 .f32) (y : (S1x256x1024).Idx) : ∃ pc ∈ (atB m c t h0 xs).2.2.1, y ∈ pc.1.set :=
  View.cover_of_tiledL (atB m c t h0 xs).2.2.1 S1x256x128.size (by sl_kernel_rfl) y
theorem coverB_24 (c : Dev nD) (t : Fin cfg0.N) (h0 : ¬t.val % 16 = 0) (xs : Vec F S264x3072 .f32) (y : (S1x256x1024).Idx) : ∃ pc ∈ (atB m c t h0 xs).2.2.2.1, y ∈ pc.1.set :=
  View.cover_of_tiledL (atB m c t h0 xs).2.2.2.1 S1x256x1024.size (by sl_kernel_rfl) y
theorem coverB_25 (c : Dev nD) (t : Fin cfg0.N) (h0 : ¬t.val % 16 = 0) (xs : Vec F S264x3072 .f32) (y : (S1x256x16).Idx) : ∃ pc ∈ (atB m c t h0 xs).2.2.2.2.1, y ∈ pc.1.set :=
  View.cover_of_tiledL (atB m c t h0 xs).2.2.2.2.1 S1x256x16.size (by sl_kernel_rfl) y
theorem coverB_26 (c : Dev nD) (t : Fin cfg0.N) (h0 : ¬t.val % 16 = 0) (xs : Vec F S264x3072 .f32) (y : (S1x8x256x192).Idx) : ∃ pc ∈ (atB m c t h0 xs).2.2.2.2.2.1, y ∈ pc.1.set :=
  View.cover_of_tiledBy (atB m c t h0 xs).2.2.2.2.2.1 ![1, 1, 256, 64] (by sl_kernel_rfl) y
theorem coverB_27 (c : Dev nD) (t : Fin cfg0.N) (h0 : ¬t.val % 16 = 0) (xs : Vec F S264x3072 .f32) (y : (S1x8x256x192).Idx) : ∃ pc ∈ (atB m c t h0 xs).2.2.2.2.2.2.1, y ∈ pc.1.set :=
  View.cover_of_tiledBy (atB m c t h0 xs).2.2.2.2.2.2.1 ![1, 1, 256, 64] (by sl_kernel_rfl) y
theorem coverB_28 (c : Dev nD) (t : Fin cfg0.N) (h0 : ¬t.val % 16 = 0) (xs : Vec F S264x3072 .f32) (y : (S1x8x256x128).Idx) : ∃ pc ∈ (atB m c t h0 xs).2.2.2.2.2.2.2.1, y ∈ pc.1.set :=
  View.cover_of_tiledL (atB m c t h0 xs).2.2.2.2.2.2.2.1 S1x1x256x128.size (by sl_kernel_rfl) y
theorem coverB_29 (c : Dev nD) (t : Fin cfg0.N) (h0 : ¬t.val % 16 = 0) (xs : Vec F S264x3072 .f32) (y : (S1x256x1024).Idx) : ∃ pc ∈ (atB m c t h0 xs).2.2.2.2.2.2.2.2.1, y ∈ pc.1.set :=
  View.cover_of_tiledL (atB m c t h0 xs).2.2.2.2.2.2.2.2.1 S1x256x1024.size (by sl_kernel_rfl) y
theorem coverB_30 (c : Dev nD) (t : Fin cfg0.N) (h0 : ¬t.val % 16 = 0) (xs : Vec F S264x3072 .f32) (y : (S1x256x1024).Idx) : ∃ pc ∈ (atB m c t h0 xs).2.2.2.2.2.2.2.2.2.1, y ∈ pc.1.set :=
  View.cover_of_tiledL (atB m c t h0 xs).2.2.2.2.2.2.2.2.2.1 S1x256x1024.size (by sl_kernel_rfl) y
theorem coverB_s (c : Dev nD) (t : Fin cfg0.N) (h0 : ¬t.val % 16 = 0) (xs : Vec F S264x3072 .f32) (y : (S264x3072).Idx) : ∃ pc ∈ (atB m c t h0 xs).2.2.2.2.2.2.2.2.2.2.1, y ∈ pc.1.set :=
  View.cover_of_tiledBy (atB m c t h0 xs).2.2.2.2.2.2.2.2.2.2.1 ![8, 3072] (by sl_kernel_rfl) y

-- only what is said of them above is used below
attribute [local irreducible] runA runB

/-! ## What a point leaves -/

/-- The results' buffers, in their order, and the scratch. -/
abbrev Held (F : FTy → Type) [FloatOps F] := Vec F S1x256x1024 .bf16 × Vec F S1x256x1024 .bf16 × Vec F S1x256x1024 .bf16 × Vec F S1x256x1024 .bf16 × Vec F S1x256x16 .f32 × Vec F S1x8x256x192 .bf16 × Vec F S1x8x256x192 .bf16 × Vec F S1x8x256x128 .bf16 × Vec F S1x256x1024 .bf16 × Vec F S1x256x1024 .bf16 × Vec F S264x3072 .f32
def heldA (c : Dev nD) (t : Fin cfg0.N) (h0 : t.val % 16 = 0) : Held F :=
  (VO0_21.read (Elt F) (VO0_21.writes (Elt F) VO0_21.junk (atA m c t h0).1), VO0_22.read (Elt F) (VO0_22.writes (Elt F) VO0_22.junk (atA m c t h0).2.1), VO0_23.read (Elt F) (VO0_23.writes (Elt F) VO0_23.junk (atA m c t h0).2.2.1), VO0_24.read (Elt F) (VO0_24.writes (Elt F) VO0_24.junk (atA m c t h0).2.2.2.1), VO0_25.read (Elt F) (VO0_25.writes (Elt F) VO0_25.junk (atA m c t h0).2.2.2.2.1), VO0_26.read (Elt F) (VO0_26.writes (Elt F) VO0_26.junk (atA m c t h0).2.2.2.2.2.1), VO0_27.read (Elt F) (VO0_27.writes (Elt F) VO0_27.junk (atA m c t h0).2.2.2.2.2.2.1), VO0_28.read (Elt F) (VO0_28.writes (Elt F) VO0_28.junk (atA m c t h0).2.2.2.2.2.2.2.1), VO0_29.read (Elt F) (VO0_29.writes (Elt F) VO0_29.junk (atA m c t h0).2.2.2.2.2.2.2.2.1), VO0_30.read (Elt F) (VO0_30.writes (Elt F) VO0_30.junk (atA m c t h0).2.2.2.2.2.2.2.2.2.1), VS0_0.read (Elt F) (VS0_0.writes (Elt F) VS0_0.junk (atA m c t h0).2.2.2.2.2.2.2.2.2.2.1))
def heldB (c : Dev nD) (t : Fin cfg0.N) (h0 : ¬t.val % 16 = 0) (xs : Vec F S264x3072 .f32) : Held F :=
  (VO0_21.read (Elt F) (VO0_21.writes (Elt F) VO0_21.junk (atB m c t h0 xs).1), VO0_22.read (Elt F) (VO0_22.writes (Elt F) VO0_22.junk (atB m c t h0 xs).2.1), VO0_23.read (Elt F) (VO0_23.writes (Elt F) VO0_23.junk (atB m c t h0 xs).2.2.1), VO0_24.read (Elt F) (VO0_24.writes (Elt F) VO0_24.junk (atB m c t h0 xs).2.2.2.1), VO0_25.read (Elt F) (VO0_25.writes (Elt F) VO0_25.junk (atB m c t h0 xs).2.2.2.2.1), VO0_26.read (Elt F) (VO0_26.writes (Elt F) VO0_26.junk (atB m c t h0 xs).2.2.2.2.2.1), VO0_27.read (Elt F) (VO0_27.writes (Elt F) VO0_27.junk (atB m c t h0 xs).2.2.2.2.2.2.1), VO0_28.read (Elt F) (VO0_28.writes (Elt F) VO0_28.junk (atB m c t h0 xs).2.2.2.2.2.2.2.1), VO0_29.read (Elt F) (VO0_29.writes (Elt F) VO0_29.junk (atB m c t h0 xs).2.2.2.2.2.2.2.2.1), VO0_30.read (Elt F) (VO0_30.writes (Elt F) VO0_30.junk (atB m c t h0 xs).2.2.2.2.2.2.2.2.2.1), VS0_0.read (Elt F) (VS0_0.writes (Elt F) VS0_0.junk (atB m c t h0 xs).2.2.2.2.2.2.2.2.2.2.1))
/-- After point `n`: the scratch goes from each point to the next. -/
def held (c : Dev nD) : (n : ℕ) → n < cfg0.N → Held F
  | 0, hn => heldA m c ⟨0, hn⟩ (Nat.zero_mod _)
  | n + 1, hn => if h0 : (n + 1) % 16 = 0 then heldA m c ⟨n + 1, hn⟩ h0
      else heldB m c ⟨n + 1, hn⟩ h0 (held c n (Nat.lt_of_succ_lt hn)).2.2.2.2.2.2.2.2.2.2
theorem held_A (c : Dev nD) (t : Fin cfg0.N) (h0 : t.val % 16 = 0) : held m c t.val t.isLt = heldA m c t h0 := by
  obtain ⟨n, hn⟩ := t
  cases n with
  | zero => rfl
  | succ n => exact dif_pos h0
theorem held_B (c : Dev nD) (t : Fin cfg0.N) (h0 : ¬t.val % 16 = 0) : held m c t.val t.isLt
      = heldB m c t h0 (held m c (t.val - 1) (Nat.lt_of_le_of_lt (Nat.sub_le _ _) t.isLt)).2.2.2.2.2.2.2.2.2.2 := by
  obtain ⟨n, hn⟩ := t
  cases n with
  | zero => exact absurd (Nat.zero_mod _) h0
  | succ n => exact dif_neg h0

/-- The invariant before point `n`: the scratch at what the point before left. -/
def Phi (c : Dev nD) : (n : ℕ) → n ≤ cfg0.N → sProp 𝕄
  | 0, _ => Pipeline.ΦA spec0 c
  | n + 1, hn => iprop(owns (c : Thread nD τ) scM0_0 fullShare (held m c n hn).2.2.2.2.2.2.2.2.2.2 ∗ (∃ r, prngReg c r))
theorem Phi_pos (c : Dev nD) (n : ℕ) (h : n ≤ cfg0.N) (hz : n ≠ 0) : Phi m c n h
    = iprop(owns (c : Thread nD τ) scM0_0 fullShare (held m c (n - 1) (by omega)).2.2.2.2.2.2.2.2.2.2 ∗ (∃ r, prngReg c r)) := by
  cases n with
  | zero => exact absurd rfl hz
  | succ n => rfl

/-! ## The pipeline -/

/-- The operands' blocks stay and the results' are what the run leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => (held m c t.val t.isLt).1
    | ⟨22, _⟩ => (held m c t.val t.isLt).2.1
    | ⟨23, _⟩ => (held m c t.val t.isLt).2.2.1
    | ⟨24, _⟩ => (held m c t.val t.isLt).2.2.2.1
    | ⟨25, _⟩ => (held m c t.val t.isLt).2.2.2.2.1
    | ⟨26, _⟩ => (held m c t.val t.isLt).2.2.2.2.2.1
    | ⟨27, _⟩ => (held m c t.val t.isLt).2.2.2.2.2.2.1
    | ⟨28, _⟩ => (held m c t.val t.isLt).2.2.2.2.2.2.2.1
    | ⟨29, _⟩ => (held m c t.val t.isLt).2.2.2.2.2.2.2.2.1
    | ⟨30, _⟩ => (held m c t.val t.isLt).2.2.2.2.2.2.2.2.2.1
    | ⟨_ + 31, h⟩ => absurd h (Nat.not_lt.2 (Nat.le_add_left _ _))
  Φ t := Phi m c t.val (Nat.le_of_lt_succ t.isLt)
  q _ := fullShare
  owed _ := 0
theorem A_eq (c : Dev nD) (w : Fin cfg0.W) : (dats m 0 c).A w = V m c (Pipeline.arrRef spec0 w) := by
  dsimp only [dats]
theorem Phi_castSucc (c : Dev nD) (t : Fin cfg0.N) : (dats m 0 c).Φ t.castSucc = Phi m c t.val (Nat.le_of_lt t.isLt) := by
  dsimp only [dats]; exact Pipeline.Dat.Φ_castSucc (Phi m c) t
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = iblk m c 17 t := by dsimp only [dats]
theorem after_18 (c : Dev nD) (t : Fin cfg0.N) : (dats m 0 c).after 18 t = iblk m c 18 t := by dsimp only [dats]
theorem after_19 (c : Dev nD) (t : Fin cfg0.N) : (dats m 0 c).after 19 t = iblk m c 19 t := by dsimp only [dats]
theorem after_20 (c : Dev nD) (t : Fin cfg0.N) : (dats m 0 c).after 20 t = iblk m c 20 t := by dsimp only [dats]
theorem after_21 (c : Dev nD) (t : Fin cfg0.N) : (dats m 0 c).after 21 t = (held m c t.val t.isLt).1 := by dsimp only [dats]
theorem after_22 (c : Dev nD) (t : Fin cfg0.N) : (dats m 0 c).after 22 t = (held m c t.val t.isLt).2.1 := by dsimp only [dats]
theorem after_23 (c : Dev nD) (t : Fin cfg0.N) : (dats m 0 c).after 23 t = (held m c t.val t.isLt).2.2.1 := by dsimp only [dats]
theorem after_24 (c : Dev nD) (t : Fin cfg0.N) : (dats m 0 c).after 24 t = (held m c t.val t.isLt).2.2.2.1 := by dsimp only [dats]
theorem after_25 (c : Dev nD) (t : Fin cfg0.N) : (dats m 0 c).after 25 t = (held m c t.val t.isLt).2.2.2.2.1 := by dsimp only [dats]
theorem after_26 (c : Dev nD) (t : Fin cfg0.N) : (dats m 0 c).after 26 t = (held m c t.val t.isLt).2.2.2.2.2.1 := by dsimp only [dats]
theorem after_27 (c : Dev nD) (t : Fin cfg0.N) : (dats m 0 c).after 27 t = (held m c t.val t.isLt).2.2.2.2.2.2.1 := by dsimp only [dats]
theorem after_28 (c : Dev nD) (t : Fin cfg0.N) : (dats m 0 c).after 28 t = (held m c t.val t.isLt).2.2.2.2.2.2.2.1 := by dsimp only [dats]
theorem after_29 (c : Dev nD) (t : Fin cfg0.N) : (dats m 0 c).after 29 t = (held m c t.val t.isLt).2.2.2.2.2.2.2.2.1 := by dsimp only [dats]
theorem after_30 (c : Dev nD) (t : Fin cfg0.N) : (dats m 0 c).after 30 t = (held m c t.val t.isLt).2.2.2.2.2.2.2.2.2.1 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d
theorem before_16 (c : Dev nD) (t : Fin cfg0.N) (d) : (dats m 0 c).before 16 t d = iblk m c 16 t :=
  before0_16_of m (dats m 0 c) (A_eq m c 16) (after_16 m c) t d
theorem before_17 (c : Dev nD) (t : Fin cfg0.N) (d) : (dats m 0 c).before 17 t d = iblk m c 17 t :=
  before0_17_of m (dats m 0 c) (A_eq m c 17) (after_17 m c) t d
theorem before_18 (c : Dev nD) (t : Fin cfg0.N) (d) : (dats m 0 c).before 18 t d = iblk m c 18 t :=
  before0_18_of m (dats m 0 c) (A_eq m c 18) (after_18 m c) t d
theorem before_19 (c : Dev nD) (t : Fin cfg0.N) (d) : (dats m 0 c).before 19 t d = iblk m c 19 t :=
  before0_19_of m (dats m 0 c) (A_eq m c 19) (after_19 m c) t d
theorem before_20 (c : Dev nD) (t : Fin cfg0.N) (d) : (dats m 0 c).before 20 t d = iblk m c 20 t :=
  before0_20_of m (dats m 0 c) (A_eq m c 20) (after_20 m c) t d

/-- The body's triple at a point, window by window. -/
def pre (c : Dev nD) (t : Fin cfg0.N) : sProp 𝕄 :=
  iprop((dats m 0 c).Φ t.castSucc
    ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d)))
def post (c : Dev nD) (t : Fin cfg0.N) : sProp 𝕄 :=
  iprop((dats m 0 c).Φ t.succ
    ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t))

set_option maxHeartbeats 4000000 in
theorem pre_given (c : Dev nD) (t : Fin cfg0.N) :
    pre m c t ⊢ given m c t (Phi m c t.val (Nat.le_of_lt t.isLt)) ((dats m 0 c).owesAt () t.castSucc) := by
  unfold pre given
  simp only [before_0, before_1, before_2, before_3, before_4, before_5, before_6, before_7, before_8, before_9, before_10, before_11, before_12, before_13, before_14, before_15, before_16, before_17, before_18, before_19, before_20]
  rw [Phi_castSucc m c t]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  isplitl [H27]; · iexists _; iexact H27
  isplitl [H28]; · iexists _; iexact H28
  isplitl [H29]; · iexists _; iexact H29
  iexists _; iexact H30

set_option maxHeartbeats 4000000 in
theorem post_left (c : Dev nD) (t : Fin cfg0.N) : post m c t = left m c t (Phi m c (t.val + 1) t.isLt) ((dats m 0 c).owesAt () t.castSucc)
    (held m c t.val t.isLt).1 (held m c t.val t.isLt).2.1 (held m c t.val t.isLt).2.2.1 (held m c t.val t.isLt).2.2.2.1 (held m c t.val t.isLt).2.2.2.2.1 (held m c t.val t.isLt).2.2.2.2.2.1 (held m c t.val t.isLt).2.2.2.2.2.2.1 (held m c t.val t.isLt).2.2.2.2.2.2.2.1 (held m c t.val t.isLt).2.2.2.2.2.2.2.2.1 (held m c t.val t.isLt).2.2.2.2.2.2.2.2.2.1 := by
  unfold post left
  rw [show (dats m 0 c).owesAt () t.succ = (dats m 0 c).owesAt () t.castSucc from rfl,
    show (dats m 0 c).Φ t.succ = Phi m c (t.val + 1) t.isLt from rfl,
    after_0, after_1, after_2, after_3, after_4, after_5, after_6, after_7, after_8, after_9, after_10, after_11, after_12, after_13, after_14, after_15, after_16, after_17, after_18, after_19, after_20, after_21, after_22, after_23, after_24, after_25, after_26, after_27, after_28, after_29, after_30]

set_option maxHeartbeats 4000000 in
theorem body_A (c : Dev nD) (t : Fin cfg0.N) (h0 : t.val % 16 = 0) (Q : sProp 𝕄) :
    given m c t (iprop((∃ d, owns (c : Thread nD τ) scM0_0 fullShare d) ∗ (∃ r, prngReg c r))) Q
    ⊢ wp frame (wpE (defs₀ (F := F)) Variants.none c none) Set.univ (bodyAt0 t) (fun _ => left m c t (Phi m c (t.val + 1) t.isLt) Q
      (held m c t.val t.isLt).1 (held m c t.val t.isLt).2.1 (held m c t.val t.isLt).2.2.1 (held m c t.val t.isLt).2.2.2.1 (held m c t.val t.isLt).2.2.2.2.1 (held m c t.val t.isLt).2.2.2.2.2.1 (held m c t.val t.isLt).2.2.2.2.2.2.1 (held m c t.val t.isLt).2.2.2.2.2.2.2.1 (held m c t.val t.isLt).2.2.2.2.2.2.2.2.1 (held m c t.val t.isLt).2.2.2.2.2.2.2.2.2.1) := by
  rw [show Phi m c (t.val + 1) t.isLt = iprop(owns (c : Thread nD τ) scM0_0 fullShare (held m c t.val t.isLt).2.2.2.2.2.2.2.2.2.2 ∗ (∃ r, prngReg c r)) from rfl, held_A m c t h0]
  exact body_of m c t _ _ _ _ _ _ _ _ _ _ _ _ _ (atA m c t h0).2.2.2.2.2.2.2.2.2.2.2 (coverA_21 m c t h0) (coverA_22 m c t h0) (coverA_23 m c t h0) (coverA_24 m c t h0) (coverA_25 m c t h0) (coverA_26 m c t h0) (coverA_27 m c t h0) (coverA_28 m c t h0) (coverA_29 m c t h0) (coverA_30 m c t h0) (coverA_s m c t h0)

set_option maxHeartbeats 4000000 in
theorem body_B (c : Dev nD) (t : Fin cfg0.N) (h0 : ¬t.val % 16 = 0) (Q : sProp 𝕄) :
    given m c t (iprop(owns (c : Thread nD τ) scM0_0 fullShare (held m c (t.val - 1) (Nat.lt_of_le_of_lt (Nat.sub_le _ _) t.isLt)).2.2.2.2.2.2.2.2.2.2 ∗ (∃ r, prngReg c r))) Q
    ⊢ wp frame (wpE (defs₀ (F := F)) Variants.none c none) Set.univ (bodyAt0 t) (fun _ => left m c t (Phi m c (t.val + 1) t.isLt) Q
      (held m c t.val t.isLt).1 (held m c t.val t.isLt).2.1 (held m c t.val t.isLt).2.2.1 (held m c t.val t.isLt).2.2.2.1 (held m c t.val t.isLt).2.2.2.2.1 (held m c t.val t.isLt).2.2.2.2.2.1 (held m c t.val t.isLt).2.2.2.2.2.2.1 (held m c t.val t.isLt).2.2.2.2.2.2.2.1 (held m c t.val t.isLt).2.2.2.2.2.2.2.2.1 (held m c t.val t.isLt).2.2.2.2.2.2.2.2.2.1) := by
  rw [show Phi m c (t.val + 1) t.isLt = iprop(owns (c : Thread nD τ) scM0_0 fullShare (held m c t.val t.isLt).2.2.2.2.2.2.2.2.2.2 ∗ (∃ r, prngReg c r)) from rfl, held_B m c t h0]
  exact body_of m c t _ _ _ _ _ _ _ _ _ _ _ _ _ (atB m c t h0 _).2.2.2.2.2.2.2.2.2.2.2 (coverB_21 m c t h0 _) (coverB_22 m c t h0 _) (coverB_23 m c t h0 _) (coverB_24 m c t h0 _) (coverB_25 m c t h0 _) (coverB_26 m c t h0 _) (coverB_27 m c t h0 _) (coverB_28 m c t h0 _) (coverB_29 m c t h0 _) (coverB_30 m c t h0 _) (coverB_s m c t h0 _)

/-- A scratch that holds something, before what is given. -/
theorem given_mono (c : Dev nD) (t : Fin cfg0.N) (P P' Q : sProp 𝕄) (h : P ⊢ P') : given m c t P Q ⊢ given m c t P' Q := by
  unfold given
  iintro ⟨HP, H⟩
  isplitl [HP]
  · iapply h; iexact HP
  iexact H

theorem sound_body (c : Dev nD) (t : Fin cfg0.N) :
    pre m c t ⊢ wp frame (wpE (defs₀ (F := F)) Variants.none c none) Set.univ (bodyAt0 t) (fun _ => post m c t) := by
  rw [post_left]
  refine (pre_given m c t).trans ?_
  by_cases h0 : t.val % 16 = 0
  · refine BIBase.Entails.trans (given_mono m c t _ _ _ ?_) (body_A m c t h0 _)
    by_cases hz : t.val = 0
    · rw [show Phi m c t.val (Nat.le_of_lt t.isLt) = Pipeline.ΦA spec0 c from by
        obtain ⟨n, hn⟩ := t; subst hz; rfl, PhiA0_eq]
    · rw [Phi_pos m c _ _ hz]
      iintro ⟨HS, Hg⟩
      isplitl [HS]; · iexists _; iexact HS
      iexact Hg
  · rw [Phi_pos m c _ _ fun hz => h0 (by rw [hz])]
    exact body_B m c t h0 _

set_option maxHeartbeats 2000000 in
theorem defs₀_row (t : Fin cfg0.N) : defs₀ (F := F) .tc cfg0.body (cfg0.bodyArgs t (cfg0.slots t)) = bodyAt0 t := by
  unfold defs₀; rw [Defs.onTc_tc]
set_option maxHeartbeats 2000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
theorem hin (c : Dev nD) : Pipeline.ΦA spec0 c ⊢ (dats m 0 c).Φ 0 := by
  rw [show (dats m 0 c).Φ 0 = Pipeline.ΦA spec0 c from rfl]
theorem hout (c : Dev nD) : (dats m 0 c).Φ (Fin.last cfg0.N) ⊢ Pipeline.ΦA spec0 c := by
  rw [show (dats m 0 c).Φ (Fin.last cfg0.N) = Phi m c (Fin.last cfg0.N).val (Nat.le_of_lt_succ (Fin.last cfg0.N).isLt) from rfl,
    Phi_pos m c _ _ (by rw [Fin.val_last]; have : cfg0.N = 128 := N_0; omega), PhiA0_eq]
  iintro ⟨HS, Hg⟩
  isplitl [HS]
  · iexists _; iexact HS
  iexact Hg

/-! ## The run and the frame -/

set_option backward.isDefEq.respectTransparency.types false in
theorem run_quiescent : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)
theorem run_main : θ_run defs (onTc (τ := τ) (main (F := F))) (s₀ m ρ) (Pipeline.FramePost cfgs (dats m) 0 (V m)) :=
  (θ_run defs _ _).mono (fun _ h => h.1) (run_quiescent m ρ)

/-- The arguments stay. -/
def Kept (r : PUnit × MemSt nD τ sig (Elt F)) (c : Dev nD) : Prop :=
  r.2.mem ((c.tc : Thread nD τ).loc main_arg0) = m ((c.tc : Thread nD τ).loc main_arg0)
  ∧ r.2.mem ((c.tc : Thread nD τ).loc main_arg1) = m ((c.tc : Thread nD τ).loc main_arg1)
  ∧ r.2.mem ((c.tc : Thread nD τ).loc main_arg2) = m ((c.tc : Thread nD τ).loc main_arg2)
  ∧ r.2.mem ((c.tc : Thread nD τ).loc main_arg3) = m ((c.tc : Thread nD τ).loc main_arg3)
  ∧ r.2.mem ((c.tc : Thread nD τ).loc main_arg4) = m ((c.tc : Thread nD τ).loc main_arg4)
  ∧ r.2.mem ((c.tc : Thread nD τ).loc main_arg5) = m ((c.tc : Thread nD τ).loc main_arg5)
  ∧ r.2.mem ((c.tc : Thread nD τ).loc main_arg6) = m ((c.tc : Thread nD τ).loc main_arg6)
  ∧ r.2.mem ((c.tc : Thread nD τ).loc main_arg7) = m ((c.tc : Thread nD τ).loc main_arg7)
  ∧ r.2.mem ((c.tc : Thread nD τ).loc main_arg8) = m ((c.tc : Thread nD τ).loc main_arg8)
  ∧ r.2.mem ((c.tc : Thread nD τ).loc main_arg9) = m ((c.tc : Thread nD τ).loc main_arg9)
  ∧ r.2.mem ((c.tc : Thread nD τ).loc main_arg10) = m ((c.tc : Thread nD τ).loc main_arg10)
theorem unchanged : θ_run defs (onTc (τ := τ) (main (F := F))) ⟨m, fun _ => 0, ρ⟩ (fun r => ∀ c, Kept m r c) :=
  frame_of m ρ (dats m) (A_eq m) (run_main m ρ)
theorem frame : θ_run defs (onTc (τ := τ) (main (F := F))) ⟨m, fun _ => 0, ρ⟩ (fun r => (∀ c, Kept m r c) ∧ r.2.sem = fun _ => 0) :=
  θ_run_and (unchanged m ρ) ((θ_run defs _ _).mono (fun _ h => h.2) (run_quiescent m ρ))
/-- The three results that are claimed, after the run. -/
theorem run_blocks : θ_run defs (onTc (τ := τ) (main (F := F))) ⟨m, fun _ => 0, ρ⟩ fun r => ∀ c : Dev nD,
      (r.2.mem ((c : Thread nD τ).loc main_v70_3) = (dats m 0 c).arrAt 24 cfg0.N
      ∧ r.2.mem ((c : Thread nD τ).loc main_v70_8) = (dats m 0 c).arrAt 29 cfg0.N
      ∧ r.2.mem ((c : Thread nD τ).loc main_v70_9) = (dats m 0 c).arrAt 30 cfg0.N) ∧ Kept m r c :=
  (θ_run defs _ _).mono (fun _ h c => ⟨⟨(h.1 c).1 24, (h.1 c).1 29, (h.1 c).1 30⟩, h.2 c⟩) (θ_run_and (run_main m ρ) (unchanged m ρ))

end Cert.Kernel5Ideal.Inproj

end
-- ==== Proof.InprojBlock.lean ====
/- The blocks that the input projections' body stores for the output gate and the merge's two gates, at an index: a row's norm under a
   weight, and the activation of it. -/
module

public import proofs.«01_k».proof.Proof.Gen.Kernel5Ideal.Skeleton
public import proofs.«01_k».proof.Proof.Rows
public import Idealize.ShloMosaic.Lib.Pointwise
public import Idealize.ShloMosaic.Lib.Tactic.CleanTypes

@[expose] public section

set_option maxRecDepth 16384

noncomputable section

namespace Cert.Kernel5Ideal.Inproj

open Idealize.ShloMosaic Idealize.ShloMosaic.TcCoe Cert.Kernel5Ideal Cert.Kernel5Ideal.Gen Cert.Rows

/-- The block's rows. -/
def rows (x : FVec Ideal S1x256x1024 .f32) : FVec Ideal S256x1024 .f32 := shapeCast S256x1024 x shapeCasts_S1x256x1024_S256x1024
/-- The squares' sums of the rows. -/
def squares (x : FVec Ideal S256x1024 .f32) : FVec Ideal S256 .f32 :=
  multiReduction .add [1] S256 (mulf x x) 0x00000000#32 reduces_S256x1024_S256 (.inl rfl) rfl
/-- Each row over its root mean square, times the weight. -/
def normed (x : FVec Ideal S256x1024 .f32) (q : FVec Ideal S256 .f32) (w : FVec Ideal S1x1024 .f32) : FVec Ideal S256x1024 .f32 :=
  mulf (mulf x (broadcastTo S256x1024 (rsqrt (addf (divf (shapeCast S256x1 q shapeCasts_S256_S256x1)
    (broadcast S256x1 (Scalar.ofBits .f32 0x44800000#32))) (broadcast S256x1 (Scalar.ofBits .f32 0x358637BD#32)))) broadcasts_S256x1_S256x1024))
    (broadcastTo S256x1024 w broadcasts_S1x1024_S256x1024)
/-- The rows under a weight. -/
def into (x : FVec Ideal S256x1024 .bf16) (w : FVec Ideal S1024x1024 .bf16) : FVec Ideal S256x1024 .f32 :=
  matmul dot_S256x1024_S1024x1024_S256x1024_1_0_0_1_n_n none x w (constant S256x1024 .f32 0x00000000#32)
/-- A block as it is stored. -/
def stored (x : FVec Ideal S256x1024 .bf16) : FVec Ideal S1x256x1024 .bf16 := shapeCast S1x256x1024 x shapeCasts_S256x1024_S1x256x1024
/-- The activation of a block, and its sigmoid. -/
def silu (g : FVec Ideal S256x1024 .f32) : FVec Ideal S256x1024 .bf16 :=
  truncf .bf16 (addf (mulf (mulf (broadcast S256x1024 (Scalar.ofBits .f32 0x3F000000#32)) g)
    (tanh (mulf (broadcast S256x1024 (Scalar.ofBits .f32 0x3F000000#32)) g))) (mulf (broadcast S256x1024 (Scalar.ofBits .f32 0x3F000000#32)) g)) bitsLt_bf16_f32
def sigmoid (g : FVec Ideal S256x1024 .f32) : FVec Ideal S256x1024 .bf16 :=
  truncf .bf16 (addf (mulf (broadcast S256x1024 (Scalar.ofBits .f32 0x3F000000#32))
    (tanh (mulf (broadcast S256x1024 (Scalar.ofBits .f32 0x3F000000#32)) g))) (broadcast S256x1024 (Scalar.ofBits .f32 0x3F000000#32))) bitsLt_bf16_f32

theorem rows_apply (x : FVec Ideal S1x256x1024 .f32) (a : Fin 256) (d : Fin 1024) : rows x (ix2 a d) = x (ix3 (0 : Fin 1) a d) := by
  unfold rows
  pointwise
theorem squares_apply (x : FVec Ideal S256x1024 .f32) (a : Fin 256) : squares x (ix1 a)
      = ∑ e : Fin 1024, (x (ix2 a e) : EReal) * x (ix2 a e) := by
  unfold squares
  pointwise
theorem normed_apply (x : FVec Ideal S256x1024 .f32) (q : FVec Ideal S256 .f32) (w : FVec Ideal S1x1024 .f32) (a : Fin 256) (d : Fin 1024) :
    normed x q w (ix2 a d) = (x (ix2 a d) : EReal)
      * Ideal.rsqrt (Ideal.div (q (ix1 a)) (Ideal.ofBits .f32 0x44800000#32) + Ideal.ofBits .f32 0x358637BD#32) * w (ix2 (0 : Fin 1) d) := by
  unfold normed
  pointwise
theorem into_apply (x : FVec Ideal S256x1024 .bf16) (w : FVec Ideal S1024x1024 .bf16) (a : Fin 256) (j : Fin 1024) : into x w (ix2 a j)
      = ∑ e : Fin 1024, (x (ix2 a e) : EReal) * w (ix2 e j) := by
  unfold into
  pointwise
theorem stored_apply (x : FVec Ideal S256x1024 .bf16) (z : Fin 1) (a : Fin 256) (j : Fin 1024) : stored x (ix3 z a j) = x (ix2 a j) := by
  unfold stored
  pointwise
theorem silu_apply (g : FVec Ideal S256x1024 .f32) (i : S256x1024.Idx) : silu g i = siluT (g i) := rfl
theorem sigmoid_apply (g : FVec Ideal S256x1024 .f32) (i : S256x1024.Idx) : sigmoid g i = sigT (g i) := rfl

/-- The normed rows that every projection reads. -/
theorem pay3_apply (x : Vec Ideal S1x256x1024 .f32) (nw : Vec Ideal S1x1024 .f32) (a : Fin 256) (d : Fin 1024) : k0_pay3 x nw (ix2 a d)
      = Rows.norm (fun e => x (ix3 (0 : Fin 1) a e)) (fun e => nw (ix2 (0 : Fin 1) e)) d := by
  have h : k0_pay3 x nw = (have X := rows x
      truncf .bf16 (normed X (squares X) (shapeCast S1x1024 nw shapeCasts_S1x1024_S1x1024)) bitsLt_bf16_f32) := rfl
  rw [h]
  show normed (rows x) (squares (rows x)) (shapeCast S1x1024 nw shapeCasts_S1x1024_S1x1024) (ix2 a d) = _
  simp only [shapeCast_self, normed_apply, squares_apply, rows_apply]
  rfl

/-- The output gate's block. -/
theorem z_apply (x : Vec Ideal S1x256x1024 .f32) (nw : Vec Ideal S1x1024 .f32) (w : Vec Ideal S1024x1024 .bf16) (z : Fin 1) (a : Fin 256) (j : Fin 1024) :
    k0_pay65 (k0_pay64 (k0_pay3 x nw) w) (ix3 z a j)
      = siluT (proj (fun e => x (ix3 (0 : Fin 1) a e)) (fun e => nw (ix2 (0 : Fin 1) e)) (fun e j => w (ix2 e j)) j) := by
  have h : k0_pay65 (k0_pay64 (k0_pay3 x nw) w)
      = stored (silu (into (k0_pay3 x nw) (shapeCast S1024x1024 w shapeCasts_S1024x1024_S1024x1024))) := rfl
  rw [h]
  simp only [shapeCast_self, stored_apply, silu_apply, into_apply, pay3_apply]
  rfl
/-- The gate's block of the one branch, -/
theorem sa_apply (x : Vec Ideal S1x256x1024 .f32) (nw : Vec Ideal S1x1024 .f32) (w : Vec Ideal S1024x1024 .bf16) (z : Fin 1) (a : Fin 256) (j : Fin 1024) :
    k0_pay67 (k0_pay3 x nw) w (ix3 z a j)
      = sigT (proj (fun e => x (ix3 (0 : Fin 1) a e)) (fun e => nw (ix2 (0 : Fin 1) e)) (fun e j => w (ix2 e j)) j) := by
  have h : k0_pay67 (k0_pay3 x nw) w
      = stored (sigmoid (into (k0_pay3 x nw) (shapeCast S1024x1024 w shapeCasts_S1024x1024_S1024x1024))) := rfl
  rw [h]
  simp only [shapeCast_self, stored_apply, sigmoid_apply, into_apply, pay3_apply]
  rfl
/-- and of the other, by the same text. -/
theorem sb_eq (n : FVec Ideal S256x1024 .bf16) (w : Vec Ideal S1024x1024 .bf16) : k0_pay68 n w = k0_pay67 n w := rfl

end Cert.Kernel5Ideal.Inproj

end
-- ==== Proof.InprojRef.lean ====
/- What the reference of the output gate and of the merge's two gates computes, at an index. -/
module

public import proofs.«01_k».proof.Proof.Gen.Reference5Ideal.Run
public import proofs.«01_k».proof.Proof.FfnRef

@[expose] public section

set_option maxRecDepth 16384

noncomputable section

namespace Cert.Reference5Ideal.Inproj

open Idealize.ShloMosaic Idealize.ShloMosaic.TcCoe Cert.Reference5Ideal Cert.Reference5Ideal.Gen Cert.Rows
open Cert.Reference2Ideal.Ffn (squares normed squares_apply normed_apply)

/-- The normed rows under all the weights. -/
def into (x : FVec Ideal S8x4096x1024 .f32) (nw : FVec Ideal S1024 .f32) (w : FVec Ideal S1024x6864 .f32) : FVec Ideal S8x4096x6864 .f32 :=
  Host.dotGeneral dot_S8x4096x1024_S1024x6864_S8x4096x6864_2_0_01_1_n_n none (normed x (squares x) nw : FVec Ideal S8x4096x1024 .f32) w
/-- The sigmoid of an array. -/
def sigmoid (g : FVec Ideal S8x4096x1024 .f32) : FVec Ideal S8x4096x1024 .f32 :=
  Host.divf (broadcastInDim S8x4096x1024 ![] bcast_S_S8x4096x1024 (constant S_ .f32 0x3F800000#32))
    (addf (broadcastInDim S8x4096x1024 ![] bcast_S_S8x4096x1024 (constant S_ .f32 0x3F800000#32)) (Host.exp (Host.negf g)))
/-- The three results: the output gate, -/
def z (x : FVec Ideal S8x4096x1024 .f32) (nw : FVec Ideal S1024 .f32) (w : FVec Ideal S1024x6864 .f32) : FVec Ideal S8x4096x1024 .bf16 :=
  have g := extractStridedSlice S8x4096x1024 ![0, 0, 3072] (into x nw w) slices_S8x4096x6864_S8x4096x1024_0_0_3072
  truncf .bf16 (mulf g (sigmoid g)) bitsLt_bf16_f32
/-- and the two branches' gates. -/
def sa (x : FVec Ideal S8x4096x1024 .f32) (nw : FVec Ideal S1024 .f32) (w : FVec Ideal S1024x6864 .f32) : FVec Ideal S8x4096x1024 .bf16 :=
  truncf .bf16 (sigmoid (extractStridedSlice S8x4096x1024 ![0, 0, 4816] (into x nw w) slices_S8x4096x6864_S8x4096x1024_0_0_4816)) bitsLt_bf16_f32
def sb (x : FVec Ideal S8x4096x1024 .f32) (nw : FVec Ideal S1024 .f32) (w : FVec Ideal S1024x6864 .f32) : FVec Ideal S8x4096x1024 .bf16 :=
  truncf .bf16 (sigmoid (extractStridedSlice S8x4096x1024 ![0, 0, 5840] (into x nw w) slices_S8x4096x6864_S8x4096x1024_0_0_5840)) bitsLt_bf16_f32

/-- Column `j` of the projections at offset `o`. -/
def col (w : S1024x6864.Idx → EReal) (o : ℕ) (ho : o + 1024 ≤ 6864) (e j : Fin 1024) : EReal := w (ix2 e (⟨o + j.val, by omega⟩ : Fin 6864))

theorem into_apply (x : FVec Ideal S8x4096x1024 .f32) (nw : FVec Ideal S1024 .f32) (w : FVec Ideal S1024x6864 .f32) (b : Fin 8) (t : Fin 4096) (j : Fin 6864) :
    into x nw w (ix3 b t j) = ∑ e : Fin 1024, (normed x (squares x) nw (ix3 b t e) : EReal) * w (ix2 e j) := by
  unfold into
  pointwise

theorem slice_apply (x : FVec Ideal S8x4096x1024 .f32) (nw : FVec Ideal S1024 .f32) (w : FVec Ideal S1024x6864 .f32) (o : ℕ) (ho : o + 1024 ≤ 6864)
    (h : S8x4096x6864.Slices ![0, 0, o] S8x4096x1024) (b : Fin 8) (t : Fin 4096) (j : Fin 1024) :
    extractStridedSlice S8x4096x1024 ![0, 0, o] (into x nw w) h (ix3 b t j)
      = proj (fun e => x (ix3 b t e)) (fun e => nw (ix1 e)) (col w o ho) j := by
  have e : extractStridedSlice S8x4096x1024 ![0, 0, o] (into x nw w) h (ix3 b t j) = into x nw w (ix3 b t (⟨o + j.val, by omega⟩ : Fin 6864)) := by
    pointwise
  rw [e, into_apply]
  simp only [normed_apply, squares_apply]
  rfl

theorem z_apply (x : FVec Ideal S8x4096x1024 .f32) (nw : FVec Ideal S1024 .f32) (w : FVec Ideal S1024x6864 .f32) (b : Fin 8) (t : Fin 4096) (j : Fin 1024) :
    z x nw w (ix3 b t j) = siluE (proj (fun e => x (ix3 b t e)) (fun e => nw (ix1 e)) (col w 3072 (by decide)) j) :=
  congrArg siluE (slice_apply x nw w 3072 (by decide) _ b t j)
theorem sa_apply (x : FVec Ideal S8x4096x1024 .f32) (nw : FVec Ideal S1024 .f32) (w : FVec Ideal S1024x6864 .f32) (b : Fin 8) (t : Fin 4096) (j : Fin 1024) :
    sa x nw w (ix3 b t j) = sigE (proj (fun e => x (ix3 b t e)) (fun e => nw (ix1 e)) (col w 4816 (by decide)) j) :=
  congrArg sigE (slice_apply x nw w 4816 (by decide) _ b t j)
theorem sb_apply (x : FVec Ideal S8x4096x1024 .f32) (nw : FVec Ideal S1024 .f32) (w : FVec Ideal S1024x6864 .f32) (b : Fin 8) (t : Fin 4096) (j : Fin 1024) :
    sb x nw w (ix3 b t j) = sigE (proj (fun e => x (ix3 b t e)) (fun e => nw (ix1 e)) (col w 5840 (by decide)) j) :=
  congrArg sigE (slice_apply x nw w 5840 (by decide) _ b t j)

end Cert.Reference5Ideal.Inproj

end
-- ==== Proof.Inproj.lean ====
/- What the input projections leave in the output gate's array and in the two branches' gates, of the arguments. -/
module

public import proofs.«01_k».proof.Proof.InFrame
public import proofs.«01_k».proof.Proof.InprojBlock
public import proofs.«01_k».proof.Proof.InprojRef
public import Idealize.ShloMosaic.Lib.Pointwise
public import Idealize.ShloMosaic.Lib.Pipeline.ValueKit
public import Idealize.ShloMosaic.Lib.Tactic.CleanTypes

@[expose] public section

set_option maxRecDepth 16384

noncomputable section

namespace Cert.Kernel5Ideal.Inproj

open Idealize.ShloMosaic Idealize.ShloMosaic.TcCoe Cert.Kernel5Ideal Cert.Kernel5Ideal.Gen Cert.Rows

section
variable {F : FTy → Type} [FloatOps F] [Named F] (m : (ℓ : Loc nD τ sig) → Buf (Elt F) ℓ)

/-! ## What the runs leave in the three results' blocks -/

theorem zero3 : (![0, 0, 0] : Fin 3 → Nat) = fun _ => 0 := by decide
theorem zero2 : (![0, 0] : Fin 2 → Nat) = fun _ => 0 := by decide

theorem zA (c : Dev nD) (t : Fin cfg0.N) (h0 : t.val % 16 = 0) :
    VO0_24.read (Elt F) (VO0_24.writes (Elt F) VO0_24.junk (atA m c t h0).2.2.2.1) = k0_pay65 (k0_pay64 (k0_pay3 (iblk m c 1 t) (iblk m c 2 t)) (iblk m c 5 t)) := by
  rw [View.read_writes_junk_eq_canon]
  unfold atA runA
  dsimp only
  rw [View.canon_unit_zero zero3]
  simp only [runA.sl.r_35, runA.sl.r, View.readAt_eq_ld, Memref.IsWhole.read_unread, View.ld_unit_zero (S := S1x256x1024) zero3,
    View.ld_unit_zero (S := S1x1024) zero2, View.ld_unit_zero (S := S1024x1024) zero2]

theorem saA (c : Dev nD) (t : Fin cfg0.N) (h0 : t.val % 16 = 0) :
    VO0_29.read (Elt F) (VO0_29.writes (Elt F) VO0_29.junk (atA m c t h0).2.2.2.2.2.2.2.2.1) = k0_pay67 (k0_pay3 (iblk m c 1 t) (iblk m c 2 t)) (iblk m c 11 t) := by
  rw [View.read_writes_junk_eq_canon]
  unfold atA runA
  dsimp only
  rw [View.canon_unit_zero zero3]
  simp only [runA.sl.r, View.readAt_eq_ld, Memref.IsWhole.read_unread, View.ld_unit_zero (S := S1x256x1024) zero3,
    View.ld_unit_zero (S := S1x1024) zero2, View.ld_unit_zero (S := S1024x1024) zero2]

theorem sbA (c : Dev nD) (t : Fin cfg0.N) (h0 : t.val % 16 = 0) :
    VO0_30.read (Elt F) (VO0_30.writes (Elt F) VO0_30.junk (atA m c t h0).2.2.2.2.2.2.2.2.2.1) = k0_pay68 (k0_pay3 (iblk m c 1 t) (iblk m c 2 t)) (iblk m c 12 t) := by
  rw [View.read_writes_junk_eq_canon]
  unfold atA runA
  dsimp only
  rw [View.canon_unit_zero zero3]
  simp only [runA.sl.r, View.readAt_eq_ld, Memref.IsWhole.read_unread, View.ld_unit_zero (S := S1x256x1024) zero3,
    View.ld_unit_zero (S := S1x1024) zero2, View.ld_unit_zero (S := S1024x1024) zero2]

theorem zB (c : Dev nD) (t : Fin cfg0.N) (h0 : ¬t.val % 16 = 0) (xs : Vec F S264x3072 .f32) :
    VO0_24.read (Elt F) (VO0_24.writes (Elt F) VO0_24.junk (atB m c t h0 xs).2.2.2.1) = k0_pay65 (k0_pay64 (k0_pay3 (iblk m c 1 t) (iblk m c 2 t)) (iblk m c 5 t)) := by
  rw [View.read_writes_junk_eq_canon]
  unfold atB runB
  dsimp only
  rw [View.canon_unit_zero zero3]
  simp only [runB.sl.r_51, runB.sl.r, View.readAt_eq_ld, Memref.IsWhole.read_unread, View.ld_unit_zero (S := S1x256x1024) zero3,
    View.ld_unit_zero (S := S1x1024) zero2, View.ld_unit_zero (S := S1024x1024) zero2]

theorem saB (c : Dev nD) (t : Fin cfg0.N) (h0 : ¬t.val % 16 = 0) (xs : Vec F S264x3072 .f32) :
    VO0_29.read (Elt F) (VO0_29.writes (Elt F) VO0_29.junk (atB m c t h0 xs).2.2.2.2.2.2.2.2.1) = k0_pay67 (k0_pay3 (iblk m c 1 t) (iblk m c 2 t)) (iblk m c 11 t) := by
  rw [View.read_writes_junk_eq_canon]
  unfold atB runB
  dsimp only
  rw [View.canon_unit_zero zero3]
  simp only [runB.sl.r, View.readAt_eq_ld, Memref.IsWhole.read_unread, View.ld_unit_zero (S := S1x256x1024) zero3,
    View.ld_unit_zero (S := S1x1024) zero2, View.ld_unit_zero (S := S1024x1024) zero2]

theorem sbB (c : Dev nD) (t : Fin cfg0.N) (h0 : ¬t.val % 16 = 0) (xs : Vec F S264x3072 .f32) :
    VO0_30.read (Elt F) (VO0_30.writes (Elt F) VO0_30.junk (atB m c t h0 xs).2.2.2.2.2.2.2.2.2.1) = k0_pay68 (k0_pay3 (iblk m c 1 t) (iblk m c 2 t)) (iblk m c 12 t) := by
  rw [View.read_writes_junk_eq_canon]
  unfold atB runB
  dsimp only
  rw [View.canon_unit_zero zero3]
  simp only [runB.sl.r, View.readAt_eq_ld, Memref.IsWhole.read_unread, View.ld_unit_zero (S := S1x256x1024) zero3,
    View.ld_unit_zero (S := S1x1024) zero2, View.ld_unit_zero (S := S1024x1024) zero2]

-- only what is said of them above is used below
attribute [local irreducible] atA atB

theorem z_after (c : Dev nD) (t : Fin cfg0.N) : (dats m 0 c).after 24 t
      = k0_pay65 (k0_pay64 (k0_pay3 (iblk m c 1 t) (iblk m c 2 t)) (iblk m c 5 t)) := by
  rw [after_24]
  by_cases h0 : t.val % 16 = 0
  · rw [held_A m c t h0]
    unfold heldA
    dsimp only
    exact zA m c t h0
  · rw [held_B m c t h0]
    unfold heldB
    dsimp only
    exact zB m c t h0 _

theorem sa_after (c : Dev nD) (t : Fin cfg0.N) : (dats m 0 c).after 29 t
      = k0_pay67 (k0_pay3 (iblk m c 1 t) (iblk m c 2 t)) (iblk m c 11 t) := by
  rw [after_29]
  by_cases h0 : t.val % 16 = 0
  · rw [held_A m c t h0]
    unfold heldA
    dsimp only
    exact saA m c t h0
  · rw [held_B m c t h0]
    unfold heldB
    dsimp only
    exact saB m c t h0 _

theorem sb_after (c : Dev nD) (t : Fin cfg0.N) : (dats m 0 c).after 30 t
      = k0_pay67 (k0_pay3 (iblk m c 1 t) (iblk m c 2 t)) (iblk m c 12 t) := by
  rw [after_30]
  by_cases h0 : t.val % 16 = 0
  · rw [held_A m c t h0]
    unfold heldA
    dsimp only
    exact sbA m c t h0
  · rw [held_B m c t h0]
    unfold heldB
    dsimp only
    exact sbB m c t h0 _

end

/-! ## The arrays -/

variable (m : (ℓ : Loc nD τ sig) → Buf (Elt Ideal) ℓ)

/-- Each row's norm under a weight, under a gate's function. -/
def result (s : EReal → EReal) (x : Vec Ideal S8x4096x1024 .f32) (nw : Vec Ideal S1x1024 .f32) (w : Vec Ideal S1024x1024 .bf16) :
    Vec Ideal S8x4096x1024 .bf16 := fun i =>
  s (proj (fun e => x (ix3 (i 0) (i 1) e)) (fun e => nw (ix2 (0 : Fin 1) e)) (fun e j => w (ix2 e j)) (i 2))

/-- The sequence and the row that row `a` of the block of grid point `t` is. -/
def seq (t : Fin cfg0.N) : Fin 8 := ⟨t.val / 16, by have : t.val < 128 := t.isLt; omega⟩
def line (t : Fin cfg0.N) (a : Fin 256) : Fin 4096 := ⟨256 * (t.val % 16) + a.val, by omega⟩

theorem index_1 : ∀ t : Fin cfg0.N, win0_1.index t = ![t.val / 16, t.val % 16, 0] :=
  (by decide +kernel : ∀ t : Fin grid0.N, win0_1.index t = ![t.val / 16, t.val % 16, 0])
theorem iblk_1 (c : Dev nD) (t : Fin cfg0.N) (a : Fin 256) (e : Fin 1024) :
    iblk m c 1 t (ix3 (0 : Fin 1) a e) = V m c main_arg0 (ix3 (seq t) (line t a) e) := by
  blk_ext [iblk, index_1 t]
  · rfl
  · show t.val % 16 * 256 + a.val = 256 * (t.val % 16) + a.val
    omega
theorem index_2 : ∀ t : Fin cfg0.N, win0_2.index t = ![0, 0] :=
  (by decide +kernel : ∀ t : Fin grid0.N, win0_2.index t = ![0, 0])
theorem iblk_2 (c : Dev nD) (t : Fin cfg0.N) : iblk m c 2 t = V m c main_v66 := by
  funext y
  blk_ext [iblk, index_2 t]
theorem index_5 : ∀ t : Fin cfg0.N, win0_5.index t = ![0, 0] :=
  (by decide +kernel : ∀ t : Fin grid0.N, win0_5.index t = ![0, 0])
theorem iblk_5 (c : Dev nD) (t : Fin cfg0.N) : iblk m c 5 t = V m c main_v4 := by
  funext y
  blk_ext [iblk, index_5 t]
theorem index_11 : ∀ t : Fin cfg0.N, win0_11.index t = ![0, 0] :=
  (by decide +kernel : ∀ t : Fin grid0.N, win0_11.index t = ![0, 0])
theorem iblk_11 (c : Dev nD) (t : Fin cfg0.N) : iblk m c 11 t = V m c main_v10 := by
  funext y
  blk_ext [iblk, index_11 t]
theorem index_12 : ∀ t : Fin cfg0.N, win0_12.index t = ![0, 0] :=
  (by decide +kernel : ∀ t : Fin grid0.N, win0_12.index t = ![0, 0])
theorem iblk_12 (c : Dev nD) (t : Fin cfg0.N) : iblk m c 12 t = V m c main_v11 := by
  funext y
  blk_ext [iblk, index_12 t]
theorem index_24 : ∀ t : Fin cfg0.N, win0_24.index t = ![t.val / 16, t.val % 16, 0] :=
  (by decide +kernel : ∀ t : Fin grid0.N, win0_24.index t = ![t.val / 16, t.val % 16, 0])
theorem index_29 : ∀ t : Fin cfg0.N, win0_29.index t = ![t.val / 16, t.val % 16, 0] :=
  (by decide +kernel : ∀ t : Fin grid0.N, win0_29.index t = ![t.val / 16, t.val % 16, 0])
theorem index_30 : ∀ t : Fin cfg0.N, win0_30.index t = ![t.val / 16, t.val % 16, 0] :=
  (by decide +kernel : ∀ t : Fin grid0.N, win0_30.index t = ![t.val / 16, t.val % 16, 0])

/-- A grid point's block of a result, by what it is at an index. -/
theorem block_eq (s : EReal → EReal) (c : Dev nD) (t : Fin cfg0.N) (w : Vec Ideal S1024x1024 .bf16) (k : Vec Ideal S1x256x1024 .bf16)
    (hk : ∀ z a j, k (ix3 z a j) = s (proj (fun e => iblk m c 1 t (ix3 (0 : Fin 1) a e)) (fun e => V m c main_v66 (ix2 (0 : Fin 1) e)) (fun e j => w (ix2 e j)) j))
    (y : S1x256x1024.Idx) (i : S8x4096x1024.Idx) (h0 : i 0 = seq t) (h1 : i 1 = line t (y 1)) (h2 : i 2 = y 2) :
    k y = result s (V m c main_arg0) (V m c main_v66) w i := by
  obtain ⟨z, a, d, rfl⟩ : ∃ z a d, y = ix3 z a d := ⟨y 0, y 1, y 2, by funext a; fin_cases a <;> rfl⟩
  rw [hk]
  unfold result
  rw [h0, h1, h2]
  simp only [iblk_1]
  rfl

theorem z_arr (c : Dev nD) : (dats m 0 c).arrAt 24 cfg0.N = result siluT (V m c main_arg0) (V m c main_v66) (V m c main_v4) := by
  refine (dats m 0 c).arrAt_eq_of_covers 24 _ (by decide +kernel) fun t hf y => ?_
  blk_simp
  rw [z_after, iblk_2, iblk_5]
  exact block_eq m siluT c t _ _ (z_apply _ _ _) y _
    (Fin.ext (by blk_simp [index_24 t]; rfl))
    (Fin.ext (by blk_simp [index_24 t]; show t.val % 16 * 256 + (y 1).val = 256 * (t.val % 16) + (y 1).val; omega))
    (Fin.ext (by blk_simp [index_24 t]))

theorem sa_arr (c : Dev nD) : (dats m 0 c).arrAt 29 cfg0.N = result sigT (V m c main_arg0) (V m c main_v66) (V m c main_v10) := by
  refine (dats m 0 c).arrAt_eq_of_covers 29 _ (by decide +kernel) fun t hf y => ?_
  blk_simp
  rw [sa_after, iblk_2, iblk_11]
  exact block_eq m sigT c t _ _ (sa_apply _ _ _) y _
    (Fin.ext (by blk_simp [index_29 t]; rfl))
    (Fin.ext (by blk_simp [index_29 t]; show t.val % 16 * 256 + (y 1).val = 256 * (t.val % 16) + (y 1).val; omega))
    (Fin.ext (by blk_simp [index_29 t]))

theorem sb_arr (c : Dev nD) : (dats m 0 c).arrAt 30 cfg0.N = result sigT (V m c main_arg0) (V m c main_v66) (V m c main_v11) := by
  refine (dats m 0 c).arrAt_eq_of_covers 30 _ (by decide +kernel) fun t hf y => ?_
  blk_simp
  rw [sb_after, iblk_2, iblk_12]
  exact block_eq m sigT c t _ _ (sa_apply _ _ _) y _
    (Fin.ext (by blk_simp [index_30 t]; rfl))
    (Fin.ext (by blk_simp [index_30 t]; show t.val % 16 * 256 + (y 1).val = 256 * (t.val % 16) + (y 1).val; omega))
    (Fin.ext (by blk_simp [index_30 t]))

/-- The arguments, as arrays of extended reals. -/
def argX (c : Dev nD) : S8x4096x1024.Idx → EReal := m ((c.tc : Thread nD τ).loc main_arg0)
def argN (c : Dev nD) : S1024.Idx → EReal := m ((c.tc : Thread nD τ).loc main_arg2)
def argW (c : Dev nD) : S1024x6864.Idx → EReal := m ((c.tc : Thread nD τ).loc main_arg3)

open Cert.Reference5Ideal.Inproj (col)

theorem x_apply (c : Dev nD) : V m c main_arg0 = argX m c := by
  entry_read
  rfl
theorem nw_apply (c : Dev nD) (e : Fin 1024) : V m c main_v66 (ix2 (0 : Fin 1) e) = argN m c (ix1 e) := by
  entry_read
  pointwise
  rfl
theorem wz_apply (c : Dev nD) (e j : Fin 1024) : V m c main_v4 (ix2 e j) = col (argW m c) 3072 (by decide) e j := by
  entry_read
  pointwise
  rfl
theorem wa_apply (c : Dev nD) (e j : Fin 1024) : V m c main_v10 (ix2 e j) = col (argW m c) 4816 (by decide) e j := by
  entry_read
  pointwise
  rfl
theorem wb_apply (c : Dev nD) (e j : Fin 1024) : V m c main_v11 (ix2 e j) = col (argW m c) 5840 (by decide) e j := by
  entry_read
  pointwise
  rfl

/-- The output gate's weights among all. -/
def gateW (w : FVec Ideal S1024x6864 .f32) : FVec Ideal S1024x1024 .f32 :=
  extractStridedSlice S1024x1024 ![0, 3072] w slices_S1024x6864_S1024x1024_0_3072
theorem gateW_apply (w : FVec Ideal S1024x6864 .f32) (e j : Fin 1024) : gateW w (ix2 e j) = col w 3072 (by decide) e j := by
  unfold gateW
  pointwise
  rfl

/-- A result at row `n` of sequence `b`, of the arguments. -/
theorem result_apply (s : EReal → EReal) (c : Dev nD) (w : Vec Ideal S1024x1024 .bf16) (v : Fin 1024 → Fin 1024 → EReal) (hw : ∀ e j, w (ix2 e j) = v e j)
    (b : Fin 8) (n : Fin 4096) (j : Fin 1024) : result s (V m c main_arg0) (V m c main_v66) w (ix3 b n j)
      = s (proj (fun e => argX m c (ix3 b n e)) (fun e => argN m c (ix1 e)) v j) := by
  have e1 : (fun e => V m c main_v66 (ix2 (0 : Fin 1) e)) = fun e => argN m c (ix1 e) := funext (nw_apply m c)
  have e2 : (fun e j => w (ix2 e j)) = v := funext fun e => funext (hw e)
  show s (proj (fun e => V m c main_arg0 (ix3 b n e)) (fun e => V m c main_v66 (ix2 (0 : Fin 1) e)) (fun e j => w (ix2 e j)) j) = _
  rw [x_apply, e1, e2]

/-- The results are the reference's: the output gate where the weights it reads are real, -/
theorem z_value (c : Dev nD) (nw : S1024.Idx → ℝ) (w : Fin 1024 → Fin 1024 → ℝ) (hn : argN m c = fun i => (nw i : EReal))
    (hw : ∀ e j, col (argW m c) 3072 (by decide) e j = (w e j : EReal)) :
    result siluT (V m c main_arg0) (V m c main_v66) (V m c main_v4) = Cert.Reference5Ideal.Inproj.z (argX m c) (argN m c) (argW m c) := by
  funext i
  obtain ⟨b, n, j, rfl⟩ : ∃ (b : Fin 8) (n : Fin 4096) (j : Fin 1024), i = ix3 b n j := ⟨i 0, i 1, i 2, by funext a; fin_cases a <;> rfl⟩
  refine (result_apply m siluT c _ _ (wz_apply m c) b n j).trans (Eq.trans ?_ (Cert.Reference5Ideal.Inproj.z_apply (argX m c) (argN m c) (argW m c) b n j).symm)
  rw [hn]
  exact proj_silu _ (fun e => nw (ix1 e)) _ j (fun e => w e j) fun e => hw e j
/-- and the two branches' gates. -/
theorem sa_value (c : Dev nD) : result sigT (V m c main_arg0) (V m c main_v66) (V m c main_v10)
      = Cert.Reference5Ideal.Inproj.sa (argX m c) (argN m c) (argW m c) := by
  funext i
  obtain ⟨b, n, j, rfl⟩ : ∃ (b : Fin 8) (n : Fin 4096) (j : Fin 1024), i = ix3 b n j := ⟨i 0, i 1, i 2, by funext a; fin_cases a <;> rfl⟩
  exact (result_apply m sigT c _ _ (wa_apply m c) b n j).trans ((sigT_eq _).trans (Cert.Reference5Ideal.Inproj.sa_apply (argX m c) (argN m c) (argW m c) b n j).symm)
theorem sb_value (c : Dev nD) : result sigT (V m c main_arg0) (V m c main_v66) (V m c main_v11)
      = Cert.Reference5Ideal.Inproj.sb (argX m c) (argN m c) (argW m c) := by
  funext i
  obtain ⟨b, n, j, rfl⟩ : ∃ (b : Fin 8) (n : Fin 4096) (j : Fin 1024), i = ix3 b n j := ⟨i 0, i 1, i 2, by funext a; fin_cases a <;> rfl⟩
  exact (result_apply m sigT c _ _ (wb_apply m c) b n j).trans ((sigT_eq _).trans (Cert.Reference5Ideal.Inproj.sb_apply (argX m c) (argN m c) (argW m c) b n j).symm)

end Cert.Kernel5Ideal.Inproj

end
-- ==== Proof.SameIn.lean ====
/- The input projections' program is the same text as its ideal form: one run serves both. -/
module

public import proofs.«01_k».proof.Defs
public import proofs.«01_k».proof.Proof.Gen.Kernel5
public import proofs.«01_k».proof.Proof.Gen.Kernel5Ideal

@[expose] public section

set_option maxRecDepth 65536

noncomputable section

namespace Cert.Same

open Idealize.ShloMosaic Idealize.SL.Sem

set_option maxHeartbeats 4000000 in
theorem defs5₀ : @Cert.Kernel5.defs₀ Bits _ Cert.Kernel5.Gen.facts = @Cert.Kernel5Ideal.defs₀ Bits _ Cert.Kernel5Ideal.Gen.facts :=
  congrArg Defs.onTc <| funext fun ℓ => funext fun a => by
    match ℓ, a with
    | 0, (_, _) => rfl
    | ⟨_ + 1, h⟩, _ => exact absurd h (Nat.not_lt.2 (Nat.le_add_left _ _))
set_option maxHeartbeats 4000000 in
theorem defs5 : @Cert.Kernel5.defs Bits _ Cert.Kernel5.Gen.facts = @Cert.Kernel5Ideal.defs Bits _ Cert.Kernel5Ideal.Gen.facts :=
  congrArg (Pipeline.defs _) defs5₀

end Cert.Same

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Value
public import proofs.«01_k».proof.Proof.Layer
public import proofs.«01_k».proof.Proof.Same
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame.Runs
public import proofs.«01_k».proof.Proof.Gen.Reference5Ideal.Run
public import proofs.«01_k».proof.Proof.Inproj
public import proofs.«01_k».proof.Proof.SameIn
public import Idealize.ShloMosaic.Adequacy
public import Idealize.ShloMosaic.Init

@[expose] public section

noncomputable section

namespace Cert.Proof

open Idealize.ShloMosaic Idealize.SL.Sem
open Cert.KernelIdeal.Attn Cert.ReferenceIdeal.Attn Cert.Attention

/-- The shape relations that the preconditions take. -/
theorem facts_finite : Cert.Pre_finite.Facts := ⟨by decide, by decide, by decide⟩
theorem facts_finite2 : Cert.Pre_finite2.Facts := ⟨by decide, by decide⟩
theorem facts_finite3 : Cert.Pre_finite3.Facts := ⟨by decide, by decide⟩
theorem facts_finite5 : Cert.Pre_finite5.Facts := ⟨by decide, by decide, by decide⟩

/-- The attention: the kernel and the reference return the same array. -/
theorem algebraic (hf : Cert.Pre_finite.Facts) :
    Cert.algebraic_KernelIdeal_ReferenceIdeal_pre_finite (hKernelIdeal := Cert.KernelIdeal.Gen.facts)
      (hReferenceIdeal := Cert.ReferenceIdeal.Gen.facts) (hPre_finite := hf) := fun m g m' g' hpre hargs =>
  ⟨fun c => result (Cert.KernelIdeal.Gen.V m c Cert.KernelIdeal.main_v8) (Cert.KernelIdeal.Gen.V m c Cert.KernelIdeal.main_v13)
      (Cert.KernelIdeal.Gen.V m c Cert.KernelIdeal.main_v15),
    (θ_run Cert.KernelIdeal.defs _ _).mono (fun _ h c => ⟨(h c).1.trans (arr_eq m c), (h c).2⟩) (Cert.KernelIdeal.Value.run_blocks m g),
    (θ_run Cert.ReferenceIdeal.defs _ _).mono (fun _ h c => ⟨(h c).1.trans (by
      obtain ⟨e0, e1, e2, e3, e4⟩ := hargs c
      obtain ⟨p0, p1, p2, p3⟩ := hpre c
      obtain ⟨q, hq⟩ := reals_of_finite (argQ m c) fun i => congrFun p0 i
      obtain ⟨qp, hqp⟩ := reals_of_finite (argQp m c) fun i => congrFun p1 i
      obtain ⟨k, hk⟩ := reals_of_finite (argK m c) fun i => congrFun p2 i
      obtain ⟨kp, hkp⟩ := reals_of_finite (argKp m c) fun i => congrFun p3 i
      rw [res_eq m' c, e0, e1, e2, e3, e4]
      exact (value m c q qp k kp hq hqp hk hkp).symm), (h c).2⟩) (Cert.ReferenceIdeal.Value.run m' g')⟩

/-- The gated unit with the last norm: the kernel and the reference return the same array. -/
theorem algebraic_final (hf : Cert.Pre_finite2.Facts) :
    Cert.algebraic_Kernel2Ideal_Reference2Ideal_pre_finite2 (hKernel2Ideal := Cert.Kernel2Ideal.Gen.facts)
      (hReference2Ideal := Cert.Reference2Ideal.Gen.facts) (hPre_finite2 := hf) := fun m g m' g' hpre hargs =>
  ⟨fun c => (Cert.Kernel2Ideal.Gen.dats m 0 c).arrAt 6 Cert.Kernel2Ideal.cfg0.N,
    Cert.Kernel2Ideal.Value.run_blocks m g,
    (θ_run Cert.Reference2Ideal.defs _ _).mono (fun _ h c => ⟨(h c).1.trans (by
      obtain ⟨e0, e1, e2, e3, e4, e5⟩ := hargs c
      obtain ⟨p0, p1⟩ := hpre c
      obtain ⟨w, hw⟩ := reals_of_finite (Cert.Kernel2Ideal.Ffn.argN m c) fun i => congrFun p0 i
      obtain ⟨r, hr⟩ := reals_of_finite (Cert.Kernel2Ideal.Ffn.argG m c) fun i => congrFun p1 i
      rw [Cert.Reference2Ideal.Ffn.res_eq m' c, e0, e1, e2, e3, e4, e5]
      exact (Cert.Layer.final_value m c w r hw hr).symm), (h c).2⟩) (Cert.Reference2Ideal.Value.run m' g')⟩

/-- The gated unit: the kernel and the reference return the same array. -/
theorem algebraic_inner (hf : Cert.Pre_finite3.Facts) :
    Cert.algebraic_Kernel3Ideal_Reference3Ideal_pre_finite3 (hKernel3Ideal := Cert.Kernel3Ideal.Gen.facts)
      (hReference3Ideal := Cert.Reference3Ideal.Gen.facts) (hPre_finite3 := hf) := fun m g m' g' hpre hargs =>
  ⟨fun c => (Cert.Kernel3Ideal.Gen.dats m 0 c).arrAt 6 Cert.Kernel3Ideal.cfg0.N,
    Cert.Kernel3Ideal.Value.run_blocks m g,
    (θ_run Cert.Reference3Ideal.defs _ _).mono (fun _ h c => ⟨(h c).1.trans (by
      obtain ⟨e0, e1, e2, e3, e4⟩ := hargs c
      obtain ⟨p0, p1⟩ := hpre c
      obtain ⟨w, hw⟩ := reals_of_finite (Cert.Kernel3Ideal.Ffn.argN m c) fun i => congrFun p0 i
      obtain ⟨r, hr⟩ := reals_of_finite (Cert.Kernel3Ideal.Ffn.argG m c) fun i => congrFun p1 i
      rw [e0, e1, e2, e3, e4]
      exact (Cert.Layer.inner_value m c w r hw hr).symm), (h c).2⟩) (Cert.Reference3Ideal.Value.run m' g')⟩

/-- The merge: the kernel and the reference return the same array. -/
theorem algebraic_merge :
    Cert.algebraic_Kernel4Ideal_Reference4Ideal (hKernel4Ideal := Cert.Kernel4Ideal.Gen.facts)
      (hReference4Ideal := Cert.Reference4Ideal.Gen.facts) := fun m g m' g' _ hargs =>
  ⟨fun c => (Cert.Kernel4Ideal.Gen.dats m 0 c).arrAt 8 Cert.Kernel4Ideal.cfg0.N,
    Cert.Kernel4Ideal.Value.run_blocks m g,
    (θ_run Cert.Reference4Ideal.defs _ _).mono (fun _ h c => ⟨(h c).1.trans (by
      obtain ⟨e0, e1, e2, e3, e4, e5, e6, e7⟩ := hargs c
      rw [e0, e1, e2, e3, e4, e5, e6, e7]
      exact (Cert.Layer.merge_value m c).symm), (h c).2⟩) (Cert.Reference4Ideal.Value.run m' g')⟩

open Cert.Kernel5Ideal.Inproj in
/-- The input projections: the kernel and the reference return the same output gate and the same gates of the two branches. -/
theorem algebraic_inproj (hf : Cert.Pre_finite5.Facts) :
    Cert.algebraic_Kernel5Ideal_Reference5Ideal_pre_finite5 (hKernel5Ideal := Cert.Kernel5Ideal.Gen.facts)
      (hReference5Ideal := Cert.Reference5Ideal.Gen.facts) (hPre_finite5 := hf) := fun m g m' g' hpre hargs =>
  ⟨fun c => Cert.Reference5Ideal.Inproj.z (argX m c) (argN m c) (argW m c), fun c => Cert.Reference5Ideal.Inproj.sa (argX m c) (argN m c) (argW m c),
    fun c => Cert.Reference5Ideal.Inproj.sb (argX m c) (argN m c) (argW m c),
    (θ_run Cert.Kernel5Ideal.defs _ _).mono (fun _ h c => ⟨(h c).1.1.trans (by
        obtain ⟨p0, p1⟩ := hpre c
        obtain ⟨n, hn⟩ := reals_of_finite (argN m c) fun i => congrFun p0 i
        obtain ⟨w, hw⟩ := reals_of_finite (gateW (argW m c)) fun i => congrFun p1 i
        exact (z_arr m c).trans (z_value m c n (fun e j => w (ix2 e j)) hn fun e j => (gateW_apply _ e j).symm.trans (congrFun hw (ix2 e j)))),
      (h c).1.2.1.trans ((sa_arr m c).trans (sa_value m c)), (h c).1.2.2.trans ((sb_arr m c).trans (sb_value m c)), (h c).2⟩) (run_blocks m g),
    (θ_run Cert.Reference5Ideal.defs _ _).mono (fun _ h c => by
      obtain ⟨e0, e1, e2, e3, e4, e5, e6, e7, e8, e9, e10⟩ := hargs c
      obtain ⟨hz, ha, hb, hk⟩ := h c
      rw [e0, e2, e3] at hz ha hb
      exact ⟨hz, ha, hb, hk⟩) (Cert.Reference5Ideal.Value.run m' g')⟩

/-- The references leave their arguments as they were; they have no semaphores. -/
theorem frame_reference : Cert.quiescent_ReferenceIdeal (hReferenceIdeal := Cert.ReferenceIdeal.Gen.facts) := fun m ρ _ =>
  (θ_run Cert.ReferenceIdeal.defs _ _).mono (fun r h => And.intro (fun c => (h c).2) (sem_eq_zero_of_no_sems (by decide) r.2))
    (Cert.ReferenceIdeal.Value.run (F := Ideal) m ρ)
theorem frame_reference2 : Cert.quiescent_Reference2Ideal (hReference2Ideal := Cert.Reference2Ideal.Gen.facts) := fun m ρ _ =>
  (θ_run Cert.Reference2Ideal.defs _ _).mono (fun r h => And.intro (fun c => (h c).2) (sem_eq_zero_of_no_sems (by decide) r.2))
    (Cert.Reference2Ideal.Value.run (F := Ideal) m ρ)
theorem frame_reference3 : Cert.quiescent_Reference3Ideal (hReference3Ideal := Cert.Reference3Ideal.Gen.facts) := fun m ρ _ =>
  (θ_run Cert.Reference3Ideal.defs _ _).mono (fun r h => And.intro (fun c => (h c).2) (sem_eq_zero_of_no_sems (by decide) r.2))
    (Cert.Reference3Ideal.Value.run (F := Ideal) m ρ)
theorem frame_reference4 : Cert.quiescent_Reference4Ideal (hReference4Ideal := Cert.Reference4Ideal.Gen.facts) := fun m ρ _ =>
  (θ_run Cert.Reference4Ideal.defs _ _).mono (fun r h => And.intro (fun c => (h c).2) (sem_eq_zero_of_no_sems (by decide) r.2))
    (Cert.Reference4Ideal.Value.run (F := Ideal) m ρ)
theorem frame_reference5 : Cert.quiescent_Reference5Ideal (hReference5Ideal := Cert.Reference5Ideal.Gen.facts) := fun m ρ _ =>
  (θ_run Cert.Reference5Ideal.defs _ _).mono (fun r h => And.intro (fun c => (h c).2.2.2) (sem_eq_zero_of_no_sems (by decide) r.2))
    (Cert.Reference5Ideal.Value.run (F := Ideal) m ρ)
set_option maxHeartbeats 4000000 in
/-- The input projections' program, the same text as its ideal form. -/
theorem frame5 : Cert.quiescent_Kernel5 (hKernel5 := Cert.Kernel5.Gen.facts) := fun m ρ _ => by
  rw [Cert.Same.defs5]
  exact Cert.Kernel5Ideal.Inproj.frame (F := Bits) m ρ

/-- All that is claimed. -/
theorem claim : Cert.Claim :=
  ⟨Cert.Kernel.Gen.facts, Cert.KernelIdeal.Gen.facts, Cert.ReferenceIdeal.Gen.facts,
    Cert.Same.facts2, Cert.Kernel2Ideal.Gen.facts, Cert.Reference2Ideal.Gen.facts,
    Cert.Same.facts3, Cert.Kernel3Ideal.Gen.facts, Cert.Reference3Ideal.Gen.facts,
    Cert.Same.facts4, Cert.Kernel4Ideal.Gen.facts, Cert.Reference4Ideal.Gen.facts,
    Cert.Kernel5.Gen.facts, Cert.Kernel5Ideal.Gen.facts, Cert.Reference5Ideal.Gen.facts,
    facts_finite, facts_finite2, facts_finite3, facts_finite5,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    Cert.Same.frame2,
    fun m ρ _ => Cert.Kernel2Ideal.Gen.frame m ρ,
    fun m ρ _ => Cert.Kernel2Ideal.Gen.frame m ρ,
    frame_reference2,
    fun m ρ _ => frame_reference2 m ρ trivial,
    Cert.Same.frame3,
    fun m ρ _ => Cert.Kernel3Ideal.Gen.frame m ρ,
    fun m ρ _ => Cert.Kernel3Ideal.Gen.frame m ρ,
    frame_reference3,
    fun m ρ _ => frame_reference3 m ρ trivial,
    Cert.Same.frame4,
    fun m ρ _ => Cert.Kernel4Ideal.Gen.frame m ρ,
    frame_reference4,
    frame5,
    fun m ρ _ => Cert.Kernel5Ideal.Inproj.frame m ρ,
    fun m ρ _ => Cert.Kernel5Ideal.Inproj.frame m ρ,
    frame_reference5,
    fun m ρ _ => frame_reference5 m ρ trivial,
    IdealRules.named_const.statement Cert.KernelIdeal.κ "mask" .f32 0xF149F2CA#32 ⊥ rfl,
    algebraic facts_finite,
    trivial,
    algebraic_final facts_finite2,
    trivial,
    algebraic_inner facts_finite3,
    trivial,
    algebraic_merge,
    trivial,
    algebraic_inproj facts_finite5⟩

end Cert.Proof

end
